-- ==== Defs.lean ====
def Pre_Kernel (m : (ℓ : Loc Cert.Kernel.nD Cert.Kernel.τ Cert.Kernel.sig) → Buf (Elt Bits) ℓ) : Prop :=
  True

def Pre_InMain (m : (ℓ : Loc Cert.InMain.nD Cert.InMain.τ Cert.InMain.sig) → Buf (Elt Bits) ℓ) : Prop :=
  True

def Pre_InMainIdeal (m : (ℓ : Loc Cert.InMainIdeal.nD Cert.InMainIdeal.τ Cert.InMainIdeal.sig) → Buf (Elt Ideal) ℓ) : Prop :=
  True

def Pre_InMainRefIdeal (m : (ℓ : Loc Cert.InMainRefIdeal.nD Cert.InMainRefIdeal.τ Cert.InMainRefIdeal.sig) → Buf (Elt Ideal) ℓ) : Prop :=
  True

def Pre_InSide (m : (ℓ : Loc Cert.InSide.nD Cert.InSide.τ Cert.InSide.sig) → Buf (Elt Bits) ℓ) : Prop :=
  True

def Pre_InSideIdeal (m : (ℓ : Loc Cert.InSideIdeal.nD Cert.InSideIdeal.τ Cert.InSideIdeal.sig) → Buf (Elt Ideal) ℓ) : Prop :=
  True

def Pre_InSideRefIdeal (m : (ℓ : Loc Cert.InSideRefIdeal.nD Cert.InSideRefIdeal.τ Cert.InSideRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_InMain [hInMain : Cert.InMain.Facts] : Prop :=
  ∀ (m : (ℓ : Loc Cert.InMain.nD Cert.InMain.τ Cert.InMain.sig) → Buf (Elt Bits) ℓ) (g : Dev Cert.InMain.nD → PrngReg), Pre_InMain m →
    θ_run (Cert.InMain.defs (F := Bits)) (onTc (τ := Cert.InMain.τ) (Cert.InMain.main (F := Bits))) ⟨m, fun _ => 0, g⟩ (fun r => (∀ c : Dev Cert.InMain.nD,
      r.2.mem ((c.tc : Thread Cert.InMain.nD Cert.InMain.τ).loc Cert.InMain.main_arg0) = m ((c.tc : Thread Cert.InMain.nD Cert.InMain.τ).loc Cert.InMain.main_arg0)
      ∧ r.2.mem ((c.tc : Thread Cert.InMain.nD Cert.InMain.τ).loc Cert.InMain.main_arg1) = m ((c.tc : Thread Cert.InMain.nD Cert.InMain.τ).loc Cert.InMain.main_arg1)
      ∧ r.2.mem ((c.tc : Thread Cert.InMain.nD Cert.InMain.τ).loc Cert.InMain.main_arg2) = m ((c.tc : Thread Cert.InMain.nD Cert.InMain.τ).loc Cert.InMain.main_arg2))
      ∧ r.2.sem = fun _ => 0)

def quiescent_InMainIdeal [hInMainIdeal : Cert.InMainIdeal.Facts] : Prop :=
  ∀ (m : (ℓ : Loc Cert.InMainIdeal.nD Cert.InMainIdeal.τ Cert.InMainIdeal.sig) → Buf (Elt Ideal) ℓ) (g : Dev Cert.InMainIdeal.nD → PrngReg), Pre_InMainIdeal m →
    θ_run (Cert.InMainIdeal.defs (F := Ideal)) (onTc (τ := Cert.InMainIdeal.τ) (Cert.InMainIdeal.main (F := Ideal))) ⟨m, fun _ => 0, g⟩ (fun r => (∀ c : Dev Cert.InMainIdeal.nD,
      r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
      ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1)
      ∧ r.2.mem ((c.tc : Thread Cert.InMainIdeal.nD Cert.InMainIdeal.τ).loc Cert.InMainIdeal.main_arg2) = m ((c.tc : Thread Cert.InMainIdeal.nD Cert.InMainIdeal.τ).loc Cert.InMainIdeal.main_arg2))
      ∧ r.2.sem = fun _ => 0)

def quiescent_InMainRefIdeal [hInMainRefIdeal : Cert.InMainRefIdeal.Facts] : Prop :=
  ∀ (m : (ℓ : Loc Cert.InMainRefIdeal.nD Cert.InMainRefIdeal.τ Cert.InMainRefIdeal.sig) → Buf (Elt Ideal) ℓ) (g : Dev Cert.InMainRefIdeal.nD → PrngReg), Pre_InMainRefIdeal m →
    θ_run (Cert.InMainRefIdeal.defs (F := Ideal)) (onTc (τ := Cert.InMainRefIdeal.τ) (Cert.InMainRefIdeal.main (F := Ideal))) ⟨m, fun _ => 0, g⟩ (fun r => (∀ c : Dev Cert.InMainRefIdeal.nD,
      r.2.mem ((c.tc : Thread Cert.InMainRefIdeal.nD Cert.InMainRefIdeal.τ).loc Cert.InMainRefIdeal.main_arg0) = m ((c.tc : Thread Cert.InMainRefIdeal.nD Cert.InMainRefIdeal.τ).loc Cert.InMainRefIdeal.main_arg0)
      ∧ r.2.mem ((c.tc : Thread Cert.InMainRefIdeal.nD Cert.InMainRefIdeal.τ).loc Cert.InMainRefIdeal.main_arg1) = m ((c.tc : Thread Cert.InMainRefIdeal.nD Cert.InMainRefIdeal.τ).loc Cert.InMainRefIdeal.main_arg1)
      ∧ r.2.mem ((c.tc : Thread Cert.InMainRefIdeal.nD Cert.InMainRefIdeal.τ).loc Cert.InMainRefIdeal.main_arg2) = m ((c.tc : Thread Cert.InMainRefIdeal.nD Cert.InMainRefIdeal.τ).loc Cert.InMainRefIdeal.main_arg2))
      ∧ r.2.sem = fun _ => 0)

def quiescent_InSide [hInSide : Cert.InSide.Facts] : Prop :=
  ∀ (m : (ℓ : Loc Cert.InSide.nD Cert.InSide.τ Cert.InSide.sig) → Buf (Elt Bits) ℓ) (g : Dev Cert.InSide.nD → PrngReg), Pre_InSide m →
    θ_run (Cert.InSide.defs (F := Bits)) (onTc (τ := Cert.InSide.τ) (Cert.InSide.main (F := Bits))) ⟨m, fun _ => 0, g⟩ (fun r => (∀ c : Dev Cert.InSide.nD,
      r.2.mem ((c.tc : Thread Cert.InSide.nD Cert.InSide.τ).loc Cert.InSide.main_arg0) = m ((c.tc : Thread Cert.InSide.nD Cert.InSide.τ).loc Cert.InSide.main_arg0)
      ∧ r.2.mem ((c.tc : Thread Cert.InSide.nD Cert.InSide.τ).loc Cert.InSide.main_arg1) = m ((c.tc : Thread Cert.InSide.nD Cert.InSide.τ).loc Cert.InSide.main_arg1)
      ∧ r.2.mem ((c.tc : Thread Cert.InSide.nD Cert.InSide.τ).loc Cert.InSide.main_arg2) = m ((c.tc : Thread Cert.InSide.nD Cert.InSide.τ).loc Cert.InSide.main_arg2))
      ∧ r.2.sem = fun _ => 0)

def quiescent_InSideIdeal [hInSideIdeal : Cert.InSideIdeal.Facts] : Prop :=
  ∀ (m : (ℓ : Loc Cert.InSideIdeal.nD Cert.InSideIdeal.τ Cert.InSideIdeal.sig) → Buf (Elt Ideal) ℓ) (g : Dev Cert.InSideIdeal.nD → PrngReg), Pre_InSideIdeal m →
    θ_run (Cert.InSideIdeal.defs (F := Ideal)) (onTc (τ := Cert.InSideIdeal.τ) (Cert.InSideIdeal.main (F := Ideal))) ⟨m, fun _ => 0, g⟩ (fun r => (∀ c : Dev Cert.InSideIdeal.nD,
      r.2.mem ((c.tc : Thread Cert.InSideIdeal.nD Cert.InSideIdeal.τ).loc Cert.InSideIdeal.main_arg0) = m ((c.tc : Thread Cert.InSideIdeal.nD Cert.InSideIdeal.τ).loc Cert.InSideIdeal.main_arg0)
      ∧ r.2.mem ((c.tc : Thread Cert.InSideIdeal.nD Cert.InSideIdeal.τ).loc Cert.InSideIdeal.main_arg1) = m ((c.tc : Thread Cert.InSideIdeal.nD Cert.InSideIdeal.τ).loc Cert.InSideIdeal.main_arg1)
      ∧ r.2.mem ((c.tc : Thread Cert.InSideIdeal.nD Cert.InSideIdeal.τ).loc Cert.InSideIdeal.main_arg2) = m ((c.tc : Thread Cert.InSideIdeal.nD Cert.InSideIdeal.τ).loc Cert.InSideIdeal.main_arg2))
      ∧ r.2.sem = fun _ => 0)

def quiescent_InSideRefIdeal [hInSideRefIdeal : Cert.InSideRefIdeal.Facts] : Prop :=
  ∀ (m : (ℓ : Loc Cert.InSideRefIdeal.nD Cert.InSideRefIdeal.τ Cert.InSideRefIdeal.sig) → Buf (Elt Ideal) ℓ) (g : Dev Cert.InSideRefIdeal.nD → PrngReg), Pre_InSideRefIdeal m →
    θ_run (Cert.InSideRefIdeal.defs (F := Ideal)) (onTc (τ := Cert.InSideRefIdeal.τ) (Cert.InSideRefIdeal.main (F := Ideal))) ⟨m, fun _ => 0, g⟩ (fun r => (∀ c : Dev Cert.InSideRefIdeal.nD,
      r.2.mem ((c.tc : Thread Cert.InSideRefIdeal.nD Cert.InSideRefIdeal.τ).loc Cert.InSideRefIdeal.main_arg0) = m ((c.tc : Thread Cert.InSideRefIdeal.nD Cert.InSideRefIdeal.τ).loc Cert.InSideRefIdeal.main_arg0)
      ∧ r.2.mem ((c.tc : Thread Cert.InSideRefIdeal.nD Cert.InSideRefIdeal.τ).loc Cert.InSideRefIdeal.main_arg1) = m ((c.tc : Thread Cert.InSideRefIdeal.nD Cert.InSideRefIdeal.τ).loc Cert.InSideRefIdeal.main_arg1)
      ∧ r.2.mem ((c.tc : Thread Cert.InSideRefIdeal.nD Cert.InSideRefIdeal.τ).loc Cert.InSideRefIdeal.main_arg2) = m ((c.tc : Thread Cert.InSideRefIdeal.nD Cert.InSideRefIdeal.τ).loc Cert.InSideRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6))
      ∧ r.2.sem = fun _ => 0)

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7))
      ∧ r.2.sem = fun _ => 0)

def preserves_InMain_InMainIdeal : Prop :=
  True

def algebraic_InMainIdeal_InMainRefIdeal [hInMainIdeal : Cert.InMainIdeal.Facts] [hInMainRefIdeal : Cert.InMainRefIdeal.Facts] : Prop :=
  ∀ (m : (ℓ : Loc Cert.InMainIdeal.nD Cert.InMainIdeal.τ Cert.InMainIdeal.sig) → Buf (Elt Ideal) ℓ) (g : Dev Cert.InMainIdeal.nD → PrngReg)
    (m' : (ℓ : Loc Cert.InMainRefIdeal.nD Cert.InMainRefIdeal.τ Cert.InMainRefIdeal.sig) → Buf (Elt Ideal) ℓ) (g' : Dev Cert.InMainRefIdeal.nD → PrngReg), Pre_InMainIdeal m →
    (∀ c : Dev Cert.InMainIdeal.nD,
      m' ((c.tc : Thread Cert.InMainRefIdeal.nD Cert.InMainRefIdeal.τ).loc Cert.InMainRefIdeal.main_arg0) = m ((c.tc : Thread Cert.InMainIdeal.nD Cert.InMainIdeal.τ).loc Cert.InMainIdeal.main_arg0)
      ∧ m' ((c.tc : Thread Cert.InMainRefIdeal.nD Cert.InMainRefIdeal.τ).loc Cert.InMainRefIdeal.main_arg1) = m ((c.tc : Thread Cert.InMainIdeal.nD Cert.InMainIdeal.τ).loc Cert.InMainIdeal.main_arg1)
      ∧ m' ((c.tc : Thread Cert.InMainRefIdeal.nD Cert.InMainRefIdeal.τ).loc Cert.InMainRefIdeal.main_arg2) = m ((c.tc : Thread Cert.InMainIdeal.nD Cert.InMainIdeal.τ).loc Cert.InMainIdeal.main_arg2)) →
    ∃ (v0 : (c : Dev Cert.InMainIdeal.nD) → Buf (Elt Ideal) ((c.tc : Thread Cert.InMainIdeal.nD Cert.InMainIdeal.τ).loc Cert.InMainIdeal.main_v20)),
      θ_run (Cert.InMainIdeal.defs (F := Ideal)) (onTc (τ := Cert.InMainIdeal.τ) (Cert.InMainIdeal.main (F := Ideal))) ⟨m, fun _ => 0, g⟩ (fun r => ∀ c : Dev Cert.InMainIdeal.nD,
          r.2.mem ((c.tc : Thread Cert.InMainIdeal.nD Cert.InMainIdeal.τ).loc Cert.InMainIdeal.main_v20) = v0 c
          ∧ r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
          ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1)
          ∧ r.2.mem ((c.tc : Thread Cert.InMainIdeal.nD Cert.InMainIdeal.τ).loc Cert.InMainIdeal.main_arg2) = m ((c.tc : Thread Cert.InMainIdeal.nD Cert.InMainIdeal.τ).loc Cert.InMainIdeal.main_arg2))
      ∧ θ_run (Cert.InMainRefIdeal.defs (F := Ideal)) (onTc (τ := Cert.InMainRefIdeal.τ) (Cert.InMainRefIdeal.main (F := Ideal))) ⟨m', fun _ => 0, g'⟩ (fun r => ∀ c : Dev Cert.InMainRefIdeal.nD,
          r.2.mem ((c.tc : Thread Cert.InMainRefIdeal.nD Cert.InMainRefIdeal.τ).loc Cert.InMainRefIdeal.main_v18) = v0 c
          ∧ r.2.mem ((c.tc : Thread Cert.InMainRefIdeal.nD Cert.InMainRefIdeal.τ).loc Cert.InMainRefIdeal.main_arg0) = m' ((c.tc : Thread Cert.InMainRefIdeal.nD Cert.InMainRefIdeal.τ).loc Cert.InMainRefIdeal.main_arg0)
          ∧ r.2.mem ((c.tc : Thread Cert.InMainRefIdeal.nD Cert.InMainRefIdeal.τ).loc Cert.InMainRefIdeal.main_arg1) = m' ((c.tc : Thread Cert.InMainRefIdeal.nD Cert.InMainRefIdeal.τ).loc Cert.InMainRefIdeal.main_arg1)
          ∧ r.2.mem ((c.tc : Thread Cert.InMainRefIdeal.nD Cert.InMainRefIdeal.τ).loc Cert.InMainRefIdeal.main_arg2) = m' ((c.tc : Thread Cert.InMainRefIdeal.nD Cert.InMainRefIdeal.τ).loc Cert.InMainRefIdeal.main_arg2))

def preserves_InSide_InSideIdeal : Prop :=
  True

def algebraic_InSideIdeal_InSideRefIdeal [hInSideIdeal : Cert.InSideIdeal.Facts] [hInSideRefIdeal : Cert.InSideRefIdeal.Facts] : Prop :=
  ∀ (m : (ℓ : Loc Cert.InSideIdeal.nD Cert.InSideIdeal.τ Cert.InSideIdeal.sig) → Buf (Elt Ideal) ℓ) (g : Dev Cert.InSideIdeal.nD → PrngReg)
    (m' : (ℓ : Loc Cert.InSideRefIdeal.nD Cert.InSideRefIdeal.τ Cert.InSideRefIdeal.sig) → Buf (Elt Ideal) ℓ) (g' : Dev Cert.InSideRefIdeal.nD → PrngReg), Pre_InSideIdeal m →
    (∀ c : Dev Cert.InSideIdeal.nD,
      m' ((c.tc : Thread Cert.InSideRefIdeal.nD Cert.InSideRefIdeal.τ).loc Cert.InSideRefIdeal.main_arg0) = m ((c.tc : Thread Cert.InSideIdeal.nD Cert.InSideIdeal.τ).loc Cert.InSideIdeal.main_arg0)
      ∧ m' ((c.tc : Thread Cert.InSideRefIdeal.nD Cert.InSideRefIdeal.τ).loc Cert.InSideRefIdeal.main_arg1) = m ((c.tc : Thread Cert.InSideIdeal.nD Cert.InSideIdeal.τ).loc Cert.InSideIdeal.main_arg1)
      ∧ m' ((c.tc : Thread Cert.InSideRefIdeal.nD Cert.InSideRefIdeal.τ).loc Cert.InSideRefIdeal.main_arg2) = m ((c.tc : Thread Cert.InSideIdeal.nD Cert.InSideIdeal.τ).loc Cert.InSideIdeal.main_arg2)) →
    ∃ (v0 : (c : Dev Cert.InSideIdeal.nD) → Buf (Elt Ideal) ((c.tc : Thread Cert.InSideIdeal.nD Cert.InSideIdeal.τ).loc Cert.InSideIdeal.main_v20)),
      θ_run (Cert.InSideIdeal.defs (F := Ideal)) (onTc (τ := Cert.InSideIdeal.τ) (Cert.InSideIdeal.main (F := Ideal))) ⟨m, fun _ => 0, g⟩ (fun r => ∀ c : Dev Cert.InSideIdeal.nD,
          r.2.mem ((c.tc : Thread Cert.InSideIdeal.nD Cert.InSideIdeal.τ).loc Cert.InSideIdeal.main_v20) = v0 c
          ∧ r.2.mem ((c.tc : Thread Cert.InSideIdeal.nD Cert.InSideIdeal.τ).loc Cert.InSideIdeal.main_arg0) = m ((c.tc : Thread Cert.InSideIdeal.nD Cert.InSideIdeal.τ).loc Cert.InSideIdeal.main_arg0)
          ∧ r.2.mem ((c.tc : Thread Cert.InSideIdeal.nD Cert.InSideIdeal.τ).loc Cert.InSideIdeal.main_arg1) = m ((c.tc : Thread Cert.InSideIdeal.nD Cert.InSideIdeal.τ).loc Cert.InSideIdeal.main_arg1)
          ∧ r.2.mem ((c.tc : Thread Cert.InSideIdeal.nD Cert.InSideIdeal.τ).loc Cert.InSideIdeal.main_arg2) = m ((c.tc : Thread Cert.InSideIdeal.nD Cert.InSideIdeal.τ).loc Cert.InSideIdeal.main_arg2))
      ∧ θ_run (Cert.InSideRefIdeal.defs (F := Ideal)) (onTc (τ := Cert.InSideRefIdeal.τ) (Cert.InSideRefIdeal.main (F := Ideal))) ⟨m', fun _ => 0, g'⟩ (fun r => ∀ c : Dev Cert.InSideRefIdeal.nD,
          r.2.mem ((c.tc : Thread Cert.InSideRefIdeal.nD Cert.InSideRefIdeal.τ).loc Cert.InSideRefIdeal.main_v18) = v0 c
          ∧ r.2.mem ((c.tc : Thread Cert.InSideRefIdeal.nD Cert.InSideRefIdeal.τ).loc Cert.InSideRefIdeal.main_arg0) = m' ((c.tc : Thread Cert.InSideRefIdeal.nD Cert.InSideRefIdeal.τ).loc Cert.InSideRefIdeal.main_arg0)
          ∧ r.2.mem ((c.tc : Thread Cert.InSideRefIdeal.nD Cert.InSideRefIdeal.τ).loc Cert.InSideRefIdeal.main_arg1) = m' ((c.tc : Thread Cert.InSideRefIdeal.nD Cert.InSideRefIdeal.τ).loc Cert.InSideRefIdeal.main_arg1)
          ∧ r.2.mem ((c.tc : Thread Cert.InSideRefIdeal.nD Cert.InSideRefIdeal.τ).loc Cert.InSideRefIdeal.main_arg2) = m' ((c.tc : Thread Cert.InSideRefIdeal.nD Cert.InSideRefIdeal.τ).loc Cert.InSideRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v14) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v46) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v2)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v19_0)) (v1 : (c : Dev Cert.RopeIdeal.nD) → Buf (Elt Ideal) ((c.tc : Thread Cert.RopeIdeal.nD Cert.RopeIdeal.τ).loc Cert.RopeIdeal.main_v19_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v19_0) = v0 c
          ∧ r.2.mem ((c.tc : Thread Cert.RopeIdeal.nD Cert.RopeIdeal.τ).loc Cert.RopeIdeal.main_v19_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v19) = v0 c
          ∧ r.2.mem ((c.tc : Thread Cert.RopeRefIdeal.nD Cert.RopeRefIdeal.τ).loc Cert.RopeRefIdeal.main_v22) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v6_0)) (v1 : (c : Dev Cert.PrepIdeal.nD) → Buf (Elt Ideal) ((c.tc : Thread Cert.PrepIdeal.nD Cert.PrepIdeal.τ).loc Cert.PrepIdeal.main_v6_1)) (v2 : (c : Dev Cert.PrepIdeal.nD) → Buf (Elt Ideal) ((c.tc : Thread Cert.PrepIdeal.nD Cert.PrepIdeal.τ).loc Cert.PrepIdeal.main_v6_2)) (v3 : (c : Dev Cert.PrepIdeal.nD) → Buf (Elt Ideal) ((c.tc : Thread Cert.PrepIdeal.nD Cert.PrepIdeal.τ).loc Cert.PrepIdeal.main_v6_3)) (v4 : (c : Dev Cert.PrepIdeal.nD) → Buf (Elt Ideal) ((c.tc : Thread Cert.PrepIdeal.nD Cert.PrepIdeal.τ).loc Cert.PrepIdeal.main_v6_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v6_0) = v0 c
          ∧ r.2.mem ((c.tc : Thread Cert.PrepIdeal.nD Cert.PrepIdeal.τ).loc Cert.PrepIdeal.main_v6_1) = v1 c
          ∧ r.2.mem ((c.tc : Thread Cert.PrepIdeal.nD Cert.PrepIdeal.τ).loc Cert.PrepIdeal.main_v6_2) = v2 c
          ∧ r.2.mem ((c.tc : Thread Cert.PrepIdeal.nD Cert.PrepIdeal.τ).loc Cert.PrepIdeal.main_v6_3) = v3 c
          ∧ r.2.mem ((c.tc : Thread Cert.PrepIdeal.nD Cert.PrepIdeal.τ).loc Cert.PrepIdeal.main_v6_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v93) = v0 c
          ∧ r.2.mem ((c.tc : Thread Cert.PrepRefIdeal.nD Cert.PrepRefIdeal.τ).loc Cert.PrepRefIdeal.main_v94) = v1 c
          ∧ r.2.mem ((c.tc : Thread Cert.PrepRefIdeal.nD Cert.PrepRefIdeal.τ).loc Cert.PrepRefIdeal.main_v96) = v2 c
          ∧ r.2.mem ((c.tc : Thread Cert.PrepRefIdeal.nD Cert.PrepRefIdeal.τ).loc Cert.PrepRefIdeal.main_v97) = v3 c
          ∧ r.2.mem ((c.tc : Thread Cert.PrepRefIdeal.nD Cert.PrepRefIdeal.τ).loc Cert.PrepRefIdeal.main_v91) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def preserves_Mlstm_MlstmIdeal : Prop :=
  True

def preserves_Rglru_RglruIdeal : Prop :=
  True

def Claim : Prop :=
  ∃ (hKernel : Cert.Kernel.Facts) (hInMain : Cert.InMain.Facts) (hInMainIdeal : Cert.InMainIdeal.Facts) (hInMainRefIdeal : Cert.InMainRefIdeal.Facts) (hInSide : Cert.InSide.Facts) (hInSideIdeal : Cert.InSideIdeal.Facts) (hInSideRefIdeal : Cert.InSideRefIdeal.Facts) (hMerge : Cert.Merge.Facts) (hMergeIdeal : Cert.MergeIdeal.Facts) (hMergeRefIdeal : Cert.MergeRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFinalNorm : Cert.FinalNorm.Facts) (hFinalNormIdeal : Cert.FinalNormIdeal.Facts) (hFinalNormRefIdeal : Cert.FinalNormRefIdeal.Facts) (hRope : Cert.Rope.Facts) (hRopeIdeal : Cert.RopeIdeal.Facts) (hRopeRefIdeal : Cert.RopeRefIdeal.Facts) (hPrep : Cert.Prep.Facts) (hPrepIdeal : Cert.PrepIdeal.Facts) (hPrepRefIdeal : Cert.PrepRefIdeal.Facts) (hMlstm : Cert.Mlstm.Facts) (hMlstmIdeal : Cert.MlstmIdeal.Facts) (hRglru : Cert.Rglru.Facts) (hRglruIdeal : Cert.RglruIdeal.Facts),
    quiescent_Kernel (hKernel := hKernel)
    ∧ quiescent_InMain (hInMain := hInMain)
    ∧ quiescent_InMainIdeal (hInMainIdeal := hInMainIdeal)
    ∧ quiescent_InMainRefIdeal (hInMainRefIdeal := hInMainRefIdeal)
    ∧ quiescent_InSide (hInSide := hInSide)
    ∧ quiescent_InSideIdeal (hInSideIdeal := hInSideIdeal)
    ∧ quiescent_InSideRefIdeal (hInSideRefIdeal := hInSideRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_Rope (hRope := hRope)
    ∧ quiescent_RopeIdeal (hRopeIdeal := hRopeIdeal)
    ∧ quiescent_RopeRefIdeal (hRopeRefIdeal := hRopeRefIdeal)
    ∧ quiescent_Prep (hPrep := hPrep)
    ∧ quiescent_PrepIdeal (hPrepIdeal := hPrepIdeal)
    ∧ quiescent_PrepRefIdeal (hPrepRefIdeal := hPrepRefIdeal)
    ∧ quiescent_Mlstm (hMlstm := hMlstm)
    ∧ quiescent_MlstmIdeal (hMlstmIdeal := hMlstmIdeal)
    ∧ quiescent_Rglru (hRglru := hRglru)
    ∧ quiescent_RglruIdeal (hRglruIdeal := hRglruIdeal)
    ∧ preserves_InMain_InMainIdeal
    ∧ algebraic_InMainIdeal_InMainRefIdeal (hInMainIdeal := hInMainIdeal) (hInMainRefIdeal := hInMainRefIdeal)
    ∧ preserves_InSide_InSideIdeal
    ∧ algebraic_InSideIdeal_InSideRefIdeal (hInSideIdeal := hInSideIdeal) (hInSideRefIdeal := hInSideRefIdeal)
    ∧ preserves_Merge_MergeIdeal
    ∧ algebraic_MergeIdeal_MergeRefIdeal (hMergeIdeal := hMergeIdeal) (hMergeRefIdeal := hMergeRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_Rope_RopeIdeal
    ∧ algebraic_RopeIdeal_RopeRefIdeal (hRopeIdeal := hRopeIdeal) (hRopeRefIdeal := hRopeRefIdeal)
    ∧ preserves_Prep_PrepIdeal
    ∧ algebraic_PrepIdeal_PrepRefIdeal (hPrepIdeal := hPrepIdeal) (hPrepRefIdeal := hPrepRefIdeal)
    ∧ preserves_Mlstm_MlstmIdeal
    ∧ preserves_Rglru_RglruIdeal
-- ==== Kernel.lean ====
abbrev S32768x512 : Shape := ⟨2, ![32768, 512]⟩
abbrev S32768x128 : Shape := ⟨2, ![32768, 128]⟩
abbrev S32768x256 : Shape := ⟨2, ![32768, 256]⟩
abbrev S128x640x256 : Shape := ⟨3, ![128, 640, 256]⟩
abbrev S256x512 : Shape := ⟨2, ![256, 512]⟩
abbrev S256x128 : Shape := ⟨2, ![256, 128]⟩
abbrev S8192x256 : Shape := ⟨2, ![8192, 256]⟩
abbrev S8192x512 : Shape := ⟨2, ![8192, 512]⟩
abbrev S32x640x256 : Shape := ⟨3, ![32, 640, 256]⟩
abbrev S32x256x256 : Shape := ⟨3, ![32, 256, 256]⟩
abbrev S32x32x8x256 : Shape := ⟨4, ![32, 32, 8, 256]⟩
abbrev S32x8x256 : Shape := ⟨3, ![32, 8, 256]⟩
abbrev S16x256x128 : Shape := ⟨3, ![16, 256, 128]⟩
abbrev S8x256x256 : Shape := ⟨3, ![8, 256, 256]⟩
abbrev S512x256 : Shape := ⟨2, ![512, 256]⟩
abbrev S8x1x256 : Shape := ⟨3, ![8, 1, 256]⟩
abbrev S1x256x128 : Shape := ⟨3, ![1, 256, 128]⟩
abbrev S128x256 : Shape := ⟨2, ![128, 256]⟩
abbrev S256x256 : Shape := ⟨2, ![256, 256]⟩
abbrev S8x256 : Shape := ⟨2, ![8, 256]⟩
abbrev S1x256 : Shape := ⟨2, ![1, 256]⟩
abbrev S1x256x256 : Shape := ⟨3, ![1, 256, 256]⟩
abbrev S1x8x128 : Shape := ⟨3, ![1, 8, 128]⟩
abbrev S8x128 : Shape := ⟨2, ![8, 128]⟩
abbrev S1x1x8x128 : Shape := ⟨4, ![1, 1, 8, 128]⟩
abbrev S1x8x256 : Shape := ⟨3, ![1, 8, 256]⟩
abbrev S1x32x8x256 : Shape := ⟨4, ![1, 32, 8, 256]⟩
abbrev S1x1x8x256 : Shape := ⟨4, ![1, 1, 8, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1x80x256 : Shape := ⟨3, ![1, 80, 256]⟩
abbrev S80x256 : Shape := ⟨2, ![80, 256]⟩
abbrev S64x256 : Shape := ⟨2, ![64, 256]⟩

abbrev nBuf : Space → Nat
  | .hbm => 7
  | .vmem => 19
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x128, .f32⟩
  | .hbm, ⟨3, _⟩ => ⟨S32768x256, .bf16⟩
  | .hbm, ⟨4, _⟩ => ⟨S32768x512, .bf16⟩
  | .hbm, ⟨5, _⟩ => ⟨S128x640x256, .bf16⟩
  | .hbm, ⟨6, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x128, .f32⟩
  | .local _ .vmem, ⟨5, _⟩ => ⟨S256x128, .f32⟩
  | .local _ .vmem, ⟨6, _⟩ => ⟨S8192x256, .bf16⟩
  | .local _ .vmem, ⟨7, _⟩ => ⟨S8192x512, .bf16⟩
  | .local _ .vmem, ⟨8, _⟩ => ⟨S32x640x256, .bf16⟩
  | .local _ .vmem, ⟨9, _⟩ => ⟨S256x512, .bf16⟩
  | .local _ .vmem, ⟨10, _⟩ => ⟨S256x512, .bf16⟩
  | .local _ .vmem, ⟨11, _⟩ => ⟨S32x256x256, .i32⟩
  | .local _ .vmem, ⟨12, _⟩ => ⟨S32x32x8x256, .i32⟩
  | .local _ .vmem, ⟨13, _⟩ => ⟨S32x8x256, .i32⟩
  | .local _ .vmem, ⟨14, _⟩ => ⟨S16x256x128, .bf16⟩
  | .local _ .vmem, ⟨15, _⟩ => ⟨S8x256x256, .f32⟩
  | .local _ .vmem, ⟨16, _⟩ => ⟨S512x256, .f32⟩
  | .local _ .vmem, ⟨17, _⟩ => ⟨S8x1x256, .f32⟩
  | .local _ .vmem, ⟨18, _⟩ => ⟨S8x1x256, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨2, ![4, 32], ![false, false]⟩

@[reducible] def k0_t1_loop (i : grid0.Coords) : Scf.Loop 32 :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_98 : BitVec 32 := 1#32
  ⟨c0_i32_96, v144, c1_i32_98⟩
def k0_mult1 (i : grid0.Coords) (k0_t1 : Fin (k0_t1_loop i).trips) : BitVec 32 :=
  let c0_i32_96 : BitVec 32 := 0#32
  let c1_i32_98 : BitVec 32 := 1#32
  let arg17 : BitVec 32 := Scf.iv c0_i32_96 c1_i32_98 k0_t1
  let c256_i32_213 : BitVec 32 := 256#32
  let v321 : BitVec 32 := Scalar.muli arg17 c256_i32_213
  v321
def k0_off1 (i : grid0.Coords) (k0_t1 : Fin (k0_t1_loop i).trips) : Fin 2 → Nat :=
  let c0_i32_96 : BitVec 32 := 0#32
  let c1_i32_98 : BitVec 32 := 1#32
  let arg17 : BitVec 32 := Scf.iv c0_i32_96 c1_i32_98 k0_t1
  let c256_i32_213 : BitVec 32 := 256#32
  let v321 : BitVec 32 := Scalar.muli arg17 c256_i32_213
  let v322 : BitVec 32 := v321
  let v323 : Index := Scalar.indexCast v322
  let c0_214 : Index := 0#32
  ![v323.toNat, 0]
def k0_off2 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v440 : Index := Scalar.indexCast arg17
  let c0_284 : Index := 0#32
  let c0_285 : Index := 0#32
  ![v440.toNat, 0, 0]
def k0_off3 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v444 : Index := Scalar.indexCast arg17
  let c0_286 : Index := 0#32
  let c0_287 : Index := 0#32
  ![v444.toNat, 0, 0]
def k0_off4 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v449 : Index := Scalar.indexCast arg17
  let c8_289 : Index := 8#32
  let c0_290 : Index := 0#32
  ![v449.toNat, 8, 0]
def k0_off5 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v454 : Index := Scalar.indexCast arg17
  let c16 : Index := 16#32
  let c0_292 : Index := 0#32
  ![v454.toNat, 16, 0]
def k0_off6 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v459 : Index := Scalar.indexCast arg17
  let c24 : Index := 24#32
  let c0_294 : Index := 0#32
  ![v459.toNat, 24, 0]
def k0_off7 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v464 : Index := Scalar.indexCast arg17
  let c32 : Index := 32#32
  let c0_296 : Index := 0#32
  ![v464.toNat, 32, 0]
def k0_off8 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v469 : Index := Scalar.indexCast arg17
  let c40 : Index := 40#32
  let c0_298 : Index := 0#32
  ![v469.toNat, 40, 0]
def k0_off9 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v474 : Index := Scalar.indexCast arg17
  let c48 : Index := 48#32
  let c0_300 : Index := 0#32
  ![v474.toNat, 48, 0]
def k0_off10 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v479 : Index := Scalar.indexCast arg17
  let c56 : Index := 56#32
  let c0_302 : Index := 0#32
  ![v479.toNat, 56, 0]
def k0_off11 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v484 : Index := Scalar.indexCast arg17
  let c64_304 : Index := 64#32
  let c0_305 : Index := 0#32
  ![v484.toNat, 64, 0]
def k0_off12 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v489 : Index := Scalar.indexCast arg17
  let c72 : Index := 72#32
  let c0_307 : Index := 0#32
  ![v489.toNat, 72, 0]
def k0_off13 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v494 : Index := Scalar.indexCast arg17
  let c80 : Index := 80#32
  let c0_309 : Index := 0#32
  ![v494.toNat, 80, 0]
def k0_off14 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v499 : Index := Scalar.indexCast arg17
  let c88 : Index := 88#32
  let c0_311 : Index := 0#32
  ![v499.toNat, 88, 0]
def k0_off15 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v504 : Index := Scalar.indexCast arg17
  let c96 : Index := 96#32
  let c0_313 : Index := 0#32
  ![v504.toNat, 96, 0]
def k0_off16 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v509 : Index := Scalar.indexCast arg17
  let c104 : Index := 104#32
  let c0_315 : Index := 0#32
  ![v509.toNat, 104, 0]
def k0_off17 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v514 : Index := Scalar.indexCast arg17
  let c112 : Index := 112#32
  let c0_317 : Index := 0#32
  ![v514.toNat, 112, 0]
def k0_off18 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v519 : Index := Scalar.indexCast arg17
  let c120 : Index := 120#32
  let c0_319 : Index := 0#32
  ![v519.toNat, 120, 0]
def k0_off19 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v524 : Index := Scalar.indexCast arg17
  let c128_321 : Index := 128#32
  let c0_322 : Index := 0#32
  ![v524.toNat, 128, 0]
def k0_off20 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v529 : Index := Scalar.indexCast arg17
  let c136 : Index := 136#32
  let c0_324 : Index := 0#32
  ![v529.toNat, 136, 0]
def k0_off21 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v534 : Index := Scalar.indexCast arg17
  let c144 : Index := 144#32
  let c0_326 : Index := 0#32
  ![v534.toNat, 144, 0]
def k0_off22 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v539 : Index := Scalar.indexCast arg17
  let c152 : Index := 152#32
  let c0_328 : Index := 0#32
  ![v539.toNat, 152, 0]
def k0_off23 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v544 : Index := Scalar.indexCast arg17
  let c160 : Index := 160#32
  let c0_330 : Index := 0#32
  ![v544.toNat, 160, 0]
def k0_off24 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v549 : Index := Scalar.indexCast arg17
  let c168 : Index := 168#32
  let c0_332 : Index := 0#32
  ![v549.toNat, 168, 0]
def k0_off25 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v554 : Index := Scalar.indexCast arg17
  let c176 : Index := 176#32
  let c0_334 : Index := 0#32
  ![v554.toNat, 176, 0]
def k0_off26 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v559 : Index := Scalar.indexCast arg17
  let c184 : Index := 184#32
  let c0_336 : Index := 0#32
  ![v559.toNat, 184, 0]
def k0_off27 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v564 : Index := Scalar.indexCast arg17
  let c192_338 : Index := 192#32
  let c0_339 : Index := 0#32
  ![v564.toNat, 192, 0]
def k0_off28 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v569 : Index := Scalar.indexCast arg17
  let c200 : Index := 200#32
  let c0_341 : Index := 0#32
  ![v569.toNat, 200, 0]
def k0_off29 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v574 : Index := Scalar.indexCast arg17
  let c208 : Index := 208#32
  let c0_343 : Index := 0#32
  ![v574.toNat, 208, 0]
def k0_off30 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v579 : Index := Scalar.indexCast arg17
  let c216 : Index := 216#32
  let c0_345 : Index := 0#32
  ![v579.toNat, 216, 0]
def k0_off31 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v584 : Index := Scalar.indexCast arg17
  let c224 : Index := 224#32
  let c0_347 : Index := 0#32
  ![v584.toNat, 224, 0]
def k0_off32 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v589 : Index := Scalar.indexCast arg17
  let c232 : Index := 232#32
  let c0_349 : Index := 0#32
  ![v589.toNat, 232, 0]
def k0_off33 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v594 : Index := Scalar.indexCast arg17
  let c240 : Index := 240#32
  let c0_351 : Index := 0#32
  ![v594.toNat, 240, 0]
def k0_off34 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v599 : Index := Scalar.indexCast arg17
  let c248 : Index := 248#32
  let c0_353 : Index := 0#32
  ![v599.toNat, 248, 0]
def k0_off35 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1324 : Index := Scalar.indexCast arg17
  let c0_587 : Index := 0#32
  let c0_588 : Index := 0#32
  let c0_589 : Index := 0#32
  ![v1324.toNat, 0, 0, 0]
def k0_off36 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1328 : Index := Scalar.indexCast arg17
  let c1_590 : Index := 1#32
  let c0_591 : Index := 0#32
  let c0_592 : Index := 0#32
  ![v1328.toNat, 1, 0, 0]
def k0_off37 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1332 : Index := Scalar.indexCast arg17
  let c2_593 : Index := 2#32
  let c0_594 : Index := 0#32
  let c0_595 : Index := 0#32
  ![v1332.toNat, 2, 0, 0]
def k0_off38 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1336 : Index := Scalar.indexCast arg17
  let c3_596 : Index := 3#32
  let c0_597 : Index := 0#32
  let c0_598 : Index := 0#32
  ![v1336.toNat, 3, 0, 0]
def k0_off39 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1340 : Index := Scalar.indexCast arg17
  let c4_599 : Index := 4#32
  let c0_600 : Index := 0#32
  let c0_601 : Index := 0#32
  ![v1340.toNat, 4, 0, 0]
def k0_off40 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1344 : Index := Scalar.indexCast arg17
  let c5_602 : Index := 5#32
  let c0_603 : Index := 0#32
  let c0_604 : Index := 0#32
  ![v1344.toNat, 5, 0, 0]
def k0_off41 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1348 : Index := Scalar.indexCast arg17
  let c6_605 : Index := 6#32
  let c0_606 : Index := 0#32
  let c0_607 : Index := 0#32
  ![v1348.toNat, 6, 0, 0]
def k0_off42 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1352 : Index := Scalar.indexCast arg17
  let c7_608 : Index := 7#32
  let c0_609 : Index := 0#32
  let c0_610 : Index := 0#32
  ![v1352.toNat, 7, 0, 0]
def k0_off43 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1356 : Index := Scalar.indexCast arg17
  let c8_611 : Index := 8#32
  let c0_612 : Index := 0#32
  let c0_613 : Index := 0#32
  ![v1356.toNat, 8, 0, 0]
def k0_off44 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1360 : Index := Scalar.indexCast arg17
  let c9_614 : Index := 9#32
  let c0_615 : Index := 0#32
  let c0_616 : Index := 0#32
  ![v1360.toNat, 9, 0, 0]
def k0_off45 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1364 : Index := Scalar.indexCast arg17
  let c10_617 : Index := 10#32
  let c0_618 : Index := 0#32
  let c0_619 : Index := 0#32
  ![v1364.toNat, 10, 0, 0]
def k0_off46 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1368 : Index := Scalar.indexCast arg17
  let c11_620 : Index := 11#32
  let c0_621 : Index := 0#32
  let c0_622 : Index := 0#32
  ![v1368.toNat, 11, 0, 0]
def k0_off47 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1372 : Index := Scalar.indexCast arg17
  let c12_623 : Index := 12#32
  let c0_624 : Index := 0#32
  let c0_625 : Index := 0#32
  ![v1372.toNat, 12, 0, 0]
def k0_off48 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1376 : Index := Scalar.indexCast arg17
  let c13_626 : Index := 13#32
  let c0_627 : Index := 0#32
  let c0_628 : Index := 0#32
  ![v1376.toNat, 13, 0, 0]
def k0_off49 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1380 : Index := Scalar.indexCast arg17
  let c14_629 : Index := 14#32
  let c0_630 : Index := 0#32
  let c0_631 : Index := 0#32
  ![v1380.toNat, 14, 0, 0]
def k0_off50 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1384 : Index := Scalar.indexCast arg17
  let c15_632 : Index := 15#32
  let c0_633 : Index := 0#32
  let c0_634 : Index := 0#32
  ![v1384.toNat, 15, 0, 0]
def k0_off51 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1388 : Index := Scalar.indexCast arg17
  let c16_635 : Index := 16#32
  let c0_636 : Index := 0#32
  let c0_637 : Index := 0#32
  ![v1388.toNat, 16, 0, 0]
def k0_off52 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1392 : Index := Scalar.indexCast arg17
  let c17 : Index := 17#32
  let c0_638 : Index := 0#32
  let c0_639 : Index := 0#32
  ![v1392.toNat, 17, 0, 0]
def k0_off53 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1396 : Index := Scalar.indexCast arg17
  let c18 : Index := 18#32
  let c0_640 : Index := 0#32
  let c0_641 : Index := 0#32
  ![v1396.toNat, 18, 0, 0]
def k0_off54 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1400 : Index := Scalar.indexCast arg17
  let c19 : Index := 19#32
  let c0_642 : Index := 0#32
  let c0_643 : Index := 0#32
  ![v1400.toNat, 19, 0, 0]
def k0_off55 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1404 : Index := Scalar.indexCast arg17
  let c20 : Index := 20#32
  let c0_644 : Index := 0#32
  let c0_645 : Index := 0#32
  ![v1404.toNat, 20, 0, 0]
def k0_off56 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1408 : Index := Scalar.indexCast arg17
  let c21 : Index := 21#32
  let c0_646 : Index := 0#32
  let c0_647 : Index := 0#32
  ![v1408.toNat, 21, 0, 0]
def k0_off57 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1412 : Index := Scalar.indexCast arg17
  let c22 : Index := 22#32
  let c0_648 : Index := 0#32
  let c0_649 : Index := 0#32
  ![v1412.toNat, 22, 0, 0]
def k0_off58 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1416 : Index := Scalar.indexCast arg17
  let c23 : Index := 23#32
  let c0_650 : Index := 0#32
  let c0_651 : Index := 0#32
  ![v1416.toNat, 23, 0, 0]
def k0_off59 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1420 : Index := Scalar.indexCast arg17
  let c24_652 : Index := 24#32
  let c0_653 : Index := 0#32
  let c0_654 : Index := 0#32
  ![v1420.toNat, 24, 0, 0]
def k0_off60 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1424 : Index := Scalar.indexCast arg17
  let c25 : Index := 25#32
  let c0_655 : Index := 0#32
  let c0_656 : Index := 0#32
  ![v1424.toNat, 25, 0, 0]
def k0_off61 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1428 : Index := Scalar.indexCast arg17
  let c26 : Index := 26#32
  let c0_657 : Index := 0#32
  let c0_658 : Index := 0#32
  ![v1428.toNat, 26, 0, 0]
def k0_off62 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1432 : Index := Scalar.indexCast arg17
  let c27 : Index := 27#32
  let c0_659 : Index := 0#32
  let c0_660 : Index := 0#32
  ![v1432.toNat, 27, 0, 0]
def k0_off63 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1436 : Index := Scalar.indexCast arg17
  let c28 : Index := 28#32
  let c0_661 : Index := 0#32
  let c0_662 : Index := 0#32
  ![v1436.toNat, 28, 0, 0]
def k0_off64 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1440 : Index := Scalar.indexCast arg17
  let c29 : Index := 29#32
  let c0_663 : Index := 0#32
  let c0_664 : Index := 0#32
  ![v1440.toNat, 29, 0, 0]
def k0_off65 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1444 : Index := Scalar.indexCast arg17
  let c30 : Index := 30#32
  let c0_665 : Index := 0#32
  let c0_666 : Index := 0#32
  ![v1444.toNat, 30, 0, 0]
def k0_off66 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v1448 : Index := Scalar.indexCast arg17
  let c31 : Index := 31#32
  let c0_667 : Index := 0#32
  let c0_668 : Index := 0#32
  ![v1448.toNat, 31, 0, 0]
def k0_off67 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1452 : Index := Scalar.indexCast arg17
  let c0_669 : Index := 0#32
  let c128_670 : Index := 128#32
  ![v1452.toNat, 0, 128]
def k0_off68 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1457 : Index := Scalar.indexCast arg17
  let c8_672 : Index := 8#32
  let c128_673 : Index := 128#32
  ![v1457.toNat, 8, 128]
def k0_off69 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1462 : Index := Scalar.indexCast arg17
  let c16_675 : Index := 16#32
  let c128_676 : Index := 128#32
  ![v1462.toNat, 16, 128]
def k0_off70 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1467 : Index := Scalar.indexCast arg17
  let c24_678 : Index := 24#32
  let c128_679 : Index := 128#32
  ![v1467.toNat, 24, 128]
def k0_off71 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1472 : Index := Scalar.indexCast arg17
  let c32_681 : Index := 32#32
  let c128_682 : Index := 128#32
  ![v1472.toNat, 32, 128]
def k0_off72 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1477 : Index := Scalar.indexCast arg17
  let c40_684 : Index := 40#32
  let c128_685 : Index := 128#32
  ![v1477.toNat, 40, 128]
def k0_off73 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1482 : Index := Scalar.indexCast arg17
  let c48_687 : Index := 48#32
  let c128_688 : Index := 128#32
  ![v1482.toNat, 48, 128]
def k0_off74 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1487 : Index := Scalar.indexCast arg17
  let c56_690 : Index := 56#32
  let c128_691 : Index := 128#32
  ![v1487.toNat, 56, 128]
def k0_off75 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1492 : Index := Scalar.indexCast arg17
  let c64_693 : Index := 64#32
  let c128_694 : Index := 128#32
  ![v1492.toNat, 64, 128]
def k0_off76 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1497 : Index := Scalar.indexCast arg17
  let c72_696 : Index := 72#32
  let c128_697 : Index := 128#32
  ![v1497.toNat, 72, 128]
def k0_off77 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1502 : Index := Scalar.indexCast arg17
  let c80_699 : Index := 80#32
  let c128_700 : Index := 128#32
  ![v1502.toNat, 80, 128]
def k0_off78 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1507 : Index := Scalar.indexCast arg17
  let c88_702 : Index := 88#32
  let c128_703 : Index := 128#32
  ![v1507.toNat, 88, 128]
def k0_off79 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1512 : Index := Scalar.indexCast arg17
  let c96_705 : Index := 96#32
  let c128_706 : Index := 128#32
  ![v1512.toNat, 96, 128]
def k0_off80 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1517 : Index := Scalar.indexCast arg17
  let c104_708 : Index := 104#32
  let c128_709 : Index := 128#32
  ![v1517.toNat, 104, 128]
def k0_off81 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1522 : Index := Scalar.indexCast arg17
  let c112_711 : Index := 112#32
  let c128_712 : Index := 128#32
  ![v1522.toNat, 112, 128]
def k0_off82 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1527 : Index := Scalar.indexCast arg17
  let c120_714 : Index := 120#32
  let c128_715 : Index := 128#32
  ![v1527.toNat, 120, 128]
def k0_off83 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1532 : Index := Scalar.indexCast arg17
  let c128_717 : Index := 128#32
  let c128_718 : Index := 128#32
  ![v1532.toNat, 128, 128]
def k0_off84 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1537 : Index := Scalar.indexCast arg17
  let c136_720 : Index := 136#32
  let c128_721 : Index := 128#32
  ![v1537.toNat, 136, 128]
def k0_off85 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1542 : Index := Scalar.indexCast arg17
  let c144_723 : Index := 144#32
  let c128_724 : Index := 128#32
  ![v1542.toNat, 144, 128]
def k0_off86 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1547 : Index := Scalar.indexCast arg17
  let c152_726 : Index := 152#32
  let c128_727 : Index := 128#32
  ![v1547.toNat, 152, 128]
def k0_off87 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1552 : Index := Scalar.indexCast arg17
  let c160_729 : Index := 160#32
  let c128_730 : Index := 128#32
  ![v1552.toNat, 160, 128]
def k0_off88 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1557 : Index := Scalar.indexCast arg17
  let c168_732 : Index := 168#32
  let c128_733 : Index := 128#32
  ![v1557.toNat, 168, 128]
def k0_off89 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1562 : Index := Scalar.indexCast arg17
  let c176_735 : Index := 176#32
  let c128_736 : Index := 128#32
  ![v1562.toNat, 176, 128]
def k0_off90 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1567 : Index := Scalar.indexCast arg17
  let c184_738 : Index := 184#32
  let c128_739 : Index := 128#32
  ![v1567.toNat, 184, 128]
def k0_off91 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1572 : Index := Scalar.indexCast arg17
  let c192_741 : Index := 192#32
  let c128_742 : Index := 128#32
  ![v1572.toNat, 192, 128]
def k0_off92 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1577 : Index := Scalar.indexCast arg17
  let c200_744 : Index := 200#32
  let c128_745 : Index := 128#32
  ![v1577.toNat, 200, 128]
def k0_off93 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1582 : Index := Scalar.indexCast arg17
  let c208_747 : Index := 208#32
  let c128_748 : Index := 128#32
  ![v1582.toNat, 208, 128]
def k0_off94 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1587 : Index := Scalar.indexCast arg17
  let c216_750 : Index := 216#32
  let c128_751 : Index := 128#32
  ![v1587.toNat, 216, 128]
def k0_off95 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1592 : Index := Scalar.indexCast arg17
  let c224_753 : Index := 224#32
  let c128_754 : Index := 128#32
  ![v1592.toNat, 224, 128]
def k0_off96 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1597 : Index := Scalar.indexCast arg17
  let c232_756 : Index := 232#32
  let c128_757 : Index := 128#32
  ![v1597.toNat, 232, 128]
def k0_off97 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1602 : Index := Scalar.indexCast arg17
  let c240_759 : Index := 240#32
  let c128_760 : Index := 128#32
  ![v1602.toNat, 240, 128]
def k0_off98 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v1607 : Index := Scalar.indexCast arg17
  let c248_762 : Index := 248#32
  let c128_763 : Index := 128#32
  ![v1607.toNat, 248, 128]
def k0_off99 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2332 : Index := Scalar.indexCast arg17
  let c0_1005 : Index := 0#32
  let c0_1006 : Index := 0#32
  let c128_1007 : Index := 128#32
  ![v2332.toNat, 0, 0, 128]
def k0_off100 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2336 : Index := Scalar.indexCast arg17
  let c1_1008 : Index := 1#32
  let c0_1009 : Index := 0#32
  let c128_1010 : Index := 128#32
  ![v2336.toNat, 1, 0, 128]
def k0_off101 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2340 : Index := Scalar.indexCast arg17
  let c2_1011 : Index := 2#32
  let c0_1012 : Index := 0#32
  let c128_1013 : Index := 128#32
  ![v2340.toNat, 2, 0, 128]
def k0_off102 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2344 : Index := Scalar.indexCast arg17
  let c3_1014 : Index := 3#32
  let c0_1015 : Index := 0#32
  let c128_1016 : Index := 128#32
  ![v2344.toNat, 3, 0, 128]
def k0_off103 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2348 : Index := Scalar.indexCast arg17
  let c4_1017 : Index := 4#32
  let c0_1018 : Index := 0#32
  let c128_1019 : Index := 128#32
  ![v2348.toNat, 4, 0, 128]
def k0_off104 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2352 : Index := Scalar.indexCast arg17
  let c5_1020 : Index := 5#32
  let c0_1021 : Index := 0#32
  let c128_1022 : Index := 128#32
  ![v2352.toNat, 5, 0, 128]
def k0_off105 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2356 : Index := Scalar.indexCast arg17
  let c6_1023 : Index := 6#32
  let c0_1024 : Index := 0#32
  let c128_1025 : Index := 128#32
  ![v2356.toNat, 6, 0, 128]
def k0_off106 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2360 : Index := Scalar.indexCast arg17
  let c7_1026 : Index := 7#32
  let c0_1027 : Index := 0#32
  let c128_1028 : Index := 128#32
  ![v2360.toNat, 7, 0, 128]
def k0_off107 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2364 : Index := Scalar.indexCast arg17
  let c8_1029 : Index := 8#32
  let c0_1030 : Index := 0#32
  let c128_1031 : Index := 128#32
  ![v2364.toNat, 8, 0, 128]
def k0_off108 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2368 : Index := Scalar.indexCast arg17
  let c9_1032 : Index := 9#32
  let c0_1033 : Index := 0#32
  let c128_1034 : Index := 128#32
  ![v2368.toNat, 9, 0, 128]
def k0_off109 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2372 : Index := Scalar.indexCast arg17
  let c10_1035 : Index := 10#32
  let c0_1036 : Index := 0#32
  let c128_1037 : Index := 128#32
  ![v2372.toNat, 10, 0, 128]
def k0_off110 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2376 : Index := Scalar.indexCast arg17
  let c11_1038 : Index := 11#32
  let c0_1039 : Index := 0#32
  let c128_1040 : Index := 128#32
  ![v2376.toNat, 11, 0, 128]
def k0_off111 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2380 : Index := Scalar.indexCast arg17
  let c12_1041 : Index := 12#32
  let c0_1042 : Index := 0#32
  let c128_1043 : Index := 128#32
  ![v2380.toNat, 12, 0, 128]
def k0_off112 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2384 : Index := Scalar.indexCast arg17
  let c13_1044 : Index := 13#32
  let c0_1045 : Index := 0#32
  let c128_1046 : Index := 128#32
  ![v2384.toNat, 13, 0, 128]
def k0_off113 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2388 : Index := Scalar.indexCast arg17
  let c14_1047 : Index := 14#32
  let c0_1048 : Index := 0#32
  let c128_1049 : Index := 128#32
  ![v2388.toNat, 14, 0, 128]
def k0_off114 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2392 : Index := Scalar.indexCast arg17
  let c15_1050 : Index := 15#32
  let c0_1051 : Index := 0#32
  let c128_1052 : Index := 128#32
  ![v2392.toNat, 15, 0, 128]
def k0_off115 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2396 : Index := Scalar.indexCast arg17
  let c16_1053 : Index := 16#32
  let c0_1054 : Index := 0#32
  let c128_1055 : Index := 128#32
  ![v2396.toNat, 16, 0, 128]
def k0_off116 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2400 : Index := Scalar.indexCast arg17
  let c17_1056 : Index := 17#32
  let c0_1057 : Index := 0#32
  let c128_1058 : Index := 128#32
  ![v2400.toNat, 17, 0, 128]
def k0_off117 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2404 : Index := Scalar.indexCast arg17
  let c18_1059 : Index := 18#32
  let c0_1060 : Index := 0#32
  let c128_1061 : Index := 128#32
  ![v2404.toNat, 18, 0, 128]
def k0_off118 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2408 : Index := Scalar.indexCast arg17
  let c19_1062 : Index := 19#32
  let c0_1063 : Index := 0#32
  let c128_1064 : Index := 128#32
  ![v2408.toNat, 19, 0, 128]
def k0_off119 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2412 : Index := Scalar.indexCast arg17
  let c20_1065 : Index := 20#32
  let c0_1066 : Index := 0#32
  let c128_1067 : Index := 128#32
  ![v2412.toNat, 20, 0, 128]
def k0_off120 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2416 : Index := Scalar.indexCast arg17
  let c21_1068 : Index := 21#32
  let c0_1069 : Index := 0#32
  let c128_1070 : Index := 128#32
  ![v2416.toNat, 21, 0, 128]
def k0_off121 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2420 : Index := Scalar.indexCast arg17
  let c22_1071 : Index := 22#32
  let c0_1072 : Index := 0#32
  let c128_1073 : Index := 128#32
  ![v2420.toNat, 22, 0, 128]
def k0_off122 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2424 : Index := Scalar.indexCast arg17
  let c23_1074 : Index := 23#32
  let c0_1075 : Index := 0#32
  let c128_1076 : Index := 128#32
  ![v2424.toNat, 23, 0, 128]
def k0_off123 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2428 : Index := Scalar.indexCast arg17
  let c24_1077 : Index := 24#32
  let c0_1078 : Index := 0#32
  let c128_1079 : Index := 128#32
  ![v2428.toNat, 24, 0, 128]
def k0_off124 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2432 : Index := Scalar.indexCast arg17
  let c25_1080 : Index := 25#32
  let c0_1081 : Index := 0#32
  let c128_1082 : Index := 128#32
  ![v2432.toNat, 25, 0, 128]
def k0_off125 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2436 : Index := Scalar.indexCast arg17
  let c26_1083 : Index := 26#32
  let c0_1084 : Index := 0#32
  let c128_1085 : Index := 128#32
  ![v2436.toNat, 26, 0, 128]
def k0_off126 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2440 : Index := Scalar.indexCast arg17
  let c27_1086 : Index := 27#32
  let c0_1087 : Index := 0#32
  let c128_1088 : Index := 128#32
  ![v2440.toNat, 27, 0, 128]
def k0_off127 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2444 : Index := Scalar.indexCast arg17
  let c28_1089 : Index := 28#32
  let c0_1090 : Index := 0#32
  let c128_1091 : Index := 128#32
  ![v2444.toNat, 28, 0, 128]
def k0_off128 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2448 : Index := Scalar.indexCast arg17
  let c29_1092 : Index := 29#32
  let c0_1093 : Index := 0#32
  let c128_1094 : Index := 128#32
  ![v2448.toNat, 29, 0, 128]
def k0_off129 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2452 : Index := Scalar.indexCast arg17
  let c30_1095 : Index := 30#32
  let c0_1096 : Index := 0#32
  let c128_1097 : Index := 128#32
  ![v2452.toNat, 30, 0, 128]
def k0_off130 (i : grid0.Coords) (k0_t1 : Fin (k0_t1_loop i).trips) : Fin 4 → Nat :=
  let c0_i32_96 : BitVec 32 := 0#32
  let c1_i32_98 : BitVec 32 := 1#32
  let arg17 : BitVec 32 := Scf.iv c0_i32_96 c1_i32_98 k0_t1
  let v2456 : Index := Scalar.indexCast arg17
  let c31_1098 : Index := 31#32
  let c0_1099 : Index := 0#32
  let c128_1100 : Index := 128#32
  ![v2456.toNat, 31, 0, 128]
def k0_off131 (i : grid0.Coords) (k0_t1 : Fin (k0_t1_loop i).trips) : Fin 3 → Nat :=
  let c0_i32_96 : BitVec 32 := 0#32
  let c1_i32_98 : BitVec 32 := 1#32
  let arg17 : BitVec 32 := Scf.iv c0_i32_96 c1_i32_98 k0_t1
  let v2461 : Index := Scalar.indexCast arg17
  let c0_1102 : Index := 0#32
  let c0_1103 : Index := 0#32
  ![v2461.toNat, 0, 0]
@[reducible] def k0_t2_loop (i : grid0.Coords) : Scf.Loop 32 :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let v141 : BitVec 32 := Scalar.addi c0_i32_96 v140
  let c1_i32_99 : BitVec 32 := 1#32
  ⟨v144, v141, c1_i32_99⟩
def k0_mult2 (i : grid0.Coords) (k0_t2 : Fin (k0_t2_loop i).trips) : BitVec 32 :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let c256_i32_213 : BitVec 32 := 256#32
  let v321 : BitVec 32 := Scalar.muli arg17 c256_i32_213
  v321
def k0_off132 (i : grid0.Coords) (k0_t2 : Fin (k0_t2_loop i).trips) : Fin 2 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let c256_i32_213 : BitVec 32 := 256#32
  let v321 : BitVec 32 := Scalar.muli arg17 c256_i32_213
  let v322 : BitVec 32 := v321
  let v323 : Index := Scalar.indexCast v322
  let c0_214 : Index := 0#32
  ![v323.toNat, 0]
def k0_off133 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v440 : Index := Scalar.indexCast arg17
  let c0_284 : Index := 0#32
  let c0_285 : Index := 0#32
  ![v440.toNat, 0, 0]
def k0_off134 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v444 : Index := Scalar.indexCast arg17
  let c0_286 : Index := 0#32
  let c0_287 : Index := 0#32
  ![v444.toNat, 0, 0]
def k0_off135 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v449 : Index := Scalar.indexCast arg17
  let c8_289 : Index := 8#32
  let c0_290 : Index := 0#32
  ![v449.toNat, 8, 0]
def k0_off136 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v454 : Index := Scalar.indexCast arg17
  let c16 : Index := 16#32
  let c0_292 : Index := 0#32
  ![v454.toNat, 16, 0]
def k0_off137 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v459 : Index := Scalar.indexCast arg17
  let c24 : Index := 24#32
  let c0_294 : Index := 0#32
  ![v459.toNat, 24, 0]
def k0_off138 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v464 : Index := Scalar.indexCast arg17
  let c32 : Index := 32#32
  let c0_296 : Index := 0#32
  ![v464.toNat, 32, 0]
def k0_off139 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v469 : Index := Scalar.indexCast arg17
  let c40 : Index := 40#32
  let c0_298 : Index := 0#32
  ![v469.toNat, 40, 0]
def k0_off140 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v474 : Index := Scalar.indexCast arg17
  let c48 : Index := 48#32
  let c0_300 : Index := 0#32
  ![v474.toNat, 48, 0]
def k0_off141 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v479 : Index := Scalar.indexCast arg17
  let c56 : Index := 56#32
  let c0_302 : Index := 0#32
  ![v479.toNat, 56, 0]
def k0_off142 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v484 : Index := Scalar.indexCast arg17
  let c64_304 : Index := 64#32
  let c0_305 : Index := 0#32
  ![v484.toNat, 64, 0]
def k0_off143 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v489 : Index := Scalar.indexCast arg17
  let c72 : Index := 72#32
  let c0_307 : Index := 0#32
  ![v489.toNat, 72, 0]
def k0_off144 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v494 : Index := Scalar.indexCast arg17
  let c80 : Index := 80#32
  let c0_309 : Index := 0#32
  ![v494.toNat, 80, 0]
def k0_off145 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v499 : Index := Scalar.indexCast arg17
  let c88 : Index := 88#32
  let c0_311 : Index := 0#32
  ![v499.toNat, 88, 0]
def k0_off146 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v504 : Index := Scalar.indexCast arg17
  let c96 : Index := 96#32
  let c0_313 : Index := 0#32
  ![v504.toNat, 96, 0]
def k0_off147 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v509 : Index := Scalar.indexCast arg17
  let c104 : Index := 104#32
  let c0_315 : Index := 0#32
  ![v509.toNat, 104, 0]
def k0_off148 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v514 : Index := Scalar.indexCast arg17
  let c112 : Index := 112#32
  let c0_317 : Index := 0#32
  ![v514.toNat, 112, 0]
def k0_off149 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v519 : Index := Scalar.indexCast arg17
  let c120 : Index := 120#32
  let c0_319 : Index := 0#32
  ![v519.toNat, 120, 0]
def k0_off150 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v524 : Index := Scalar.indexCast arg17
  let c128_321 : Index := 128#32
  let c0_322 : Index := 0#32
  ![v524.toNat, 128, 0]
def k0_off151 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v529 : Index := Scalar.indexCast arg17
  let c136 : Index := 136#32
  let c0_324 : Index := 0#32
  ![v529.toNat, 136, 0]
def k0_off152 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v534 : Index := Scalar.indexCast arg17
  let c144 : Index := 144#32
  let c0_326 : Index := 0#32
  ![v534.toNat, 144, 0]
def k0_off153 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v539 : Index := Scalar.indexCast arg17
  let c152 : Index := 152#32
  let c0_328 : Index := 0#32
  ![v539.toNat, 152, 0]
def k0_off154 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v544 : Index := Scalar.indexCast arg17
  let c160 : Index := 160#32
  let c0_330 : Index := 0#32
  ![v544.toNat, 160, 0]
def k0_off155 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v549 : Index := Scalar.indexCast arg17
  let c168 : Index := 168#32
  let c0_332 : Index := 0#32
  ![v549.toNat, 168, 0]
def k0_off156 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v554 : Index := Scalar.indexCast arg17
  let c176 : Index := 176#32
  let c0_334 : Index := 0#32
  ![v554.toNat, 176, 0]
def k0_off157 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v559 : Index := Scalar.indexCast arg17
  let c184 : Index := 184#32
  let c0_336 : Index := 0#32
  ![v559.toNat, 184, 0]
def k0_off158 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v564 : Index := Scalar.indexCast arg17
  let c192_338 : Index := 192#32
  let c0_339 : Index := 0#32
  ![v564.toNat, 192, 0]
def k0_off159 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v569 : Index := Scalar.indexCast arg17
  let c200 : Index := 200#32
  let c0_341 : Index := 0#32
  ![v569.toNat, 200, 0]
def k0_off160 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v574 : Index := Scalar.indexCast arg17
  let c208 : Index := 208#32
  let c0_343 : Index := 0#32
  ![v574.toNat, 208, 0]
def k0_off161 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v579 : Index := Scalar.indexCast arg17
  let c216 : Index := 216#32
  let c0_345 : Index := 0#32
  ![v579.toNat, 216, 0]
def k0_off162 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v584 : Index := Scalar.indexCast arg17
  let c224 : Index := 224#32
  let c0_347 : Index := 0#32
  ![v584.toNat, 224, 0]
def k0_off163 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v589 : Index := Scalar.indexCast arg17
  let c232 : Index := 232#32
  let c0_349 : Index := 0#32
  ![v589.toNat, 232, 0]
def k0_off164 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v594 : Index := Scalar.indexCast arg17
  let c240 : Index := 240#32
  let c0_351 : Index := 0#32
  ![v594.toNat, 240, 0]
def k0_off165 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v599 : Index := Scalar.indexCast arg17
  let c248 : Index := 248#32
  let c0_353 : Index := 0#32
  ![v599.toNat, 248, 0]
def k0_off166 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1324 : Index := Scalar.indexCast arg17
  let c0_587 : Index := 0#32
  let c0_588 : Index := 0#32
  let c0_589 : Index := 0#32
  ![v1324.toNat, 0, 0, 0]
def k0_off167 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1328 : Index := Scalar.indexCast arg17
  let c1_590 : Index := 1#32
  let c0_591 : Index := 0#32
  let c0_592 : Index := 0#32
  ![v1328.toNat, 1, 0, 0]
def k0_off168 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1332 : Index := Scalar.indexCast arg17
  let c2_593 : Index := 2#32
  let c0_594 : Index := 0#32
  let c0_595 : Index := 0#32
  ![v1332.toNat, 2, 0, 0]
def k0_off169 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1336 : Index := Scalar.indexCast arg17
  let c3_596 : Index := 3#32
  let c0_597 : Index := 0#32
  let c0_598 : Index := 0#32
  ![v1336.toNat, 3, 0, 0]
def k0_off170 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1340 : Index := Scalar.indexCast arg17
  let c4_599 : Index := 4#32
  let c0_600 : Index := 0#32
  let c0_601 : Index := 0#32
  ![v1340.toNat, 4, 0, 0]
def k0_off171 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1344 : Index := Scalar.indexCast arg17
  let c5_602 : Index := 5#32
  let c0_603 : Index := 0#32
  let c0_604 : Index := 0#32
  ![v1344.toNat, 5, 0, 0]
def k0_off172 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1348 : Index := Scalar.indexCast arg17
  let c6_605 : Index := 6#32
  let c0_606 : Index := 0#32
  let c0_607 : Index := 0#32
  ![v1348.toNat, 6, 0, 0]
def k0_off173 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1352 : Index := Scalar.indexCast arg17
  let c7_608 : Index := 7#32
  let c0_609 : Index := 0#32
  let c0_610 : Index := 0#32
  ![v1352.toNat, 7, 0, 0]
def k0_off174 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1356 : Index := Scalar.indexCast arg17
  let c8_611 : Index := 8#32
  let c0_612 : Index := 0#32
  let c0_613 : Index := 0#32
  ![v1356.toNat, 8, 0, 0]
def k0_off175 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1360 : Index := Scalar.indexCast arg17
  let c9_614 : Index := 9#32
  let c0_615 : Index := 0#32
  let c0_616 : Index := 0#32
  ![v1360.toNat, 9, 0, 0]
def k0_off176 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1364 : Index := Scalar.indexCast arg17
  let c10_617 : Index := 10#32
  let c0_618 : Index := 0#32
  let c0_619 : Index := 0#32
  ![v1364.toNat, 10, 0, 0]
def k0_off177 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1368 : Index := Scalar.indexCast arg17
  let c11_620 : Index := 11#32
  let c0_621 : Index := 0#32
  let c0_622 : Index := 0#32
  ![v1368.toNat, 11, 0, 0]
def k0_off178 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1372 : Index := Scalar.indexCast arg17
  let c12_623 : Index := 12#32
  let c0_624 : Index := 0#32
  let c0_625 : Index := 0#32
  ![v1372.toNat, 12, 0, 0]
def k0_off179 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1376 : Index := Scalar.indexCast arg17
  let c13_626 : Index := 13#32
  let c0_627 : Index := 0#32
  let c0_628 : Index := 0#32
  ![v1376.toNat, 13, 0, 0]
def k0_off180 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1380 : Index := Scalar.indexCast arg17
  let c14_629 : Index := 14#32
  let c0_630 : Index := 0#32
  let c0_631 : Index := 0#32
  ![v1380.toNat, 14, 0, 0]
def k0_off181 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1384 : Index := Scalar.indexCast arg17
  let c15_632 : Index := 15#32
  let c0_633 : Index := 0#32
  let c0_634 : Index := 0#32
  ![v1384.toNat, 15, 0, 0]
def k0_off182 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1388 : Index := Scalar.indexCast arg17
  let c16_635 : Index := 16#32
  let c0_636 : Index := 0#32
  let c0_637 : Index := 0#32
  ![v1388.toNat, 16, 0, 0]
def k0_off183 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1392 : Index := Scalar.indexCast arg17
  let c17 : Index := 17#32
  let c0_638 : Index := 0#32
  let c0_639 : Index := 0#32
  ![v1392.toNat, 17, 0, 0]
def k0_off184 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1396 : Index := Scalar.indexCast arg17
  let c18 : Index := 18#32
  let c0_640 : Index := 0#32
  let c0_641 : Index := 0#32
  ![v1396.toNat, 18, 0, 0]
def k0_off185 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1400 : Index := Scalar.indexCast arg17
  let c19 : Index := 19#32
  let c0_642 : Index := 0#32
  let c0_643 : Index := 0#32
  ![v1400.toNat, 19, 0, 0]
def k0_off186 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1404 : Index := Scalar.indexCast arg17
  let c20 : Index := 20#32
  let c0_644 : Index := 0#32
  let c0_645 : Index := 0#32
  ![v1404.toNat, 20, 0, 0]
def k0_off187 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1408 : Index := Scalar.indexCast arg17
  let c21 : Index := 21#32
  let c0_646 : Index := 0#32
  let c0_647 : Index := 0#32
  ![v1408.toNat, 21, 0, 0]
def k0_off188 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1412 : Index := Scalar.indexCast arg17
  let c22 : Index := 22#32
  let c0_648 : Index := 0#32
  let c0_649 : Index := 0#32
  ![v1412.toNat, 22, 0, 0]
def k0_off189 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1416 : Index := Scalar.indexCast arg17
  let c23 : Index := 23#32
  let c0_650 : Index := 0#32
  let c0_651 : Index := 0#32
  ![v1416.toNat, 23, 0, 0]
def k0_off190 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1420 : Index := Scalar.indexCast arg17
  let c24_652 : Index := 24#32
  let c0_653 : Index := 0#32
  let c0_654 : Index := 0#32
  ![v1420.toNat, 24, 0, 0]
def k0_off191 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1424 : Index := Scalar.indexCast arg17
  let c25 : Index := 25#32
  let c0_655 : Index := 0#32
  let c0_656 : Index := 0#32
  ![v1424.toNat, 25, 0, 0]
def k0_off192 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1428 : Index := Scalar.indexCast arg17
  let c26 : Index := 26#32
  let c0_657 : Index := 0#32
  let c0_658 : Index := 0#32
  ![v1428.toNat, 26, 0, 0]
def k0_off193 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1432 : Index := Scalar.indexCast arg17
  let c27 : Index := 27#32
  let c0_659 : Index := 0#32
  let c0_660 : Index := 0#32
  ![v1432.toNat, 27, 0, 0]
def k0_off194 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1436 : Index := Scalar.indexCast arg17
  let c28 : Index := 28#32
  let c0_661 : Index := 0#32
  let c0_662 : Index := 0#32
  ![v1436.toNat, 28, 0, 0]
def k0_off195 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1440 : Index := Scalar.indexCast arg17
  let c29 : Index := 29#32
  let c0_663 : Index := 0#32
  let c0_664 : Index := 0#32
  ![v1440.toNat, 29, 0, 0]
def k0_off196 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1444 : Index := Scalar.indexCast arg17
  let c30 : Index := 30#32
  let c0_665 : Index := 0#32
  let c0_666 : Index := 0#32
  ![v1444.toNat, 30, 0, 0]
def k0_off197 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1448 : Index := Scalar.indexCast arg17
  let c31 : Index := 31#32
  let c0_667 : Index := 0#32
  let c0_668 : Index := 0#32
  ![v1448.toNat, 31, 0, 0]
def k0_off198 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1452 : Index := Scalar.indexCast arg17
  let c0_669 : Index := 0#32
  let c128_670 : Index := 128#32
  ![v1452.toNat, 0, 128]
def k0_off199 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1457 : Index := Scalar.indexCast arg17
  let c8_672 : Index := 8#32
  let c128_673 : Index := 128#32
  ![v1457.toNat, 8, 128]
def k0_off200 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1462 : Index := Scalar.indexCast arg17
  let c16_675 : Index := 16#32
  let c128_676 : Index := 128#32
  ![v1462.toNat, 16, 128]
def k0_off201 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1467 : Index := Scalar.indexCast arg17
  let c24_678 : Index := 24#32
  let c128_679 : Index := 128#32
  ![v1467.toNat, 24, 128]
def k0_off202 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1472 : Index := Scalar.indexCast arg17
  let c32_681 : Index := 32#32
  let c128_682 : Index := 128#32
  ![v1472.toNat, 32, 128]
def k0_off203 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1477 : Index := Scalar.indexCast arg17
  let c40_684 : Index := 40#32
  let c128_685 : Index := 128#32
  ![v1477.toNat, 40, 128]
def k0_off204 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1482 : Index := Scalar.indexCast arg17
  let c48_687 : Index := 48#32
  let c128_688 : Index := 128#32
  ![v1482.toNat, 48, 128]
def k0_off205 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1487 : Index := Scalar.indexCast arg17
  let c56_690 : Index := 56#32
  let c128_691 : Index := 128#32
  ![v1487.toNat, 56, 128]
def k0_off206 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1492 : Index := Scalar.indexCast arg17
  let c64_693 : Index := 64#32
  let c128_694 : Index := 128#32
  ![v1492.toNat, 64, 128]
def k0_off207 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1497 : Index := Scalar.indexCast arg17
  let c72_696 : Index := 72#32
  let c128_697 : Index := 128#32
  ![v1497.toNat, 72, 128]
def k0_off208 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1502 : Index := Scalar.indexCast arg17
  let c80_699 : Index := 80#32
  let c128_700 : Index := 128#32
  ![v1502.toNat, 80, 128]
def k0_off209 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1507 : Index := Scalar.indexCast arg17
  let c88_702 : Index := 88#32
  let c128_703 : Index := 128#32
  ![v1507.toNat, 88, 128]
def k0_off210 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1512 : Index := Scalar.indexCast arg17
  let c96_705 : Index := 96#32
  let c128_706 : Index := 128#32
  ![v1512.toNat, 96, 128]
def k0_off211 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1517 : Index := Scalar.indexCast arg17
  let c104_708 : Index := 104#32
  let c128_709 : Index := 128#32
  ![v1517.toNat, 104, 128]
def k0_off212 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1522 : Index := Scalar.indexCast arg17
  let c112_711 : Index := 112#32
  let c128_712 : Index := 128#32
  ![v1522.toNat, 112, 128]
def k0_off213 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1527 : Index := Scalar.indexCast arg17
  let c120_714 : Index := 120#32
  let c128_715 : Index := 128#32
  ![v1527.toNat, 120, 128]
def k0_off214 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1532 : Index := Scalar.indexCast arg17
  let c128_717 : Index := 128#32
  let c128_718 : Index := 128#32
  ![v1532.toNat, 128, 128]
def k0_off215 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1537 : Index := Scalar.indexCast arg17
  let c136_720 : Index := 136#32
  let c128_721 : Index := 128#32
  ![v1537.toNat, 136, 128]
def k0_off216 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1542 : Index := Scalar.indexCast arg17
  let c144_723 : Index := 144#32
  let c128_724 : Index := 128#32
  ![v1542.toNat, 144, 128]
def k0_off217 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1547 : Index := Scalar.indexCast arg17
  let c152_726 : Index := 152#32
  let c128_727 : Index := 128#32
  ![v1547.toNat, 152, 128]
def k0_off218 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1552 : Index := Scalar.indexCast arg17
  let c160_729 : Index := 160#32
  let c128_730 : Index := 128#32
  ![v1552.toNat, 160, 128]
def k0_off219 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1557 : Index := Scalar.indexCast arg17
  let c168_732 : Index := 168#32
  let c128_733 : Index := 128#32
  ![v1557.toNat, 168, 128]
def k0_off220 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1562 : Index := Scalar.indexCast arg17
  let c176_735 : Index := 176#32
  let c128_736 : Index := 128#32
  ![v1562.toNat, 176, 128]
def k0_off221 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1567 : Index := Scalar.indexCast arg17
  let c184_738 : Index := 184#32
  let c128_739 : Index := 128#32
  ![v1567.toNat, 184, 128]
def k0_off222 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1572 : Index := Scalar.indexCast arg17
  let c192_741 : Index := 192#32
  let c128_742 : Index := 128#32
  ![v1572.toNat, 192, 128]
def k0_off223 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1577 : Index := Scalar.indexCast arg17
  let c200_744 : Index := 200#32
  let c128_745 : Index := 128#32
  ![v1577.toNat, 200, 128]
def k0_off224 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1582 : Index := Scalar.indexCast arg17
  let c208_747 : Index := 208#32
  let c128_748 : Index := 128#32
  ![v1582.toNat, 208, 128]
def k0_off225 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1587 : Index := Scalar.indexCast arg17
  let c216_750 : Index := 216#32
  let c128_751 : Index := 128#32
  ![v1587.toNat, 216, 128]
def k0_off226 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1592 : Index := Scalar.indexCast arg17
  let c224_753 : Index := 224#32
  let c128_754 : Index := 128#32
  ![v1592.toNat, 224, 128]
def k0_off227 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1597 : Index := Scalar.indexCast arg17
  let c232_756 : Index := 232#32
  let c128_757 : Index := 128#32
  ![v1597.toNat, 232, 128]
def k0_off228 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1602 : Index := Scalar.indexCast arg17
  let c240_759 : Index := 240#32
  let c128_760 : Index := 128#32
  ![v1602.toNat, 240, 128]
def k0_off229 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v1607 : Index := Scalar.indexCast arg17
  let c248_762 : Index := 248#32
  let c128_763 : Index := 128#32
  ![v1607.toNat, 248, 128]
def k0_off230 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2332 : Index := Scalar.indexCast arg17
  let c0_1005 : Index := 0#32
  let c0_1006 : Index := 0#32
  let c128_1007 : Index := 128#32
  ![v2332.toNat, 0, 0, 128]
def k0_off231 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2336 : Index := Scalar.indexCast arg17
  let c1_1008 : Index := 1#32
  let c0_1009 : Index := 0#32
  let c128_1010 : Index := 128#32
  ![v2336.toNat, 1, 0, 128]
def k0_off232 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2340 : Index := Scalar.indexCast arg17
  let c2_1011 : Index := 2#32
  let c0_1012 : Index := 0#32
  let c128_1013 : Index := 128#32
  ![v2340.toNat, 2, 0, 128]
def k0_off233 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2344 : Index := Scalar.indexCast arg17
  let c3_1014 : Index := 3#32
  let c0_1015 : Index := 0#32
  let c128_1016 : Index := 128#32
  ![v2344.toNat, 3, 0, 128]
def k0_off234 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2348 : Index := Scalar.indexCast arg17
  let c4_1017 : Index := 4#32
  let c0_1018 : Index := 0#32
  let c128_1019 : Index := 128#32
  ![v2348.toNat, 4, 0, 128]
def k0_off235 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2352 : Index := Scalar.indexCast arg17
  let c5_1020 : Index := 5#32
  let c0_1021 : Index := 0#32
  let c128_1022 : Index := 128#32
  ![v2352.toNat, 5, 0, 128]
def k0_off236 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2356 : Index := Scalar.indexCast arg17
  let c6_1023 : Index := 6#32
  let c0_1024 : Index := 0#32
  let c128_1025 : Index := 128#32
  ![v2356.toNat, 6, 0, 128]
def k0_off237 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2360 : Index := Scalar.indexCast arg17
  let c7_1026 : Index := 7#32
  let c0_1027 : Index := 0#32
  let c128_1028 : Index := 128#32
  ![v2360.toNat, 7, 0, 128]
def k0_off238 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2364 : Index := Scalar.indexCast arg17
  let c8_1029 : Index := 8#32
  let c0_1030 : Index := 0#32
  let c128_1031 : Index := 128#32
  ![v2364.toNat, 8, 0, 128]
def k0_off239 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2368 : Index := Scalar.indexCast arg17
  let c9_1032 : Index := 9#32
  let c0_1033 : Index := 0#32
  let c128_1034 : Index := 128#32
  ![v2368.toNat, 9, 0, 128]
def k0_off240 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2372 : Index := Scalar.indexCast arg17
  let c10_1035 : Index := 10#32
  let c0_1036 : Index := 0#32
  let c128_1037 : Index := 128#32
  ![v2372.toNat, 10, 0, 128]
def k0_off241 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2376 : Index := Scalar.indexCast arg17
  let c11_1038 : Index := 11#32
  let c0_1039 : Index := 0#32
  let c128_1040 : Index := 128#32
  ![v2376.toNat, 11, 0, 128]
def k0_off242 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2380 : Index := Scalar.indexCast arg17
  let c12_1041 : Index := 12#32
  let c0_1042 : Index := 0#32
  let c128_1043 : Index := 128#32
  ![v2380.toNat, 12, 0, 128]
def k0_off243 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2384 : Index := Scalar.indexCast arg17
  let c13_1044 : Index := 13#32
  let c0_1045 : Index := 0#32
  let c128_1046 : Index := 128#32
  ![v2384.toNat, 13, 0, 128]
def k0_off244 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2388 : Index := Scalar.indexCast arg17
  let c14_1047 : Index := 14#32
  let c0_1048 : Index := 0#32
  let c128_1049 : Index := 128#32
  ![v2388.toNat, 14, 0, 128]
def k0_off245 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2392 : Index := Scalar.indexCast arg17
  let c15_1050 : Index := 15#32
  let c0_1051 : Index := 0#32
  let c128_1052 : Index := 128#32
  ![v2392.toNat, 15, 0, 128]
def k0_off246 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2396 : Index := Scalar.indexCast arg17
  let c16_1053 : Index := 16#32
  let c0_1054 : Index := 0#32
  let c128_1055 : Index := 128#32
  ![v2396.toNat, 16, 0, 128]
def k0_off247 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2400 : Index := Scalar.indexCast arg17
  let c17_1056 : Index := 17#32
  let c0_1057 : Index := 0#32
  let c128_1058 : Index := 128#32
  ![v2400.toNat, 17, 0, 128]
def k0_off248 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2404 : Index := Scalar.indexCast arg17
  let c18_1059 : Index := 18#32
  let c0_1060 : Index := 0#32
  let c128_1061 : Index := 128#32
  ![v2404.toNat, 18, 0, 128]
def k0_off249 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2408 : Index := Scalar.indexCast arg17
  let c19_1062 : Index := 19#32
  let c0_1063 : Index := 0#32
  let c128_1064 : Index := 128#32
  ![v2408.toNat, 19, 0, 128]
def k0_off250 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2412 : Index := Scalar.indexCast arg17
  let c20_1065 : Index := 20#32
  let c0_1066 : Index := 0#32
  let c128_1067 : Index := 128#32
  ![v2412.toNat, 20, 0, 128]
def k0_off251 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2416 : Index := Scalar.indexCast arg17
  let c21_1068 : Index := 21#32
  let c0_1069 : Index := 0#32
  let c128_1070 : Index := 128#32
  ![v2416.toNat, 21, 0, 128]
def k0_off252 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2420 : Index := Scalar.indexCast arg17
  let c22_1071 : Index := 22#32
  let c0_1072 : Index := 0#32
  let c128_1073 : Index := 128#32
  ![v2420.toNat, 22, 0, 128]
def k0_off253 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2424 : Index := Scalar.indexCast arg17
  let c23_1074 : Index := 23#32
  let c0_1075 : Index := 0#32
  let c128_1076 : Index := 128#32
  ![v2424.toNat, 23, 0, 128]
def k0_off254 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2428 : Index := Scalar.indexCast arg17
  let c24_1077 : Index := 24#32
  let c0_1078 : Index := 0#32
  let c128_1079 : Index := 128#32
  ![v2428.toNat, 24, 0, 128]
def k0_off255 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2432 : Index := Scalar.indexCast arg17
  let c25_1080 : Index := 25#32
  let c0_1081 : Index := 0#32
  let c128_1082 : Index := 128#32
  ![v2432.toNat, 25, 0, 128]
def k0_off256 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2436 : Index := Scalar.indexCast arg17
  let c26_1083 : Index := 26#32
  let c0_1084 : Index := 0#32
  let c128_1085 : Index := 128#32
  ![v2436.toNat, 26, 0, 128]
def k0_off257 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2440 : Index := Scalar.indexCast arg17
  let c27_1086 : Index := 27#32
  let c0_1087 : Index := 0#32
  let c128_1088 : Index := 128#32
  ![v2440.toNat, 27, 0, 128]
def k0_off258 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2444 : Index := Scalar.indexCast arg17
  let c28_1089 : Index := 28#32
  let c0_1090 : Index := 0#32
  let c128_1091 : Index := 128#32
  ![v2444.toNat, 28, 0, 128]
def k0_off259 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2448 : Index := Scalar.indexCast arg17
  let c29_1092 : Index := 29#32
  let c0_1093 : Index := 0#32
  let c128_1094 : Index := 128#32
  ![v2448.toNat, 29, 0, 128]
def k0_off260 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2452 : Index := Scalar.indexCast arg17
  let c30_1095 : Index := 30#32
  let c0_1096 : Index := 0#32
  let c128_1097 : Index := 128#32
  ![v2452.toNat, 30, 0, 128]
def k0_off261 (i : grid0.Coords) (k0_t2 : Fin (k0_t2_loop i).trips) : Fin 4 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2456 : Index := Scalar.indexCast arg17
  let c31_1098 : Index := 31#32
  let c0_1099 : Index := 0#32
  let c128_1100 : Index := 128#32
  ![v2456.toNat, 31, 0, 128]
def k0_off262 (i : grid0.Coords) (k0_t2 : Fin (k0_t2_loop i).trips) : Fin 3 → Nat :=
  let c0_i32_96 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v140 : BitVec 32 := Scalar.subi v20 c0_i32_96
  let c1_i32_97 : BitVec 32 := 1#32
  let v142 : BitVec 32 := Scalar.divsi v140 c1_i32_97
  let v143 : BitVec 32 := Scalar.muli v142 c1_i32_97
  let v144 : BitVec 32 := Scalar.addi c0_i32_96 v143
  let c1_i32_99 : BitVec 32 := 1#32
  let arg17 : BitVec 32 := Scf.iv v144 c1_i32_99 k0_t2
  let v2461 : Index := Scalar.indexCast arg17
  let c0_1102 : Index := 0#32
  let c0_1103 : Index := 0#32
  ![v2461.toNat, 0, 0]
def k0_cond1 (i : grid0.Coords) : BitVec 1 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c2_i32 : BitVec 32 := 2#32
  let c0_i32_100 : BitVec 32 := 0#32
  let v145 : BitVec 1 := Scalar.cmpi .eq c2_i32 c0_i32_100
  let c1_i32_101 : BitVec 32 := 1#32
  let v146 : BitVec 32 := Scalar.select v145 c1_i32_101 c2_i32
  let v147 : BitVec 32 := Scalar.remsi v20 v146
  let c0_i32_103 : BitVec 32 := 0#32
  let v149 : BitVec 1 := Scalar.cmpi .slt v147 c0_i32_103
  let c0_i32_104 : BitVec 32 := 0#32
  let v150 : BitVec 1 := Scalar.cmpi .slt v146 c0_i32_104
  let v151 : BitVec 1 := Scalar.xori v149 v150
  let c0_i32_102 : BitVec 32 := 0#32
  let v148 : BitVec 1 := Scalar.cmpi .ne v147 c0_i32_102
  let v152 : BitVec 1 := Scalar.andi v151 v148
  let v153 : BitVec 32 := Scalar.addi v147 v146
  let v154 : BitVec 32 := Scalar.select v152 v153 v147
  let c1_i32_105 : BitVec 32 := 1#32
  let v155 : BitVec 1 := Scalar.cmpi .eq v154 c1_i32_105
  let v156 : BitVec 32 := Scalar.extui v155
  let c0_i32_106 : BitVec 32 := 0#32
  let v157 : BitVec 1 := Scalar.cmpi .ne v156 c0_i32_106
  v157

def k0_off263 (i : grid0.Coords) : Fin 3 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v322 : Index := Scalar.indexCast v20
  let c0_214 : Index := 0#32
  let c0_215 : Index := 0#32
  ![v322.toNat, 0, 0]
def k0_off264 (i : grid0.Coords) : Fin 4 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v327 : Index := Scalar.indexCast v20
  let c0_217 : Index := 0#32
  let c0_218 : Index := 0#32
  let c0_219 : Index := 0#32
  ![v327.toNat, 0, 0, 0]
@[reducible] def k0_t3_loop (i : grid0.Coords) : Scf.Loop 32 :=
  let c0_i32_117 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v178 : BitVec 32 := Scalar.subi v175 c0_i32_117
  let c1_i32_118 : BitVec 32 := 1#32
  let v180 : BitVec 32 := Scalar.divsi v178 c1_i32_118
  let v181 : BitVec 32 := Scalar.muli v180 c1_i32_118
  let v182 : BitVec 32 := Scalar.addi c0_i32_117 v181
  let c1_i32_119 : BitVec 32 := 1#32
  ⟨c0_i32_117, v182, c1_i32_119⟩
def k0_off265 (i : grid0.Coords) (k0_t3 : Fin (k0_t3_loop i).trips) : Fin 3 → Nat :=
  let c2_i32_213 : BitVec 32 := 2#32
  let c0_i32_117 : BitVec 32 := 0#32
  let c1_i32_119 : BitVec 32 := 1#32
  let arg17 : BitVec 32 := Scf.iv c0_i32_117 c1_i32_119 k0_t3
  let v321 : BitVec 32 := Scalar.muli c2_i32_213 arg17
  let v324 : Index := Scalar.indexCast v321
  let c0_216 : Index := 0#32
  let c0_217 : Index := 0#32
  ![v324.toNat, 0, 0]
def k0_off266 (i : grid0.Coords) (k0_t3 : Fin (k0_t3_loop i).trips) : Fin 4 → Nat :=
  let c2_i32_213 : BitVec 32 := 2#32
  let c0_i32_117 : BitVec 32 := 0#32
  let c1_i32_119 : BitVec 32 := 1#32
  let arg17 : BitVec 32 := Scf.iv c0_i32_117 c1_i32_119 k0_t3
  let v321 : BitVec 32 := Scalar.muli c2_i32_213 arg17
  let v327 : Index := Scalar.indexCast v321
  let c0_218 : Index := 0#32
  let c0_219 : Index := 0#32
  let c0_220 : Index := 0#32
  ![v327.toNat, 0, 0, 0]
def k0_off267 (i : grid0.Coords) (k0_t3 : Fin (k0_t3_loop i).trips) : Fin 3 → Nat :=
  let c2_i32_214 : BitVec 32 := 2#32
  let c0_i32_117 : BitVec 32 := 0#32
  let c1_i32_119 : BitVec 32 := 1#32
  let arg17 : BitVec 32 := Scf.iv c0_i32_117 c1_i32_119 k0_t3
  let v322 : BitVec 32 := Scalar.muli c2_i32_214 arg17
  let c1_i32_215 : BitVec 32 := 1#32
  let v323 : BitVec 32 := Scalar.addi v322 c1_i32_215
  let v333 : Index := Scalar.indexCast v323
  let c0_221 : Index := 0#32
  let c0_222 : Index := 0#32
  ![v333.toNat, 0, 0]
def k0_off268 (i : grid0.Coords) (k0_t3 : Fin (k0_t3_loop i).trips) : Fin 4 → Nat :=
  let c2_i32_214 : BitVec 32 := 2#32
  let c0_i32_117 : BitVec 32 := 0#32
  let c1_i32_119 : BitVec 32 := 1#32
  let arg17 : BitVec 32 := Scf.iv c0_i32_117 c1_i32_119 k0_t3
  let v322 : BitVec 32 := Scalar.muli c2_i32_214 arg17
  let c1_i32_215 : BitVec 32 := 1#32
  let v323 : BitVec 32 := Scalar.addi v322 c1_i32_215
  let v336 : Index := Scalar.indexCast v323
  let c0_223 : Index := 0#32
  let c0_224 : Index := 0#32
  let c0_225 : Index := 0#32
  ![v336.toNat, 0, 0, 0]
@[reducible] def k0_t4_loop (i : grid0.Coords) : Scf.Loop 32 :=
  let c0_i32_117 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v178 : BitVec 32 := Scalar.subi v175 c0_i32_117
  let c1_i32_118 : BitVec 32 := 1#32
  let v180 : BitVec 32 := Scalar.divsi v178 c1_i32_118
  let v181 : BitVec 32 := Scalar.muli v180 c1_i32_118
  let v182 : BitVec 32 := Scalar.addi c0_i32_117 v181
  let v179 : BitVec 32 := Scalar.addi c0_i32_117 v178
  let c1_i32_120 : BitVec 32 := 1#32
  ⟨v182, v179, c1_i32_120⟩
def k0_off269 (i : grid0.Coords) (k0_t4 : Fin (k0_t4_loop i).trips) : Fin 3 → Nat :=
  let c2_i32_213 : BitVec 32 := 2#32
  let c0_i32_117 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v178 : BitVec 32 := Scalar.subi v175 c0_i32_117
  let c1_i32_118 : BitVec 32 := 1#32
  let v180 : BitVec 32 := Scalar.divsi v178 c1_i32_118
  let v181 : BitVec 32 := Scalar.muli v180 c1_i32_118
  let v182 : BitVec 32 := Scalar.addi c0_i32_117 v181
  let c1_i32_120 : BitVec 32 := 1#32
  let arg17 : BitVec 32 := Scf.iv v182 c1_i32_120 k0_t4
  let v321 : BitVec 32 := Scalar.muli c2_i32_213 arg17
  let v324 : Index := Scalar.indexCast v321
  let c0_216 : Index := 0#32
  let c0_217 : Index := 0#32
  ![v324.toNat, 0, 0]
def k0_off270 (i : grid0.Coords) (k0_t4 : Fin (k0_t4_loop i).trips) : Fin 4 → Nat :=
  let c2_i32_213 : BitVec 32 := 2#32
  let c0_i32_117 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v178 : BitVec 32 := Scalar.subi v175 c0_i32_117
  let c1_i32_118 : BitVec 32 := 1#32
  let v180 : BitVec 32 := Scalar.divsi v178 c1_i32_118
  let v181 : BitVec 32 := Scalar.muli v180 c1_i32_118
  let v182 : BitVec 32 := Scalar.addi c0_i32_117 v181
  let c1_i32_120 : BitVec 32 := 1#32
  let arg17 : BitVec 32 := Scf.iv v182 c1_i32_120 k0_t4
  let v321 : BitVec 32 := Scalar.muli c2_i32_213 arg17
  let v327 : Index := Scalar.indexCast v321
  let c0_218 : Index := 0#32
  let c0_219 : Index := 0#32
  let c0_220 : Index := 0#32
  ![v327.toNat, 0, 0, 0]
def k0_off271 (i : grid0.Coords) (k0_t4 : Fin (k0_t4_loop i).trips) : Fin 3 → Nat :=
  let c2_i32_214 : BitVec 32 := 2#32
  let c0_i32_117 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v178 : BitVec 32 := Scalar.subi v175 c0_i32_117
  let c1_i32_118 : BitVec 32 := 1#32
  let v180 : BitVec 32 := Scalar.divsi v178 c1_i32_118
  let v181 : BitVec 32 := Scalar.muli v180 c1_i32_118
  let v182 : BitVec 32 := Scalar.addi c0_i32_117 v181
  let c1_i32_120 : BitVec 32 := 1#32
  let arg17 : BitVec 32 := Scf.iv v182 c1_i32_120 k0_t4
  let v322 : BitVec 32 := Scalar.muli c2_i32_214 arg17
  let c1_i32_215 : BitVec 32 := 1#32
  let v323 : BitVec 32 := Scalar.addi v322 c1_i32_215
  let v333 : Index := Scalar.indexCast v323
  let c0_221 : Index := 0#32
  let c0_222 : Index := 0#32
  ![v333.toNat, 0, 0]
def k0_off272 (i : grid0.Coords) (k0_t4 : Fin (k0_t4_loop i).trips) : Fin 4 → Nat :=
  let c2_i32_214 : BitVec 32 := 2#32
  let c0_i32_117 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v178 : BitVec 32 := Scalar.subi v175 c0_i32_117
  let c1_i32_118 : BitVec 32 := 1#32
  let v180 : BitVec 32 := Scalar.divsi v178 c1_i32_118
  let v181 : BitVec 32 := Scalar.muli v180 c1_i32_118
  let v182 : BitVec 32 := Scalar.addi c0_i32_117 v181
  let c1_i32_120 : BitVec 32 := 1#32
  let arg17 : BitVec 32 := Scf.iv v182 c1_i32_120 k0_t4
  let v322 : BitVec 32 := Scalar.muli c2_i32_214 arg17
  let c1_i32_215 : BitVec 32 := 1#32
  let v323 : BitVec 32 := Scalar.addi v322 c1_i32_215
  let v336 : Index := Scalar.indexCast v323
  let c0_223 : Index := 0#32
  let c0_224 : Index := 0#32
  let c0_225 : Index := 0#32
  ![v336.toNat, 0, 0, 0]
@[reducible] def k0_t5_loop : Scf.Loop 32 :=
  let c1_i32_126 : BitVec 32 := 1#32
  let c31_i32_127 : BitVec 32 := 31#32
  let v202 : BitVec 32 := Scalar.addi c1_i32_126 c31_i32_127
  let c1_i32_128 : BitVec 32 := 1#32
  ⟨c1_i32_126, v202, c1_i32_128⟩
@[reducible] def k0_t6_loop (i : grid0.Coords) : Scf.Loop 32 :=
  let c0_i32_214 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v322 : BitVec 32 := Scalar.subi v175 c0_i32_214
  let c1_i32_215 : BitVec 32 := 1#32
  let v324 : BitVec 32 := Scalar.divsi v322 c1_i32_215
  let v325 : BitVec 32 := Scalar.muli v324 c1_i32_215
  let v326 : BitVec 32 := Scalar.addi c0_i32_214 v325
  let c1_i32_216 : BitVec 32 := 1#32
  ⟨c0_i32_214, v326, c1_i32_216⟩
def k0_off273 (i : grid0.Coords) (k0_t6 : Fin (k0_t6_loop i).trips) : Fin 3 → Nat :=
  let c2_i32_225 : BitVec 32 := 2#32
  let c0_i32_214 : BitVec 32 := 0#32
  let c1_i32_216 : BitVec 32 := 1#32
  let arg21 : BitVec 32 := Scf.iv c0_i32_214 c1_i32_216 k0_t6
  let v347 : BitVec 32 := Scalar.muli c2_i32_225 arg21
  let v350 : Index := Scalar.indexCast v347
  let c0_228 : Index := 0#32
  let c0_229 : Index := 0#32
  ![v350.toNat, 0, 0]
def k0_off274 (i : grid0.Coords) (k0_t5 : Fin k0_t5_loop.trips) (k0_t6 : Fin (k0_t6_loop i).trips) : Fin 4 → Nat :=
  let c2_i32_225 : BitVec 32 := 2#32
  let c0_i32_214 : BitVec 32 := 0#32
  let c1_i32_216 : BitVec 32 := 1#32
  let arg21 : BitVec 32 := Scf.iv c0_i32_214 c1_i32_216 k0_t6
  let v347 : BitVec 32 := Scalar.muli c2_i32_225 arg21
  let v354 : Index := Scalar.indexCast v347
  let c1_i32_126 : BitVec 32 := 1#32
  let c1_i32_128 : BitVec 32 := 1#32
  let arg17 : BitVec 32 := Scf.iv c1_i32_126 c1_i32_128 k0_t5
  let c1_i32_230 : BitVec 32 := 1#32
  let v353 : BitVec 32 := Scalar.subi arg17 c1_i32_230
  let v355 : Index := Scalar.indexCast v353
  let c0_231 : Index := 0#32
  let c0_232 : Index := 0#32
  ![v354.toNat, v355.toNat, 0, 0]
def k0_off275 (i : grid0.Coords) (k0_t5 : Fin k0_t5_loop.trips) (k0_t6 : Fin (k0_t6_loop i).trips) : Fin 4 → Nat :=
  let c2_i32_225 : BitVec 32 := 2#32
  let c0_i32_214 : BitVec 32 := 0#32
  let c1_i32_216 : BitVec 32 := 1#32
  let arg21 : BitVec 32 := Scf.iv c0_i32_214 c1_i32_216 k0_t6
  let v347 : BitVec 32 := Scalar.muli c2_i32_225 arg21
  let v364 : Index := Scalar.indexCast v347
  let c1_i32_126 : BitVec 32 := 1#32
  let c1_i32_128 : BitVec 32 := 1#32
  let arg17 : BitVec 32 := Scf.iv c1_i32_126 c1_i32_128 k0_t5
  let v365 : Index := Scalar.indexCast arg17
  let c0_235 : Index := 0#32
  let c0_236 : Index := 0#32
  ![v364.toNat, v365.toNat, 0, 0]
def k0_off276 (i : grid0.Coords) (k0_t6 : Fin (k0_t6_loop i).trips) : Fin 3 → Nat :=
  let c2_i32_226 : BitVec 32 := 2#32
  let c0_i32_214 : BitVec 32 := 0#32
  let c1_i32_216 : BitVec 32 := 1#32
  let arg21 : BitVec 32 := Scf.iv c0_i32_214 c1_i32_216 k0_t6
  let v348 : BitVec 32 := Scalar.muli c2_i32_226 arg21
  let c1_i32_227 : BitVec 32 := 1#32
  let v349 : BitVec 32 := Scalar.addi v348 c1_i32_227
  let v371 : Index := Scalar.indexCast v349
  let c0_237 : Index := 0#32
  let c0_238 : Index := 0#32
  ![v371.toNat, 0, 0]
def k0_off277 (i : grid0.Coords) (k0_t5 : Fin k0_t5_loop.trips) (k0_t6 : Fin (k0_t6_loop i).trips) : Fin 4 → Nat :=
  let c2_i32_226 : BitVec 32 := 2#32
  let c0_i32_214 : BitVec 32 := 0#32
  let c1_i32_216 : BitVec 32 := 1#32
  let arg21 : BitVec 32 := Scf.iv c0_i32_214 c1_i32_216 k0_t6
  let v348 : BitVec 32 := Scalar.muli c2_i32_226 arg21
  let c1_i32_227 : BitVec 32 := 1#32
  let v349 : BitVec 32 := Scalar.addi v348 c1_i32_227
  let v375 : Index := Scalar.indexCast v349
  let c1_i32_126 : BitVec 32 := 1#32
  let c1_i32_128 : BitVec 32 := 1#32
  let arg17 : BitVec 32 := Scf.iv c1_i32_126 c1_i32_128 k0_t5
  let c1_i32_239 : BitVec 32 := 1#32
  let v374 : BitVec 32 := Scalar.subi arg17 c1_i32_239
  let v376 : Index := Scalar.indexCast v374
  let c0_240 : Index := 0#32
  let c0_241 : Index := 0#32
  ![v375.toNat, v376.toNat, 0, 0]
def k0_off278 (i : grid0.Coords) (k0_t5 : Fin k0_t5_loop.trips) (k0_t6 : Fin (k0_t6_loop i).trips) : Fin 4 → Nat :=
  let c2_i32_226 : BitVec 32 := 2#32
  let c0_i32_214 : BitVec 32 := 0#32
  let c1_i32_216 : BitVec 32 := 1#32
  let arg21 : BitVec 32 := Scf.iv c0_i32_214 c1_i32_216 k0_t6
  let v348 : BitVec 32 := Scalar.muli c2_i32_226 arg21
  let c1_i32_227 : BitVec 32 := 1#32
  let v349 : BitVec 32 := Scalar.addi v348 c1_i32_227
  let v385 : Index := Scalar.indexCast v349
  let c1_i32_126 : BitVec 32 := 1#32
  let c1_i32_128 : BitVec 32 := 1#32
  let arg17 : BitVec 32 := Scf.iv c1_i32_126 c1_i32_128 k0_t5
  let v386 : Index := Scalar.indexCast arg17
  let c0_244 : Index := 0#32
  let c0_245 : Index := 0#32
  ![v385.toNat, v386.toNat, 0, 0]
@[reducible] def k0_t7_loop (i : grid0.Coords) : Scf.Loop 32 :=
  let c0_i32_214 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v322 : BitVec 32 := Scalar.subi v175 c0_i32_214
  let c1_i32_215 : BitVec 32 := 1#32
  let v324 : BitVec 32 := Scalar.divsi v322 c1_i32_215
  let v325 : BitVec 32 := Scalar.muli v324 c1_i32_215
  let v326 : BitVec 32 := Scalar.addi c0_i32_214 v325
  let v323 : BitVec 32 := Scalar.addi c0_i32_214 v322
  let c1_i32_217 : BitVec 32 := 1#32
  ⟨v326, v323, c1_i32_217⟩
def k0_off279 (i : grid0.Coords) (k0_t7 : Fin (k0_t7_loop i).trips) : Fin 3 → Nat :=
  let c2_i32_225 : BitVec 32 := 2#32
  let c0_i32_214 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v322 : BitVec 32 := Scalar.subi v175 c0_i32_214
  let c1_i32_215 : BitVec 32 := 1#32
  let v324 : BitVec 32 := Scalar.divsi v322 c1_i32_215
  let v325 : BitVec 32 := Scalar.muli v324 c1_i32_215
  let v326 : BitVec 32 := Scalar.addi c0_i32_214 v325
  let c1_i32_217 : BitVec 32 := 1#32
  let arg21 : BitVec 32 := Scf.iv v326 c1_i32_217 k0_t7
  let v347 : BitVec 32 := Scalar.muli c2_i32_225 arg21
  let v350 : Index := Scalar.indexCast v347
  let c0_228 : Index := 0#32
  let c0_229 : Index := 0#32
  ![v350.toNat, 0, 0]
def k0_off280 (i : grid0.Coords) (k0_t5 : Fin k0_t5_loop.trips) (k0_t7 : Fin (k0_t7_loop i).trips) : Fin 4 → Nat :=
  let c2_i32_225 : BitVec 32 := 2#32
  let c0_i32_214 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v322 : BitVec 32 := Scalar.subi v175 c0_i32_214
  let c1_i32_215 : BitVec 32 := 1#32
  let v324 : BitVec 32 := Scalar.divsi v322 c1_i32_215
  let v325 : BitVec 32 := Scalar.muli v324 c1_i32_215
  let v326 : BitVec 32 := Scalar.addi c0_i32_214 v325
  let c1_i32_217 : BitVec 32 := 1#32
  let arg21 : BitVec 32 := Scf.iv v326 c1_i32_217 k0_t7
  let v347 : BitVec 32 := Scalar.muli c2_i32_225 arg21
  let v354 : Index := Scalar.indexCast v347
  let c1_i32_126 : BitVec 32 := 1#32
  let c1_i32_128 : BitVec 32 := 1#32
  let arg17 : BitVec 32 := Scf.iv c1_i32_126 c1_i32_128 k0_t5
  let c1_i32_230 : BitVec 32 := 1#32
  let v353 : BitVec 32 := Scalar.subi arg17 c1_i32_230
  let v355 : Index := Scalar.indexCast v353
  let c0_231 : Index := 0#32
  let c0_232 : Index := 0#32
  ![v354.toNat, v355.toNat, 0, 0]
def k0_off281 (i : grid0.Coords) (k0_t5 : Fin k0_t5_loop.trips) (k0_t7 : Fin (k0_t7_loop i).trips) : Fin 4 → Nat :=
  let c2_i32_225 : BitVec 32 := 2#32
  let c0_i32_214 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v322 : BitVec 32 := Scalar.subi v175 c0_i32_214
  let c1_i32_215 : BitVec 32 := 1#32
  let v324 : BitVec 32 := Scalar.divsi v322 c1_i32_215
  let v325 : BitVec 32 := Scalar.muli v324 c1_i32_215
  let v326 : BitVec 32 := Scalar.addi c0_i32_214 v325
  let c1_i32_217 : BitVec 32 := 1#32
  let arg21 : BitVec 32 := Scf.iv v326 c1_i32_217 k0_t7
  let v347 : BitVec 32 := Scalar.muli c2_i32_225 arg21
  let v364 : Index := Scalar.indexCast v347
  let c1_i32_126 : BitVec 32 := 1#32
  let c1_i32_128 : BitVec 32 := 1#32
  let arg17 : BitVec 32 := Scf.iv c1_i32_126 c1_i32_128 k0_t5
  let v365 : Index := Scalar.indexCast arg17
  let c0_235 : Index := 0#32
  let c0_236 : Index := 0#32
  ![v364.toNat, v365.toNat, 0, 0]
def k0_off282 (i : grid0.Coords) (k0_t7 : Fin (k0_t7_loop i).trips) : Fin 3 → Nat :=
  let c2_i32_226 : BitVec 32 := 2#32
  let c0_i32_214 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v322 : BitVec 32 := Scalar.subi v175 c0_i32_214
  let c1_i32_215 : BitVec 32 := 1#32
  let v324 : BitVec 32 := Scalar.divsi v322 c1_i32_215
  let v325 : BitVec 32 := Scalar.muli v324 c1_i32_215
  let v326 : BitVec 32 := Scalar.addi c0_i32_214 v325
  let c1_i32_217 : BitVec 32 := 1#32
  let arg21 : BitVec 32 := Scf.iv v326 c1_i32_217 k0_t7
  let v348 : BitVec 32 := Scalar.muli c2_i32_226 arg21
  let c1_i32_227 : BitVec 32 := 1#32
  let v349 : BitVec 32 := Scalar.addi v348 c1_i32_227
  let v371 : Index := Scalar.indexCast v349
  let c0_237 : Index := 0#32
  let c0_238 : Index := 0#32
  ![v371.toNat, 0, 0]
def k0_off283 (i : grid0.Coords) (k0_t5 : Fin k0_t5_loop.trips) (k0_t7 : Fin (k0_t7_loop i).trips) : Fin 4 → Nat :=
  let c2_i32_226 : BitVec 32 := 2#32
  let c0_i32_214 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v322 : BitVec 32 := Scalar.subi v175 c0_i32_214
  let c1_i32_215 : BitVec 32 := 1#32
  let v324 : BitVec 32 := Scalar.divsi v322 c1_i32_215
  let v325 : BitVec 32 := Scalar.muli v324 c1_i32_215
  let v326 : BitVec 32 := Scalar.addi c0_i32_214 v325
  let c1_i32_217 : BitVec 32 := 1#32
  let arg21 : BitVec 32 := Scf.iv v326 c1_i32_217 k0_t7
  let v348 : BitVec 32 := Scalar.muli c2_i32_226 arg21
  let c1_i32_227 : BitVec 32 := 1#32
  let v349 : BitVec 32 := Scalar.addi v348 c1_i32_227
  let v375 : Index := Scalar.indexCast v349
  let c1_i32_126 : BitVec 32 := 1#32
  let c1_i32_128 : BitVec 32 := 1#32
  let arg17 : BitVec 32 := Scf.iv c1_i32_126 c1_i32_128 k0_t5
  let c1_i32_239 : BitVec 32 := 1#32
  let v374 : BitVec 32 := Scalar.subi arg17 c1_i32_239
  let v376 : Index := Scalar.indexCast v374
  let c0_240 : Index := 0#32
  let c0_241 : Index := 0#32
  ![v375.toNat, v376.toNat, 0, 0]
def k0_off284 (i : grid0.Coords) (k0_t5 : Fin k0_t5_loop.trips) (k0_t7 : Fin (k0_t7_loop i).trips) : Fin 4 → Nat :=
  let c2_i32_226 : BitVec 32 := 2#32
  let c0_i32_214 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_107 : BitVec 32 := 1#32
  let v158 : BitVec 32 := Scalar.addi v20 c1_i32_107
  let c0_i32_109 : BitVec 32 := 0#32
  let v160 : BitVec 1 := Scalar.cmpi .sgt v158 c0_i32_109
  let v161 : BitVec 32 := Scalar.extui v160
  let c0_i32_110 : BitVec 32 := 0#32
  let v162 : BitVec 1 := Scalar.cmpi .slt v158 c0_i32_110
  let v163 : BitVec 32 := Scalar.extui v162
  let v164 : BitVec 32 := Scalar.subi v161 v163
  let c2_i32_108 : BitVec 32 := 2#32
  let c0_i32_111 : BitVec 32 := 0#32
  let v165 : BitVec 1 := Scalar.cmpi .sgt c2_i32_108 c0_i32_111
  let v166 : BitVec 32 := Scalar.extui v165
  let c0_i32_112 : BitVec 32 := 0#32
  let v167 : BitVec 1 := Scalar.cmpi .slt c2_i32_108 c0_i32_112
  let v168 : BitVec 32 := Scalar.extui v167
  let v169 : BitVec 32 := Scalar.subi v166 v168
  let v170 : BitVec 1 := Scalar.cmpi .ne v164 v169
  let v171 : BitVec 32 := Scalar.remsi v158 c2_i32_108
  let c0_i32_113 : BitVec 32 := 0#32
  let v172 : BitVec 1 := Scalar.cmpi .ne v171 c0_i32_113
  let v173 : BitVec 1 := Scalar.andi v170 v172
  let v159 : BitVec 32 := Scalar.divsi v158 c2_i32_108
  let c1_i32_114 : BitVec 32 := 1#32
  let v174 : BitVec 32 := Scalar.subi v159 c1_i32_114
  let v175 : BitVec 32 := Scalar.select v173 v174 v159
  let v322 : BitVec 32 := Scalar.subi v175 c0_i32_214
  let c1_i32_215 : BitVec 32 := 1#32
  let v324 : BitVec 32 := Scalar.divsi v322 c1_i32_215
  let v325 : BitVec 32 := Scalar.muli v324 c1_i32_215
  let v326 : BitVec 32 := Scalar.addi c0_i32_214 v325
  let c1_i32_217 : BitVec 32 := 1#32
  let arg21 : BitVec 32 := Scf.iv v326 c1_i32_217 k0_t7
  let v348 : BitVec 32 := Scalar.muli c2_i32_226 arg21
  let c1_i32_227 : BitVec 32 := 1#32
  let v349 : BitVec 32 := Scalar.addi v348 c1_i32_227
  let v385 : Index := Scalar.indexCast v349
  let c1_i32_126 : BitVec 32 := 1#32
  let c1_i32_128 : BitVec 32 := 1#32
  let arg17 : BitVec 32 := Scf.iv c1_i32_126 c1_i32_128 k0_t5
  let v386 : Index := Scalar.indexCast arg17
  let c0_244 : Index := 0#32
  let c0_245 : Index := 0#32
  ![v385.toNat, v386.toNat, 0, 0]
@[reducible] def k0_t8_loop (i : grid0.Coords) : Scf.Loop 32 :=
  let c0_i32_131 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v205 : BitVec 32 := Scalar.subi v20 c0_i32_131
  let c1_i32_132 : BitVec 32 := 1#32
  let v207 : BitVec 32 := Scalar.divsi v205 c1_i32_132
  let v208 : BitVec 32 := Scalar.muli v207 c1_i32_132
  let v209 : BitVec 32 := Scalar.addi c0_i32_131 v208
  let c1_i32_133 : BitVec 32 := 1#32
  ⟨c0_i32_131, v209, c1_i32_133⟩
def k0_off285 (i : grid0.Coords) (k0_t8 : Fin (k0_t8_loop i).trips) : Fin 3 → Nat :=
  let c0_i32_131 : BitVec 32 := 0#32
  let c1_i32_133 : BitVec 32 := 1#32
  let arg17 : BitVec 32 := Scf.iv c0_i32_131 c1_i32_133 k0_t8
  let v321 : Index := Scalar.indexCast arg17
  let c0_213 : Index := 0#32
  let c0_214 : Index := 0#32
  ![v321.toNat, 0, 0]
def k0_off286 (i : grid0.Coords) (k0_t8 : Fin (k0_t8_loop i).trips) : Fin 4 → Nat :=
  let c0_i32_131 : BitVec 32 := 0#32
  let c1_i32_133 : BitVec 32 := 1#32
  let arg17 : BitVec 32 := Scf.iv c0_i32_131 c1_i32_133 k0_t8
  let v324 : Index := Scalar.indexCast arg17
  let c31 : Index := 31#32
  let c0_215 : Index := 0#32
  let c0_216 : Index := 0#32
  ![v324.toNat, 31, 0, 0]
@[reducible] def k0_t9_loop (i : grid0.Coords) : Scf.Loop 32 :=
  let c0_i32_131 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v205 : BitVec 32 := Scalar.subi v20 c0_i32_131
  let c1_i32_132 : BitVec 32 := 1#32
  let v207 : BitVec 32 := Scalar.divsi v205 c1_i32_132
  let v208 : BitVec 32 := Scalar.muli v207 c1_i32_132
  let v209 : BitVec 32 := Scalar.addi c0_i32_131 v208
  let v206 : BitVec 32 := Scalar.addi c0_i32_131 v205
  let c1_i32_134 : BitVec 32 := 1#32
  ⟨v209, v206, c1_i32_134⟩
def k0_off287 (i : grid0.Coords) (k0_t9 : Fin (k0_t9_loop i).trips) : Fin 3 → Nat :=
  let c0_i32_131 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v205 : BitVec 32 := Scalar.subi v20 c0_i32_131
  let c1_i32_132 : BitVec 32 := 1#32
  let v207 : BitVec 32 := Scalar.divsi v205 c1_i32_132
  let v208 : BitVec 32 := Scalar.muli v207 c1_i32_132
  let v209 : BitVec 32 := Scalar.addi c0_i32_131 v208
  let c1_i32_134 : BitVec 32 := 1#32
  let arg17 : BitVec 32 := Scf.iv v209 c1_i32_134 k0_t9
  let v321 : Index := Scalar.indexCast arg17
  let c0_213 : Index := 0#32
  let c0_214 : Index := 0#32
  ![v321.toNat, 0, 0]
def k0_off288 (i : grid0.Coords) (k0_t9 : Fin (k0_t9_loop i).trips) : Fin 4 → Nat :=
  let c0_i32_131 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v205 : BitVec 32 := Scalar.subi v20 c0_i32_131
  let c1_i32_132 : BitVec 32 := 1#32
  let v207 : BitVec 32 := Scalar.divsi v205 c1_i32_132
  let v208 : BitVec 32 := Scalar.muli v207 c1_i32_132
  let v209 : BitVec 32 := Scalar.addi c0_i32_131 v208
  let c1_i32_134 : BitVec 32 := 1#32
  let arg17 : BitVec 32 := Scf.iv v209 c1_i32_134 k0_t9
  let v324 : Index := Scalar.indexCast arg17
  let c31 : Index := 31#32
  let c0_215 : Index := 0#32
  let c0_216 : Index := 0#32
  ![v324.toNat, 31, 0, 0]
@[reducible] def k0_t10_loop (i : grid0.Coords) : Scf.Loop 32 :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_217 : BitVec 32 := 1#32
  ⟨c0_i32_215, v330, c1_i32_217⟩
def k0_off289 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v352 : Index := Scalar.indexCast arg17
  let c0_230 : Index := 0#32
  let c0_231 : Index := 0#32
  ![v352.toNat, 0, 0]
def k0_off290 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v362 : Index := Scalar.indexCast arg17
  let c8_236 : Index := 8#32
  let c0_237 : Index := 0#32
  ![v362.toNat, 8, 0]
def k0_off291 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v372 : Index := Scalar.indexCast arg17
  let c16 : Index := 16#32
  let c0_241 : Index := 0#32
  ![v372.toNat, 16, 0]
def k0_off292 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v382 : Index := Scalar.indexCast arg17
  let c24 : Index := 24#32
  let c0_245 : Index := 0#32
  ![v382.toNat, 24, 0]
def k0_off293 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v392 : Index := Scalar.indexCast arg17
  let c32 : Index := 32#32
  let c0_249 : Index := 0#32
  ![v392.toNat, 32, 0]
def k0_off294 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v402 : Index := Scalar.indexCast arg17
  let c40 : Index := 40#32
  let c0_253 : Index := 0#32
  ![v402.toNat, 40, 0]
def k0_off295 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v412 : Index := Scalar.indexCast arg17
  let c48 : Index := 48#32
  let c0_257 : Index := 0#32
  ![v412.toNat, 48, 0]
def k0_off296 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v422 : Index := Scalar.indexCast arg17
  let c56 : Index := 56#32
  let c0_261 : Index := 0#32
  ![v422.toNat, 56, 0]
def k0_off297 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v432 : Index := Scalar.indexCast arg17
  let c64_265 : Index := 64#32
  let c0_266 : Index := 0#32
  ![v432.toNat, 64, 0]
def k0_off298 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v442 : Index := Scalar.indexCast arg17
  let c72 : Index := 72#32
  let c0_271 : Index := 0#32
  ![v442.toNat, 72, 0]
def k0_off299 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v452 : Index := Scalar.indexCast arg17
  let c80 : Index := 80#32
  let c0_275 : Index := 0#32
  ![v452.toNat, 80, 0]
def k0_off300 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v462 : Index := Scalar.indexCast arg17
  let c88 : Index := 88#32
  let c0_279 : Index := 0#32
  ![v462.toNat, 88, 0]
def k0_off301 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v472 : Index := Scalar.indexCast arg17
  let c96 : Index := 96#32
  let c0_283 : Index := 0#32
  ![v472.toNat, 96, 0]
def k0_off302 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v482 : Index := Scalar.indexCast arg17
  let c104 : Index := 104#32
  let c0_287 : Index := 0#32
  ![v482.toNat, 104, 0]
def k0_off303 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v492 : Index := Scalar.indexCast arg17
  let c112 : Index := 112#32
  let c0_291 : Index := 0#32
  ![v492.toNat, 112, 0]
def k0_off304 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v502 : Index := Scalar.indexCast arg17
  let c120 : Index := 120#32
  let c0_295 : Index := 0#32
  ![v502.toNat, 120, 0]
def k0_off305 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v512 : Index := Scalar.indexCast arg17
  let c128_299 : Index := 128#32
  let c0_300 : Index := 0#32
  ![v512.toNat, 128, 0]
def k0_off306 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v522 : Index := Scalar.indexCast arg17
  let c136 : Index := 136#32
  let c0_304 : Index := 0#32
  ![v522.toNat, 136, 0]
def k0_off307 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v532 : Index := Scalar.indexCast arg17
  let c144 : Index := 144#32
  let c0_308 : Index := 0#32
  ![v532.toNat, 144, 0]
def k0_off308 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v542 : Index := Scalar.indexCast arg17
  let c152 : Index := 152#32
  let c0_312 : Index := 0#32
  ![v542.toNat, 152, 0]
def k0_off309 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v552 : Index := Scalar.indexCast arg17
  let c160 : Index := 160#32
  let c0_316 : Index := 0#32
  ![v552.toNat, 160, 0]
def k0_off310 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v562 : Index := Scalar.indexCast arg17
  let c168 : Index := 168#32
  let c0_320 : Index := 0#32
  ![v562.toNat, 168, 0]
def k0_off311 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v572 : Index := Scalar.indexCast arg17
  let c176 : Index := 176#32
  let c0_324 : Index := 0#32
  ![v572.toNat, 176, 0]
def k0_off312 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v582 : Index := Scalar.indexCast arg17
  let c184 : Index := 184#32
  let c0_328 : Index := 0#32
  ![v582.toNat, 184, 0]
def k0_off313 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v592 : Index := Scalar.indexCast arg17
  let c192_332 : Index := 192#32
  let c0_333 : Index := 0#32
  ![v592.toNat, 192, 0]
def k0_off314 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v602 : Index := Scalar.indexCast arg17
  let c200 : Index := 200#32
  let c0_337 : Index := 0#32
  ![v602.toNat, 200, 0]
def k0_off315 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v612 : Index := Scalar.indexCast arg17
  let c208 : Index := 208#32
  let c0_341 : Index := 0#32
  ![v612.toNat, 208, 0]
def k0_off316 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v622 : Index := Scalar.indexCast arg17
  let c216 : Index := 216#32
  let c0_345 : Index := 0#32
  ![v622.toNat, 216, 0]
def k0_off317 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v632 : Index := Scalar.indexCast arg17
  let c224 : Index := 224#32
  let c0_349 : Index := 0#32
  ![v632.toNat, 224, 0]
def k0_off318 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v642 : Index := Scalar.indexCast arg17
  let c232 : Index := 232#32
  let c0_353 : Index := 0#32
  ![v642.toNat, 232, 0]
def k0_off319 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v652 : Index := Scalar.indexCast arg17
  let c240 : Index := 240#32
  let c0_357 : Index := 0#32
  ![v652.toNat, 240, 0]
def k0_off320 (i : grid0.Coords) (k0_t10 : Fin (k0_t10_loop i).trips) : Fin 3 → Nat :=
  let c0_i32_215 : BitVec 32 := 0#32
  let c1_i32_217 : BitVec 32 := 1#32
  let arg17 : BitVec 32 := Scf.iv c0_i32_215 c1_i32_217 k0_t10
  let v662 : Index := Scalar.indexCast arg17
  let c248 : Index := 248#32
  let c0_361 : Index := 0#32
  ![v662.toNat, 248, 0]
@[reducible] def k0_t11_loop (i : grid0.Coords) : Scf.Loop 32 :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let v327 : BitVec 32 := Scalar.addi c0_i32_215 v326
  let c1_i32_218 : BitVec 32 := 1#32
  ⟨v330, v327, c1_i32_218⟩
def k0_off321 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v352 : Index := Scalar.indexCast arg17
  let c0_230 : Index := 0#32
  let c0_231 : Index := 0#32
  ![v352.toNat, 0, 0]
def k0_off322 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v362 : Index := Scalar.indexCast arg17
  let c8_236 : Index := 8#32
  let c0_237 : Index := 0#32
  ![v362.toNat, 8, 0]
def k0_off323 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v372 : Index := Scalar.indexCast arg17
  let c16 : Index := 16#32
  let c0_241 : Index := 0#32
  ![v372.toNat, 16, 0]
def k0_off324 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v382 : Index := Scalar.indexCast arg17
  let c24 : Index := 24#32
  let c0_245 : Index := 0#32
  ![v382.toNat, 24, 0]
def k0_off325 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v392 : Index := Scalar.indexCast arg17
  let c32 : Index := 32#32
  let c0_249 : Index := 0#32
  ![v392.toNat, 32, 0]
def k0_off326 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v402 : Index := Scalar.indexCast arg17
  let c40 : Index := 40#32
  let c0_253 : Index := 0#32
  ![v402.toNat, 40, 0]
def k0_off327 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v412 : Index := Scalar.indexCast arg17
  let c48 : Index := 48#32
  let c0_257 : Index := 0#32
  ![v412.toNat, 48, 0]
def k0_off328 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v422 : Index := Scalar.indexCast arg17
  let c56 : Index := 56#32
  let c0_261 : Index := 0#32
  ![v422.toNat, 56, 0]
def k0_off329 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v432 : Index := Scalar.indexCast arg17
  let c64_265 : Index := 64#32
  let c0_266 : Index := 0#32
  ![v432.toNat, 64, 0]
def k0_off330 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v442 : Index := Scalar.indexCast arg17
  let c72 : Index := 72#32
  let c0_271 : Index := 0#32
  ![v442.toNat, 72, 0]
def k0_off331 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v452 : Index := Scalar.indexCast arg17
  let c80 : Index := 80#32
  let c0_275 : Index := 0#32
  ![v452.toNat, 80, 0]
def k0_off332 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v462 : Index := Scalar.indexCast arg17
  let c88 : Index := 88#32
  let c0_279 : Index := 0#32
  ![v462.toNat, 88, 0]
def k0_off333 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v472 : Index := Scalar.indexCast arg17
  let c96 : Index := 96#32
  let c0_283 : Index := 0#32
  ![v472.toNat, 96, 0]
def k0_off334 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v482 : Index := Scalar.indexCast arg17
  let c104 : Index := 104#32
  let c0_287 : Index := 0#32
  ![v482.toNat, 104, 0]
def k0_off335 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v492 : Index := Scalar.indexCast arg17
  let c112 : Index := 112#32
  let c0_291 : Index := 0#32
  ![v492.toNat, 112, 0]
def k0_off336 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v502 : Index := Scalar.indexCast arg17
  let c120 : Index := 120#32
  let c0_295 : Index := 0#32
  ![v502.toNat, 120, 0]
def k0_off337 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v512 : Index := Scalar.indexCast arg17
  let c128_299 : Index := 128#32
  let c0_300 : Index := 0#32
  ![v512.toNat, 128, 0]
def k0_off338 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v522 : Index := Scalar.indexCast arg17
  let c136 : Index := 136#32
  let c0_304 : Index := 0#32
  ![v522.toNat, 136, 0]
def k0_off339 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v532 : Index := Scalar.indexCast arg17
  let c144 : Index := 144#32
  let c0_308 : Index := 0#32
  ![v532.toNat, 144, 0]
def k0_off340 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v542 : Index := Scalar.indexCast arg17
  let c152 : Index := 152#32
  let c0_312 : Index := 0#32
  ![v542.toNat, 152, 0]
def k0_off341 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v552 : Index := Scalar.indexCast arg17
  let c160 : Index := 160#32
  let c0_316 : Index := 0#32
  ![v552.toNat, 160, 0]
def k0_off342 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v562 : Index := Scalar.indexCast arg17
  let c168 : Index := 168#32
  let c0_320 : Index := 0#32
  ![v562.toNat, 168, 0]
def k0_off343 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v572 : Index := Scalar.indexCast arg17
  let c176 : Index := 176#32
  let c0_324 : Index := 0#32
  ![v572.toNat, 176, 0]
def k0_off344 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v582 : Index := Scalar.indexCast arg17
  let c184 : Index := 184#32
  let c0_328 : Index := 0#32
  ![v582.toNat, 184, 0]
def k0_off345 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v592 : Index := Scalar.indexCast arg17
  let c192_332 : Index := 192#32
  let c0_333 : Index := 0#32
  ![v592.toNat, 192, 0]
def k0_off346 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v602 : Index := Scalar.indexCast arg17
  let c200 : Index := 200#32
  let c0_337 : Index := 0#32
  ![v602.toNat, 200, 0]
def k0_off347 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v612 : Index := Scalar.indexCast arg17
  let c208 : Index := 208#32
  let c0_341 : Index := 0#32
  ![v612.toNat, 208, 0]
def k0_off348 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v622 : Index := Scalar.indexCast arg17
  let c216 : Index := 216#32
  let c0_345 : Index := 0#32
  ![v622.toNat, 216, 0]
def k0_off349 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v632 : Index := Scalar.indexCast arg17
  let c224 : Index := 224#32
  let c0_349 : Index := 0#32
  ![v632.toNat, 224, 0]
def k0_off350 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v642 : Index := Scalar.indexCast arg17
  let c232 : Index := 232#32
  let c0_353 : Index := 0#32
  ![v642.toNat, 232, 0]
def k0_off351 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v652 : Index := Scalar.indexCast arg17
  let c240 : Index := 240#32
  let c0_357 : Index := 0#32
  ![v652.toNat, 240, 0]
def k0_off352 (i : grid0.Coords) (k0_t11 : Fin (k0_t11_loop i).trips) : Fin 3 → Nat :=
  let c0_i32_215 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v326 : BitVec 32 := Scalar.subi v20 c0_i32_215
  let c1_i32_216 : BitVec 32 := 1#32
  let v328 : BitVec 32 := Scalar.divsi v326 c1_i32_216
  let v329 : BitVec 32 := Scalar.muli v328 c1_i32_216
  let v330 : BitVec 32 := Scalar.addi c0_i32_215 v329
  let c1_i32_218 : BitVec 32 := 1#32
  let arg17 : BitVec 32 := Scf.iv v330 c1_i32_218 k0_t11
  let v662 : Index := Scalar.indexCast arg17
  let c248 : Index := 248#32
  let c0_361 : Index := 0#32
  ![v662.toNat, 248, 0]
@[reducible] def k0_t12_loop : Scf.Loop 32 :=
  let c0_i32_222 : BitVec 32 := 0#32
  let c15_i32 : BitVec 32 := 15#32
  let v341 : BitVec 32 := Scalar.addi c0_i32_222 c15_i32
  let c1_i32_223 : BitVec 32 := 1#32
  ⟨c0_i32_222, v341, c1_i32_223⟩
@[reducible] def k0_t13_loop (i : grid0.Coords) : Scf.Loop 32 :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_234 : BitVec 32 := 1#32
  ⟨c0_i32_232, v363, c1_i32_234⟩
def k0_off353 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v373 : Index := Scalar.indexCast arg19
  let c0_237 : Index := 0#32
  let c0_238 : Index := 0#32
  ![v373.toNat, 0, 0]
def k0_off354 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v387 : Index := Scalar.indexCast arg19
  let c8_243 : Index := 8#32
  let c0_244 : Index := 0#32
  ![v387.toNat, 8, 0]
def k0_off355 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v401 : Index := Scalar.indexCast arg19
  let c16 : Index := 16#32
  let c0_248 : Index := 0#32
  ![v401.toNat, 16, 0]
def k0_off356 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v415 : Index := Scalar.indexCast arg19
  let c24 : Index := 24#32
  let c0_252 : Index := 0#32
  ![v415.toNat, 24, 0]
def k0_off357 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v429 : Index := Scalar.indexCast arg19
  let c32 : Index := 32#32
  let c0_256 : Index := 0#32
  ![v429.toNat, 32, 0]
def k0_off358 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v443 : Index := Scalar.indexCast arg19
  let c40 : Index := 40#32
  let c0_260 : Index := 0#32
  ![v443.toNat, 40, 0]
def k0_off359 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v457 : Index := Scalar.indexCast arg19
  let c48 : Index := 48#32
  let c0_264 : Index := 0#32
  ![v457.toNat, 48, 0]
def k0_off360 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v471 : Index := Scalar.indexCast arg19
  let c56 : Index := 56#32
  let c0_268 : Index := 0#32
  ![v471.toNat, 56, 0]
def k0_off361 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v485 : Index := Scalar.indexCast arg19
  let c64_272 : Index := 64#32
  let c0_273 : Index := 0#32
  ![v485.toNat, 64, 0]
def k0_off362 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v499 : Index := Scalar.indexCast arg19
  let c72 : Index := 72#32
  let c0_278 : Index := 0#32
  ![v499.toNat, 72, 0]
def k0_off363 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v513 : Index := Scalar.indexCast arg19
  let c80 : Index := 80#32
  let c0_282 : Index := 0#32
  ![v513.toNat, 80, 0]
def k0_off364 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v527 : Index := Scalar.indexCast arg19
  let c88 : Index := 88#32
  let c0_286 : Index := 0#32
  ![v527.toNat, 88, 0]
def k0_off365 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v541 : Index := Scalar.indexCast arg19
  let c96 : Index := 96#32
  let c0_290 : Index := 0#32
  ![v541.toNat, 96, 0]
def k0_off366 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v555 : Index := Scalar.indexCast arg19
  let c104 : Index := 104#32
  let c0_294 : Index := 0#32
  ![v555.toNat, 104, 0]
def k0_off367 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v569 : Index := Scalar.indexCast arg19
  let c112 : Index := 112#32
  let c0_298 : Index := 0#32
  ![v569.toNat, 112, 0]
def k0_off368 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v583 : Index := Scalar.indexCast arg19
  let c120 : Index := 120#32
  let c0_302 : Index := 0#32
  ![v583.toNat, 120, 0]
def k0_off369 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v597 : Index := Scalar.indexCast arg19
  let c128_306 : Index := 128#32
  let c0_307 : Index := 0#32
  ![v597.toNat, 128, 0]
def k0_off370 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v611 : Index := Scalar.indexCast arg19
  let c136 : Index := 136#32
  let c0_311 : Index := 0#32
  ![v611.toNat, 136, 0]
def k0_off371 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v625 : Index := Scalar.indexCast arg19
  let c144 : Index := 144#32
  let c0_315 : Index := 0#32
  ![v625.toNat, 144, 0]
def k0_off372 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v639 : Index := Scalar.indexCast arg19
  let c152 : Index := 152#32
  let c0_319 : Index := 0#32
  ![v639.toNat, 152, 0]
def k0_off373 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v653 : Index := Scalar.indexCast arg19
  let c160 : Index := 160#32
  let c0_323 : Index := 0#32
  ![v653.toNat, 160, 0]
def k0_off374 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v667 : Index := Scalar.indexCast arg19
  let c168 : Index := 168#32
  let c0_327 : Index := 0#32
  ![v667.toNat, 168, 0]
def k0_off375 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v681 : Index := Scalar.indexCast arg19
  let c176 : Index := 176#32
  let c0_331 : Index := 0#32
  ![v681.toNat, 176, 0]
def k0_off376 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v695 : Index := Scalar.indexCast arg19
  let c184 : Index := 184#32
  let c0_335 : Index := 0#32
  ![v695.toNat, 184, 0]
def k0_off377 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v709 : Index := Scalar.indexCast arg19
  let c192_339 : Index := 192#32
  let c0_340 : Index := 0#32
  ![v709.toNat, 192, 0]
def k0_off378 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v723 : Index := Scalar.indexCast arg19
  let c200 : Index := 200#32
  let c0_344 : Index := 0#32
  ![v723.toNat, 200, 0]
def k0_off379 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v737 : Index := Scalar.indexCast arg19
  let c208 : Index := 208#32
  let c0_348 : Index := 0#32
  ![v737.toNat, 208, 0]
def k0_off380 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v751 : Index := Scalar.indexCast arg19
  let c216 : Index := 216#32
  let c0_352 : Index := 0#32
  ![v751.toNat, 216, 0]
def k0_off381 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v765 : Index := Scalar.indexCast arg19
  let c224 : Index := 224#32
  let c0_356 : Index := 0#32
  ![v765.toNat, 224, 0]
def k0_off382 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v779 : Index := Scalar.indexCast arg19
  let c232 : Index := 232#32
  let c0_360 : Index := 0#32
  ![v779.toNat, 232, 0]
def k0_off383 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v793 : Index := Scalar.indexCast arg19
  let c240 : Index := 240#32
  let c0_364 : Index := 0#32
  ![v793.toNat, 240, 0]
def k0_off384 (i : grid0.Coords) (k0_t13 : Fin (k0_t13_loop i).trips) : Fin 3 → Nat :=
  let c0_i32_232 : BitVec 32 := 0#32
  let c1_i32_234 : BitVec 32 := 1#32
  let arg19 : BitVec 32 := Scf.iv c0_i32_232 c1_i32_234 k0_t13
  let v807 : Index := Scalar.indexCast arg19
  let c248 : Index := 248#32
  let c0_368 : Index := 0#32
  ![v807.toNat, 248, 0]
@[reducible] def k0_t14_loop (i : grid0.Coords) : Scf.Loop 32 :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let v360 : BitVec 32 := Scalar.addi c0_i32_232 v359
  let c1_i32_235 : BitVec 32 := 1#32
  ⟨v363, v360, c1_i32_235⟩
def k0_off385 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v373 : Index := Scalar.indexCast arg19
  let c0_237 : Index := 0#32
  let c0_238 : Index := 0#32
  ![v373.toNat, 0, 0]
def k0_off386 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v387 : Index := Scalar.indexCast arg19
  let c8_243 : Index := 8#32
  let c0_244 : Index := 0#32
  ![v387.toNat, 8, 0]
def k0_off387 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v401 : Index := Scalar.indexCast arg19
  let c16 : Index := 16#32
  let c0_248 : Index := 0#32
  ![v401.toNat, 16, 0]
def k0_off388 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v415 : Index := Scalar.indexCast arg19
  let c24 : Index := 24#32
  let c0_252 : Index := 0#32
  ![v415.toNat, 24, 0]
def k0_off389 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v429 : Index := Scalar.indexCast arg19
  let c32 : Index := 32#32
  let c0_256 : Index := 0#32
  ![v429.toNat, 32, 0]
def k0_off390 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v443 : Index := Scalar.indexCast arg19
  let c40 : Index := 40#32
  let c0_260 : Index := 0#32
  ![v443.toNat, 40, 0]
def k0_off391 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v457 : Index := Scalar.indexCast arg19
  let c48 : Index := 48#32
  let c0_264 : Index := 0#32
  ![v457.toNat, 48, 0]
def k0_off392 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v471 : Index := Scalar.indexCast arg19
  let c56 : Index := 56#32
  let c0_268 : Index := 0#32
  ![v471.toNat, 56, 0]
def k0_off393 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v485 : Index := Scalar.indexCast arg19
  let c64_272 : Index := 64#32
  let c0_273 : Index := 0#32
  ![v485.toNat, 64, 0]
def k0_off394 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v499 : Index := Scalar.indexCast arg19
  let c72 : Index := 72#32
  let c0_278 : Index := 0#32
  ![v499.toNat, 72, 0]
def k0_off395 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v513 : Index := Scalar.indexCast arg19
  let c80 : Index := 80#32
  let c0_282 : Index := 0#32
  ![v513.toNat, 80, 0]
def k0_off396 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v527 : Index := Scalar.indexCast arg19
  let c88 : Index := 88#32
  let c0_286 : Index := 0#32
  ![v527.toNat, 88, 0]
def k0_off397 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v541 : Index := Scalar.indexCast arg19
  let c96 : Index := 96#32
  let c0_290 : Index := 0#32
  ![v541.toNat, 96, 0]
def k0_off398 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v555 : Index := Scalar.indexCast arg19
  let c104 : Index := 104#32
  let c0_294 : Index := 0#32
  ![v555.toNat, 104, 0]
def k0_off399 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v569 : Index := Scalar.indexCast arg19
  let c112 : Index := 112#32
  let c0_298 : Index := 0#32
  ![v569.toNat, 112, 0]
def k0_off400 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v583 : Index := Scalar.indexCast arg19
  let c120 : Index := 120#32
  let c0_302 : Index := 0#32
  ![v583.toNat, 120, 0]
def k0_off401 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v597 : Index := Scalar.indexCast arg19
  let c128_306 : Index := 128#32
  let c0_307 : Index := 0#32
  ![v597.toNat, 128, 0]
def k0_off402 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v611 : Index := Scalar.indexCast arg19
  let c136 : Index := 136#32
  let c0_311 : Index := 0#32
  ![v611.toNat, 136, 0]
def k0_off403 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v625 : Index := Scalar.indexCast arg19
  let c144 : Index := 144#32
  let c0_315 : Index := 0#32
  ![v625.toNat, 144, 0]
def k0_off404 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v639 : Index := Scalar.indexCast arg19
  let c152 : Index := 152#32
  let c0_319 : Index := 0#32
  ![v639.toNat, 152, 0]
def k0_off405 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v653 : Index := Scalar.indexCast arg19
  let c160 : Index := 160#32
  let c0_323 : Index := 0#32
  ![v653.toNat, 160, 0]
def k0_off406 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v667 : Index := Scalar.indexCast arg19
  let c168 : Index := 168#32
  let c0_327 : Index := 0#32
  ![v667.toNat, 168, 0]
def k0_off407 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v681 : Index := Scalar.indexCast arg19
  let c176 : Index := 176#32
  let c0_331 : Index := 0#32
  ![v681.toNat, 176, 0]
def k0_off408 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v695 : Index := Scalar.indexCast arg19
  let c184 : Index := 184#32
  let c0_335 : Index := 0#32
  ![v695.toNat, 184, 0]
def k0_off409 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v709 : Index := Scalar.indexCast arg19
  let c192_339 : Index := 192#32
  let c0_340 : Index := 0#32
  ![v709.toNat, 192, 0]
def k0_off410 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v723 : Index := Scalar.indexCast arg19
  let c200 : Index := 200#32
  let c0_344 : Index := 0#32
  ![v723.toNat, 200, 0]
def k0_off411 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v737 : Index := Scalar.indexCast arg19
  let c208 : Index := 208#32
  let c0_348 : Index := 0#32
  ![v737.toNat, 208, 0]
def k0_off412 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v751 : Index := Scalar.indexCast arg19
  let c216 : Index := 216#32
  let c0_352 : Index := 0#32
  ![v751.toNat, 216, 0]
def k0_off413 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v765 : Index := Scalar.indexCast arg19
  let c224 : Index := 224#32
  let c0_356 : Index := 0#32
  ![v765.toNat, 224, 0]
def k0_off414 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v779 : Index := Scalar.indexCast arg19
  let c232 : Index := 232#32
  let c0_360 : Index := 0#32
  ![v779.toNat, 232, 0]
def k0_off415 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v793 : Index := Scalar.indexCast arg19
  let c240 : Index := 240#32
  let c0_364 : Index := 0#32
  ![v793.toNat, 240, 0]
def k0_off416 (i : grid0.Coords) (k0_t14 : Fin (k0_t14_loop i).trips) : Fin 3 → Nat :=
  let c0_i32_232 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v359 : BitVec 32 := Scalar.subi v20 c0_i32_232
  let c1_i32_233 : BitVec 32 := 1#32
  let v361 : BitVec 32 := Scalar.divsi v359 c1_i32_233
  let v362 : BitVec 32 := Scalar.muli v361 c1_i32_233
  let v363 : BitVec 32 := Scalar.addi c0_i32_232 v362
  let c1_i32_235 : BitVec 32 := 1#32
  let arg19 : BitVec 32 := Scf.iv v363 c1_i32_235 k0_t14
  let v807 : Index := Scalar.indexCast arg19
  let c248 : Index := 248#32
  let c0_368 : Index := 0#32
  ![v807.toNat, 248, 0]
@[reducible] def k0_t15_loop (i : grid0.Coords) : Scf.Loop 32 :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_228 : BitVec 32 := 1#32
  ⟨c0_i32_226, v351, c1_i32_228⟩
def k0_off417 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v352 : Index := Scalar.indexCast arg17
  let c0_230 : Index := 0#32
  let c0_231 : Index := 0#32
  ![v352.toNat, 0, 0]
def k0_off418 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v369 : Index := Scalar.indexCast arg17
  let c8_237 : Index := 8#32
  let c0_238 : Index := 0#32
  ![v369.toNat, 8, 0]
def k0_off419 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v386 : Index := Scalar.indexCast arg17
  let c16 : Index := 16#32
  let c0_243 : Index := 0#32
  ![v386.toNat, 16, 0]
def k0_off420 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v403 : Index := Scalar.indexCast arg17
  let c24 : Index := 24#32
  let c0_248 : Index := 0#32
  ![v403.toNat, 24, 0]
def k0_off421 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v420 : Index := Scalar.indexCast arg17
  let c32 : Index := 32#32
  let c0_253 : Index := 0#32
  ![v420.toNat, 32, 0]
def k0_off422 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v437 : Index := Scalar.indexCast arg17
  let c40 : Index := 40#32
  let c0_258 : Index := 0#32
  ![v437.toNat, 40, 0]
def k0_off423 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v454 : Index := Scalar.indexCast arg17
  let c48 : Index := 48#32
  let c0_263 : Index := 0#32
  ![v454.toNat, 48, 0]
def k0_off424 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v471 : Index := Scalar.indexCast arg17
  let c56 : Index := 56#32
  let c0_268 : Index := 0#32
  ![v471.toNat, 56, 0]
def k0_off425 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v488 : Index := Scalar.indexCast arg17
  let c64_273 : Index := 64#32
  let c0_274 : Index := 0#32
  ![v488.toNat, 64, 0]
def k0_off426 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v505 : Index := Scalar.indexCast arg17
  let c72 : Index := 72#32
  let c0_280 : Index := 0#32
  ![v505.toNat, 72, 0]
def k0_off427 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v522 : Index := Scalar.indexCast arg17
  let c80 : Index := 80#32
  let c0_285 : Index := 0#32
  ![v522.toNat, 80, 0]
def k0_off428 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v539 : Index := Scalar.indexCast arg17
  let c88 : Index := 88#32
  let c0_290 : Index := 0#32
  ![v539.toNat, 88, 0]
def k0_off429 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v556 : Index := Scalar.indexCast arg17
  let c96 : Index := 96#32
  let c0_295 : Index := 0#32
  ![v556.toNat, 96, 0]
def k0_off430 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v573 : Index := Scalar.indexCast arg17
  let c104 : Index := 104#32
  let c0_300 : Index := 0#32
  ![v573.toNat, 104, 0]
def k0_off431 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v590 : Index := Scalar.indexCast arg17
  let c112 : Index := 112#32
  let c0_305 : Index := 0#32
  ![v590.toNat, 112, 0]
def k0_off432 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v607 : Index := Scalar.indexCast arg17
  let c120 : Index := 120#32
  let c0_310 : Index := 0#32
  ![v607.toNat, 120, 0]
def k0_off433 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v624 : Index := Scalar.indexCast arg17
  let c128_315 : Index := 128#32
  let c0_316 : Index := 0#32
  ![v624.toNat, 128, 0]
def k0_off434 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v641 : Index := Scalar.indexCast arg17
  let c136 : Index := 136#32
  let c0_321 : Index := 0#32
  ![v641.toNat, 136, 0]
def k0_off435 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v658 : Index := Scalar.indexCast arg17
  let c144 : Index := 144#32
  let c0_326 : Index := 0#32
  ![v658.toNat, 144, 0]
def k0_off436 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v675 : Index := Scalar.indexCast arg17
  let c152 : Index := 152#32
  let c0_331 : Index := 0#32
  ![v675.toNat, 152, 0]
def k0_off437 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v692 : Index := Scalar.indexCast arg17
  let c160 : Index := 160#32
  let c0_336 : Index := 0#32
  ![v692.toNat, 160, 0]
def k0_off438 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v709 : Index := Scalar.indexCast arg17
  let c168 : Index := 168#32
  let c0_341 : Index := 0#32
  ![v709.toNat, 168, 0]
def k0_off439 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v726 : Index := Scalar.indexCast arg17
  let c176 : Index := 176#32
  let c0_346 : Index := 0#32
  ![v726.toNat, 176, 0]
def k0_off440 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v743 : Index := Scalar.indexCast arg17
  let c184 : Index := 184#32
  let c0_351 : Index := 0#32
  ![v743.toNat, 184, 0]
def k0_off441 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v760 : Index := Scalar.indexCast arg17
  let c192_356 : Index := 192#32
  let c0_357 : Index := 0#32
  ![v760.toNat, 192, 0]
def k0_off442 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v777 : Index := Scalar.indexCast arg17
  let c200 : Index := 200#32
  let c0_362 : Index := 0#32
  ![v777.toNat, 200, 0]
def k0_off443 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v794 : Index := Scalar.indexCast arg17
  let c208 : Index := 208#32
  let c0_367 : Index := 0#32
  ![v794.toNat, 208, 0]
def k0_off444 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v811 : Index := Scalar.indexCast arg17
  let c216 : Index := 216#32
  let c0_372 : Index := 0#32
  ![v811.toNat, 216, 0]
def k0_off445 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v828 : Index := Scalar.indexCast arg17
  let c224 : Index := 224#32
  let c0_377 : Index := 0#32
  ![v828.toNat, 224, 0]
def k0_off446 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v845 : Index := Scalar.indexCast arg17
  let c232 : Index := 232#32
  let c0_382 : Index := 0#32
  ![v845.toNat, 232, 0]
def k0_off447 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v862 : Index := Scalar.indexCast arg17
  let c240 : Index := 240#32
  let c0_387 : Index := 0#32
  ![v862.toNat, 240, 0]
def k0_off448 (i : grid0.Coords) (k0_t15 : Fin (k0_t15_loop i).trips) : Fin 3 → Nat :=
  let c0_i32_226 : BitVec 32 := 0#32
  let c1_i32_228 : BitVec 32 := 1#32
  let arg17 : BitVec 32 := Scf.iv c0_i32_226 c1_i32_228 k0_t15
  let v879 : Index := Scalar.indexCast arg17
  let c248 : Index := 248#32
  let c0_392 : Index := 0#32
  ![v879.toNat, 248, 0]
@[reducible] def k0_t16_loop (i : grid0.Coords) : Scf.Loop 32 :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let v348 : BitVec 32 := Scalar.addi c0_i32_226 v347
  let c1_i32_229 : BitVec 32 := 1#32
  ⟨v351, v348, c1_i32_229⟩
def k0_off449 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v352 : Index := Scalar.indexCast arg17
  let c0_230 : Index := 0#32
  let c0_231 : Index := 0#32
  ![v352.toNat, 0, 0]
def k0_off450 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v369 : Index := Scalar.indexCast arg17
  let c8_237 : Index := 8#32
  let c0_238 : Index := 0#32
  ![v369.toNat, 8, 0]
def k0_off451 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v386 : Index := Scalar.indexCast arg17
  let c16 : Index := 16#32
  let c0_243 : Index := 0#32
  ![v386.toNat, 16, 0]
def k0_off452 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v403 : Index := Scalar.indexCast arg17
  let c24 : Index := 24#32
  let c0_248 : Index := 0#32
  ![v403.toNat, 24, 0]
def k0_off453 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v420 : Index := Scalar.indexCast arg17
  let c32 : Index := 32#32
  let c0_253 : Index := 0#32
  ![v420.toNat, 32, 0]
def k0_off454 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v437 : Index := Scalar.indexCast arg17
  let c40 : Index := 40#32
  let c0_258 : Index := 0#32
  ![v437.toNat, 40, 0]
def k0_off455 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v454 : Index := Scalar.indexCast arg17
  let c48 : Index := 48#32
  let c0_263 : Index := 0#32
  ![v454.toNat, 48, 0]
def k0_off456 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v471 : Index := Scalar.indexCast arg17
  let c56 : Index := 56#32
  let c0_268 : Index := 0#32
  ![v471.toNat, 56, 0]
def k0_off457 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v488 : Index := Scalar.indexCast arg17
  let c64_273 : Index := 64#32
  let c0_274 : Index := 0#32
  ![v488.toNat, 64, 0]
def k0_off458 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v505 : Index := Scalar.indexCast arg17
  let c72 : Index := 72#32
  let c0_280 : Index := 0#32
  ![v505.toNat, 72, 0]
def k0_off459 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v522 : Index := Scalar.indexCast arg17
  let c80 : Index := 80#32
  let c0_285 : Index := 0#32
  ![v522.toNat, 80, 0]
def k0_off460 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v539 : Index := Scalar.indexCast arg17
  let c88 : Index := 88#32
  let c0_290 : Index := 0#32
  ![v539.toNat, 88, 0]
def k0_off461 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v556 : Index := Scalar.indexCast arg17
  let c96 : Index := 96#32
  let c0_295 : Index := 0#32
  ![v556.toNat, 96, 0]
def k0_off462 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v573 : Index := Scalar.indexCast arg17
  let c104 : Index := 104#32
  let c0_300 : Index := 0#32
  ![v573.toNat, 104, 0]
def k0_off463 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v590 : Index := Scalar.indexCast arg17
  let c112 : Index := 112#32
  let c0_305 : Index := 0#32
  ![v590.toNat, 112, 0]
def k0_off464 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v607 : Index := Scalar.indexCast arg17
  let c120 : Index := 120#32
  let c0_310 : Index := 0#32
  ![v607.toNat, 120, 0]
def k0_off465 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v624 : Index := Scalar.indexCast arg17
  let c128_315 : Index := 128#32
  let c0_316 : Index := 0#32
  ![v624.toNat, 128, 0]
def k0_off466 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v641 : Index := Scalar.indexCast arg17
  let c136 : Index := 136#32
  let c0_321 : Index := 0#32
  ![v641.toNat, 136, 0]
def k0_off467 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v658 : Index := Scalar.indexCast arg17
  let c144 : Index := 144#32
  let c0_326 : Index := 0#32
  ![v658.toNat, 144, 0]
def k0_off468 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v675 : Index := Scalar.indexCast arg17
  let c152 : Index := 152#32
  let c0_331 : Index := 0#32
  ![v675.toNat, 152, 0]
def k0_off469 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v692 : Index := Scalar.indexCast arg17
  let c160 : Index := 160#32
  let c0_336 : Index := 0#32
  ![v692.toNat, 160, 0]
def k0_off470 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v709 : Index := Scalar.indexCast arg17
  let c168 : Index := 168#32
  let c0_341 : Index := 0#32
  ![v709.toNat, 168, 0]
def k0_off471 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v726 : Index := Scalar.indexCast arg17
  let c176 : Index := 176#32
  let c0_346 : Index := 0#32
  ![v726.toNat, 176, 0]
def k0_off472 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v743 : Index := Scalar.indexCast arg17
  let c184 : Index := 184#32
  let c0_351 : Index := 0#32
  ![v743.toNat, 184, 0]
def k0_off473 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v760 : Index := Scalar.indexCast arg17
  let c192_356 : Index := 192#32
  let c0_357 : Index := 0#32
  ![v760.toNat, 192, 0]
def k0_off474 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v777 : Index := Scalar.indexCast arg17
  let c200 : Index := 200#32
  let c0_362 : Index := 0#32
  ![v777.toNat, 200, 0]
def k0_off475 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v794 : Index := Scalar.indexCast arg17
  let c208 : Index := 208#32
  let c0_367 : Index := 0#32
  ![v794.toNat, 208, 0]
def k0_off476 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v811 : Index := Scalar.indexCast arg17
  let c216 : Index := 216#32
  let c0_372 : Index := 0#32
  ![v811.toNat, 216, 0]
def k0_off477 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v828 : Index := Scalar.indexCast arg17
  let c224 : Index := 224#32
  let c0_377 : Index := 0#32
  ![v828.toNat, 224, 0]
def k0_off478 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v845 : Index := Scalar.indexCast arg17
  let c232 : Index := 232#32
  let c0_382 : Index := 0#32
  ![v845.toNat, 232, 0]
def k0_off479 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v862 : Index := Scalar.indexCast arg17
  let c240 : Index := 240#32
  let c0_387 : Index := 0#32
  ![v862.toNat, 240, 0]
def k0_off480 (i : grid0.Coords) (k0_t16 : Fin (k0_t16_loop i).trips) : Fin 3 → Nat :=
  let c0_i32_226 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v347 : BitVec 32 := Scalar.subi v20 c0_i32_226
  let c1_i32_227 : BitVec 32 := 1#32
  let v349 : BitVec 32 := Scalar.divsi v347 c1_i32_227
  let v350 : BitVec 32 := Scalar.muli v349 c1_i32_227
  let v351 : BitVec 32 := Scalar.addi c0_i32_226 v350
  let c1_i32_229 : BitVec 32 := 1#32
  let arg17 : BitVec 32 := Scf.iv v351 c1_i32_229 k0_t16
  let v879 : Index := Scalar.indexCast arg17
  let c248 : Index := 248#32
  let c0_392 : Index := 0#32
  ![v879.toNat, 248, 0]
@[reducible] def k0_t17_loop (i : grid0.Coords) : Scf.Loop 32 :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_155 : BitVec 32 := 1#32
  ⟨c0_i32_153, v252, c1_i32_155⟩
def k0_mult3 (i : grid0.Coords) (k0_t17 : Fin (k0_t17_loop i).trips) : BitVec 32 :=
  let c0_i32_153 : BitVec 32 := 0#32
  let c1_i32_155 : BitVec 32 := 1#32
  let arg17 : BitVec 32 := Scf.iv c0_i32_153 c1_i32_155 k0_t17
  let c256_i32_213 : BitVec 32 := 256#32
  let v321 : BitVec 32 := Scalar.muli arg17 c256_i32_213
  v321
def k0_off481 (i : grid0.Coords) (k0_t17 : Fin (k0_t17_loop i).trips) : Fin 3 → Nat :=
  let c0_i32_153 : BitVec 32 := 0#32
  let c1_i32_155 : BitVec 32 := 1#32
  let arg17 : BitVec 32 := Scf.iv c0_i32_153 c1_i32_155 k0_t17
  let v323 : Index := Scalar.indexCast arg17
  let c0_214 : Index := 0#32
  let c0_215 : Index := 0#32
  ![v323.toNat, 0, 0]
def k0_off482 (i : grid0.Coords) (k0_t17 : Fin (k0_t17_loop i).trips) : Fin 2 → Nat :=
  let c0_i32_153 : BitVec 32 := 0#32
  let c1_i32_155 : BitVec 32 := 1#32
  let arg17 : BitVec 32 := Scf.iv c0_i32_153 c1_i32_155 k0_t17
  let c256_i32_213 : BitVec 32 := 256#32
  let v321 : BitVec 32 := Scalar.muli arg17 c256_i32_213
  let v322 : BitVec 32 := v321
  let v330 : Index := Scalar.indexCast v322
  let c0_218 : Index := 0#32
  ![v330.toNat, 0]
def k0_off483 (i : grid0.Coords) (k0_t17 : Fin (k0_t17_loop i).trips) : Fin 2 → Nat :=
  let c0_i32_153 : BitVec 32 := 0#32
  let c1_i32_155 : BitVec 32 := 1#32
  let arg17 : BitVec 32 := Scf.iv c0_i32_153 c1_i32_155 k0_t17
  let c256_i32_213 : BitVec 32 := 256#32
  let v321 : BitVec 32 := Scalar.muli arg17 c256_i32_213
  let v322 : BitVec 32 := v321
  let v352 : Index := Scalar.indexCast v322
  let c128_236 : Index := 128#32
  ![v352.toNat, 128]
def k0_off484 (i : grid0.Coords) (k0_t17 : Fin (k0_t17_loop i).trips) : Fin 2 → Nat :=
  let c0_i32_153 : BitVec 32 := 0#32
  let c1_i32_155 : BitVec 32 := 1#32
  let arg17 : BitVec 32 := Scf.iv c0_i32_153 c1_i32_155 k0_t17
  let c256_i32_213 : BitVec 32 := 256#32
  let v321 : BitVec 32 := Scalar.muli arg17 c256_i32_213
  let v322 : BitVec 32 := v321
  let v374 : Index := Scalar.indexCast v322
  let c256_254 : Index := 256#32
  ![v374.toNat, 256]
def k0_off485 (i : grid0.Coords) (k0_t17 : Fin (k0_t17_loop i).trips) : Fin 2 → Nat :=
  let c0_i32_153 : BitVec 32 := 0#32
  let c1_i32_155 : BitVec 32 := 1#32
  let arg17 : BitVec 32 := Scf.iv c0_i32_153 c1_i32_155 k0_t17
  let c256_i32_213 : BitVec 32 := 256#32
  let v321 : BitVec 32 := Scalar.muli arg17 c256_i32_213
  let v322 : BitVec 32 := v321
  let v396 : Index := Scalar.indexCast v322
  let c384_272 : Index := 384#32
  ![v396.toNat, 384]
def k0_off486 (i : grid0.Coords) (k0_t17 : Fin (k0_t17_loop i).trips) : Fin 3 → Nat :=
  let c0_i32_153 : BitVec 32 := 0#32
  let c1_i32_155 : BitVec 32 := 1#32
  let arg17 : BitVec 32 := Scf.iv c0_i32_153 c1_i32_155 k0_t17
  let v431 : Index := Scalar.indexCast arg17
  let c0_299 : Index := 0#32
  let c0_300 : Index := 0#32
  ![v431.toNat, 0, 0]
def k0_off487 (i : grid0.Coords) (k0_t17 : Fin (k0_t17_loop i).trips) : Fin 3 → Nat :=
  let c0_i32_153 : BitVec 32 := 0#32
  let c1_i32_155 : BitVec 32 := 1#32
  let arg17 : BitVec 32 := Scf.iv c0_i32_153 c1_i32_155 k0_t17
  let v465 : Index := Scalar.indexCast arg17
  let c80 : Index := 80#32
  let c0_321 : Index := 0#32
  ![v465.toNat, 80, 0]
def k0_off488 (i : grid0.Coords) (k0_t17 : Fin (k0_t17_loop i).trips) : Fin 3 → Nat :=
  let c0_i32_153 : BitVec 32 := 0#32
  let c1_i32_155 : BitVec 32 := 1#32
  let arg17 : BitVec 32 := Scf.iv c0_i32_153 c1_i32_155 k0_t17
  let v499 : Index := Scalar.indexCast arg17
  let c160 : Index := 160#32
  let c0_342 : Index := 0#32
  ![v499.toNat, 160, 0]
def k0_off489 (i : grid0.Coords) (k0_t17 : Fin (k0_t17_loop i).trips) : Fin 3 → Nat :=
  let c0_i32_153 : BitVec 32 := 0#32
  let c1_i32_155 : BitVec 32 := 1#32
  let arg17 : BitVec 32 := Scf.iv c0_i32_153 c1_i32_155 k0_t17
  let v533 : Index := Scalar.indexCast arg17
  let c240 : Index := 240#32
  let c0_363 : Index := 0#32
  ![v533.toNat, 240, 0]
def k0_off490 (i : grid0.Coords) (k0_t17 : Fin (k0_t17_loop i).trips) : Fin 3 → Nat :=
  let c0_i32_153 : BitVec 32 := 0#32
  let c1_i32_155 : BitVec 32 := 1#32
  let arg17 : BitVec 32 := Scf.iv c0_i32_153 c1_i32_155 k0_t17
  let v567 : Index := Scalar.indexCast arg17
  let c320_384 : Index := 320#32
  let c0_385 : Index := 0#32
  ![v567.toNat, 320, 0]
def k0_off491 (i : grid0.Coords) (k0_t17 : Fin (k0_t17_loop i).trips) : Fin 3 → Nat :=
  let c0_i32_153 : BitVec 32 := 0#32
  let c1_i32_155 : BitVec 32 := 1#32
  let arg17 : BitVec 32 := Scf.iv c0_i32_153 c1_i32_155 k0_t17
  let v601 : Index := Scalar.indexCast arg17
  let c400 : Index := 400#32
  let c0_406 : Index := 0#32
  ![v601.toNat, 400, 0]
def k0_off492 (i : grid0.Coords) (k0_t17 : Fin (k0_t17_loop i).trips) : Fin 3 → Nat :=
  let c0_i32_153 : BitVec 32 := 0#32
  let c1_i32_155 : BitVec 32 := 1#32
  let arg17 : BitVec 32 := Scf.iv c0_i32_153 c1_i32_155 k0_t17
  let v635 : Index := Scalar.indexCast arg17
  let c480 : Index := 480#32
  let c0_427 : Index := 0#32
  ![v635.toNat, 480, 0]
def k0_off493 (i : grid0.Coords) (k0_t17 : Fin (k0_t17_loop i).trips) : Fin 3 → Nat :=
  let c0_i32_153 : BitVec 32 := 0#32
  let c1_i32_155 : BitVec 32 := 1#32
  let arg17 : BitVec 32 := Scf.iv c0_i32_153 c1_i32_155 k0_t17
  let v669 : Index := Scalar.indexCast arg17
  let c560 : Index := 560#32
  let c0_448 : Index := 0#32
  ![v669.toNat, 560, 0]
@[reducible] def k0_t18_loop (i : grid0.Coords) : Scf.Loop 32 :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let v249 : BitVec 32 := Scalar.addi c0_i32_153 v248
  let c1_i32_156 : BitVec 32 := 1#32
  ⟨v252, v249, c1_i32_156⟩
def k0_mult4 (i : grid0.Coords) (k0_t18 : Fin (k0_t18_loop i).trips) : BitVec 32 :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let c256_i32_213 : BitVec 32 := 256#32
  let v321 : BitVec 32 := Scalar.muli arg17 c256_i32_213
  v321
def k0_off494 (i : grid0.Coords) (k0_t18 : Fin (k0_t18_loop i).trips) : Fin 3 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let v323 : Index := Scalar.indexCast arg17
  let c0_214 : Index := 0#32
  let c0_215 : Index := 0#32
  ![v323.toNat, 0, 0]
def k0_off495 (i : grid0.Coords) (k0_t18 : Fin (k0_t18_loop i).trips) : Fin 2 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let c256_i32_213 : BitVec 32 := 256#32
  let v321 : BitVec 32 := Scalar.muli arg17 c256_i32_213
  let v322 : BitVec 32 := v321
  let v330 : Index := Scalar.indexCast v322
  let c0_218 : Index := 0#32
  ![v330.toNat, 0]
def k0_off496 (i : grid0.Coords) (k0_t18 : Fin (k0_t18_loop i).trips) : Fin 2 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let c256_i32_213 : BitVec 32 := 256#32
  let v321 : BitVec 32 := Scalar.muli arg17 c256_i32_213
  let v322 : BitVec 32 := v321
  let v352 : Index := Scalar.indexCast v322
  let c128_236 : Index := 128#32
  ![v352.toNat, 128]
def k0_off497 (i : grid0.Coords) (k0_t18 : Fin (k0_t18_loop i).trips) : Fin 2 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let c256_i32_213 : BitVec 32 := 256#32
  let v321 : BitVec 32 := Scalar.muli arg17 c256_i32_213
  let v322 : BitVec 32 := v321
  let v374 : Index := Scalar.indexCast v322
  let c256_254 : Index := 256#32
  ![v374.toNat, 256]
def k0_off498 (i : grid0.Coords) (k0_t18 : Fin (k0_t18_loop i).trips) : Fin 2 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let c256_i32_213 : BitVec 32 := 256#32
  let v321 : BitVec 32 := Scalar.muli arg17 c256_i32_213
  let v322 : BitVec 32 := v321
  let v396 : Index := Scalar.indexCast v322
  let c384_272 : Index := 384#32
  ![v396.toNat, 384]
def k0_off499 (i : grid0.Coords) (k0_t18 : Fin (k0_t18_loop i).trips) : Fin 3 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let v431 : Index := Scalar.indexCast arg17
  let c0_299 : Index := 0#32
  let c0_300 : Index := 0#32
  ![v431.toNat, 0, 0]
def k0_off500 (i : grid0.Coords) (k0_t18 : Fin (k0_t18_loop i).trips) : Fin 3 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let v465 : Index := Scalar.indexCast arg17
  let c80 : Index := 80#32
  let c0_321 : Index := 0#32
  ![v465.toNat, 80, 0]
def k0_off501 (i : grid0.Coords) (k0_t18 : Fin (k0_t18_loop i).trips) : Fin 3 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let v499 : Index := Scalar.indexCast arg17
  let c160 : Index := 160#32
  let c0_342 : Index := 0#32
  ![v499.toNat, 160, 0]
def k0_off502 (i : grid0.Coords) (k0_t18 : Fin (k0_t18_loop i).trips) : Fin 3 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let v533 : Index := Scalar.indexCast arg17
  let c240 : Index := 240#32
  let c0_363 : Index := 0#32
  ![v533.toNat, 240, 0]
def k0_off503 (i : grid0.Coords) (k0_t18 : Fin (k0_t18_loop i).trips) : Fin 3 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let v567 : Index := Scalar.indexCast arg17
  let c320_384 : Index := 320#32
  let c0_385 : Index := 0#32
  ![v567.toNat, 320, 0]
def k0_off504 (i : grid0.Coords) (k0_t18 : Fin (k0_t18_loop i).trips) : Fin 3 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let v601 : Index := Scalar.indexCast arg17
  let c400 : Index := 400#32
  let c0_406 : Index := 0#32
  ![v601.toNat, 400, 0]
def k0_off505 (i : grid0.Coords) (k0_t18 : Fin (k0_t18_loop i).trips) : Fin 3 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let v635 : Index := Scalar.indexCast arg17
  let c480 : Index := 480#32
  let c0_427 : Index := 0#32
  ![v635.toNat, 480, 0]
def k0_off506 (i : grid0.Coords) (k0_t18 : Fin (k0_t18_loop i).trips) : Fin 3 → Nat :=
  let c0_i32_153 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v248 : BitVec 32 := Scalar.subi v20 c0_i32_153
  let c1_i32_154 : BitVec 32 := 1#32
  let v250 : BitVec 32 := Scalar.divsi v248 c1_i32_154
  let v251 : BitVec 32 := Scalar.muli v250 c1_i32_154
  let v252 : BitVec 32 := Scalar.addi c0_i32_153 v251
  let c1_i32_156 : BitVec 32 := 1#32
  let arg17 : BitVec 32 := Scf.iv v252 c1_i32_156 k0_t18
  let v669 : Index := Scalar.indexCast arg17
  let c560 : Index := 560#32
  let c0_448 : Index := 0#32
  ![v669.toNat, 560, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8192x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S32x640x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InMain.lean ====
abbrev S32768x1024 : Shape := ⟨2, ![32768, 1024]⟩
abbrev S1024 : Shape := ⟨1, ![1024]⟩
abbrev S1024x8272 : Shape := ⟨2, ![1024, 8272]⟩
abbrev S1024x1024 : Shape := ⟨2, ![1024, 1024]⟩
abbrev S1024x512 : Shape := ⟨2, ![1024, 512]⟩
abbrev S1024x4 : Shape := ⟨2, ![1024, 4]⟩
abbrev S1024x64 : Shape := ⟨2, ![1024, 64]⟩
abbrev S1024x8 : Shape := ⟨2, ![1024, 8]⟩
abbrev S1024x3072 : Shape := ⟨2, ![1024, 3072]⟩
abbrev S1024x8192 : Shape := ⟨2, ![1024, 8192]⟩
abbrev S_ : Shape := ⟨0, ![]⟩
abbrev S1024x48 : Shape := ⟨2, ![1024, 48]⟩
abbrev S1024x128 : Shape := ⟨2, ![1024, 128]⟩
abbrev S1x1024 : Shape := ⟨2, ![1, 1024]⟩
abbrev S32768x8192 : Shape := ⟨2, ![32768, 8192]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 25
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8272, .f32⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S1024x4, .f32⟩
  | .hbm, ⟨7, _⟩ => ⟨S1024x4, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x64, .f32⟩
  | .hbm, ⟨15, _⟩ => ⟨S1024x8, .f32⟩
  | .hbm, ⟨16, _⟩ => ⟨S1024x3072, .f32⟩
  | .hbm, ⟨17, _⟩ => ⟨S1024x8192, .f32⟩
  | .hbm, ⟨18, _⟩ => ⟨S1024x8192, .bf16⟩
  | .hbm, ⟨19, _⟩ => ⟨S_, .f32⟩
  | .hbm, ⟨20, _⟩ => ⟨S1024x48, .f32⟩
  | .hbm, ⟨21, _⟩ => ⟨S1024x128, .f32⟩
  | .hbm, ⟨22, _⟩ => ⟨S1024x128, .bf16⟩
  | .hbm, ⟨23, _⟩ => ⟨S1x1024, .f32⟩
  | .hbm, ⟨24, _⟩ => ⟨S32768x8192, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InMainRefIdeal.lean ====
abbrev S32768x1024 : Shape := ⟨2, ![32768, 1024]⟩
abbrev S1024 : Shape := ⟨1, ![1024]⟩
abbrev S1024x8272 : Shape := ⟨2, ![1024, 8272]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8272 : Shape := ⟨2, ![32768, 8272]⟩
abbrev S32768x2048 : Shape := ⟨2, ![32768, 2048]⟩
abbrev S32768x3072 : Shape := ⟨2, ![32768, 3072]⟩
abbrev S32768x8192 : Shape := ⟨2, ![32768, 8192]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8272, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8272, .f32⟩
  | .hbm, ⟨20, _⟩ => ⟨S32768x2048, .f32⟩
  | .hbm, ⟨21, _⟩ => ⟨S32768x3072, .f32⟩
  | .hbm, ⟨22, _⟩ => ⟨S32768x3072, .f32⟩
  | .hbm, ⟨23, _⟩ => ⟨S32768x8192, .f32⟩
  | .hbm, ⟨24, _⟩ => ⟨S32768x8192, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== InSide.lean ====
abbrev S32768x1024 : Shape := ⟨2, ![32768, 1024]⟩
abbrev S1024 : Shape := ⟨1, ![1024]⟩
abbrev S1024x8272 : Shape := ⟨2, ![1024, 8272]⟩
abbrev S1024x1024 : Shape := ⟨2, ![1024, 1024]⟩
abbrev S1024x512 : Shape := ⟨2, ![1024, 512]⟩
abbrev S1024x4 : Shape := ⟨2, ![1024, 4]⟩
abbrev S1024x64 : Shape := ⟨2, ![1024, 64]⟩
abbrev S1024x8 : Shape := ⟨2, ![1024, 8]⟩
abbrev S1024x3072 : Shape := ⟨2, ![1024, 3072]⟩
abbrev S1024x8192 : Shape := ⟨2, ![1024, 8192]⟩
abbrev S_ : Shape := ⟨0, ![]⟩
abbrev S1024x48 : Shape := ⟨2, ![1024, 48]⟩
abbrev S1024x128 : Shape := ⟨2, ![1024, 128]⟩
abbrev S1x1024 : Shape := ⟨2, ![1, 1024]⟩
abbrev S32768x128 : Shape := ⟨2, ![32768, 128]⟩
abbrev S1024x1 : Shape := ⟨2, ![1024, 1]⟩

abbrev nBuf : Space → Nat
  | .hbm => 25
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8272, .f32⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S1024x4, .f32⟩
  | .hbm, ⟨7, _⟩ => ⟨S1024x4, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x64, .f32⟩
  | .hbm, ⟨15, _⟩ => ⟨S1024x8, .f32⟩
  | .hbm, ⟨16, _⟩ => ⟨S1024x3072, .f32⟩
  | .hbm, ⟨17, _⟩ => ⟨S1024x8192, .f32⟩
  | .hbm, ⟨18, _⟩ => ⟨S1024x8192, .bf16⟩
  | .hbm, ⟨19, _⟩ => ⟨S_, .f32⟩
  | .hbm, ⟨20, _⟩ => ⟨S1024x48, .f32⟩
  | .hbm, ⟨21, _⟩ => ⟨S1024x128, .f32⟩
  | .hbm, ⟨22, _⟩ => ⟨S1024x128, .bf16⟩
  | .hbm, ⟨23, _⟩ => ⟨S1x1024, .f32⟩
  | .hbm, ⟨24, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InSideRefIdeal.lean ====
abbrev S32768x1024 : Shape := ⟨2, ![32768, 1024]⟩
abbrev S1024 : Shape := ⟨1, ![1024]⟩
abbrev S1024x8272 : Shape := ⟨2, ![1024, 8272]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8272 : Shape := ⟨2, ![32768, 8272]⟩
abbrev S32768x64 : Shape := ⟨2, ![32768, 64]⟩
abbrev S32768x8 : Shape := ⟨2, ![32768, 8]⟩
abbrev S32768x80 : Shape := ⟨2, ![32768, 80]⟩
abbrev S32768x128 : Shape := ⟨2, ![32768, 128]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8272, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8272, .f32⟩
  | .hbm, ⟨20, _⟩ => ⟨S32768x64, .f32⟩
  | .hbm, ⟨21, _⟩ => ⟨S32768x8, .f32⟩
  | .hbm, ⟨22, _⟩ => ⟨S32768x8, .f32⟩
  | .hbm, ⟨23, _⟩ => ⟨S32768x80, .f32⟩
  | .hbm, ⟨24, _⟩ => ⟨S_, .i32⟩
  | .hbm, ⟨25, _⟩ => ⟨S_, .f32⟩
  | .hbm, ⟨26, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Merge.lean ====
abbrev S32768x512 : Shape := ⟨2, ![32768, 512]⟩
abbrev S32768x8192 : Shape := ⟨2, ![32768, 8192]⟩
abbrev S32768x1024 : Shape := ⟨2, ![32768, 1024]⟩
abbrev S3x512x1024 : Shape := ⟨3, ![3, 512, 1024]⟩
abbrev S1024x1024 : Shape := ⟨2, ![1024, 1024]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 10
  | .vmem => 18
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x8192, .bf16⟩
  | .hbm, ⟨4, _⟩ => ⟨S32768x1024, .f32⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S3x512x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S32768x512 : Shape := ⟨2, ![32768, 512]⟩
abbrev S32768x8192 : Shape := ⟨2, ![32768, 8192]⟩
abbrev S32768x1024 : Shape := ⟨2, ![32768, 1024]⟩
abbrev S3x512x1024 : Shape := ⟨3, ![3, 512, 1024]⟩
abbrev S1024x1024 : Shape := ⟨2, ![1024, 1024]⟩
abbrev S32768x3072 : Shape := ⟨2, ![32768, 3072]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x8192, .bf16⟩
  | .hbm, ⟨4, _⟩ => ⟨S32768x1024, .f32⟩
  | .hbm, ⟨5, _⟩ => ⟨S3x512x1024, .f32⟩
  | .hbm, ⟨6, _⟩ => ⟨S1024x1024, .f32⟩
  | .hbm, ⟨7, _⟩ => ⟨S32768x3072, .bf16⟩
  | .hbm, ⟨8, _⟩ => ⟨S32768x512, .f32⟩
  | .hbm, ⟨9, _⟩ => ⟨S32768x512, .f32⟩
  | .hbm, ⟨10, _⟩ => ⟨S32768x512, .f32⟩
  | .hbm, ⟨11, _⟩ => ⟨S32768x3072, .f32⟩
  | .hbm, ⟨12, _⟩ => ⟨S32768x3072, .f32⟩
  | .hbm, ⟨13, _⟩ => ⟨S32768x3072, .f32⟩
  | .hbm, ⟨14, _⟩ => ⟨S_, .f32⟩
  | .hbm, ⟨15, _⟩ => ⟨S32768x3072, .f32⟩
  | .hbm, ⟨16, _⟩ => ⟨S32768x3072, .f32⟩
  | .hbm, ⟨17, _⟩ => ⟨S_, .f32⟩
  | .hbm, ⟨18, _⟩ => ⟨S32768x3072, .f32⟩
  | .hbm, ⟨19, _⟩ => ⟨S32768x3072, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S1x512x1024, .f32⟩
  | .hbm, ⟨24, _⟩ => ⟨S512x1024, .f32⟩
  | .hbm, ⟨25, _⟩ => ⟨S32768x1024, .f32⟩
  | .hbm, ⟨26, _⟩ => ⟨S32768x1024, .f32⟩
  | .hbm, ⟨27, _⟩ => ⟨S1x512x1024, .f32⟩
  | .hbm, ⟨28, _⟩ => ⟨S512x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S1x512x1024, .f32⟩
  | .hbm, ⟨33, _⟩ => ⟨S512x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== FfnUp.lean ====
abbrev S32768x1024 : Shape := ⟨2, ![32768, 1024]⟩
abbrev S1024 : Shape := ⟨1, ![1024]⟩
abbrev S1024x6144 : Shape := ⟨2, ![1024, 6144]⟩
abbrev S1x1024 : Shape := ⟨2, ![1, 1024]⟩
abbrev S32768x6144 : Shape := ⟨2, ![32768, 6144]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S1x1024, .f32⟩
  | .hbm, ⟨4, _⟩ => ⟨S1024x6144, .bf16⟩
  | .hbm, ⟨5, _⟩ => ⟨S32768x6144, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S32768x1024 : Shape := ⟨2, ![32768, 1024]⟩
abbrev S1024 : Shape := ⟨1, ![1024]⟩
abbrev S1024x6144 : Shape := ⟨2, ![1024, 6144]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x6144 : Shape := ⟨2, ![32768, 6144]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x6144, .f32⟩
  | .hbm, ⟨20, _⟩ => ⟨S32768x6144, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== FfnDown.lean ====
abbrev S32768x6144 : Shape := ⟨2, ![32768, 6144]⟩
abbrev S3x3072 : Shape := ⟨2, ![3, 3072]⟩
abbrev S3072 : Shape := ⟨1, ![3072]⟩
abbrev S3072x1024 : Shape := ⟨2, ![3072, 1024]⟩
abbrev S32768x1024 : Shape := ⟨2, ![32768, 1024]⟩
abbrev S1x3072 : Shape := ⟨2, ![1, 3072]⟩
abbrev S256x3072 : Shape := ⟨2, ![256, 3072]⟩
abbrev S256x1024 : Shape := ⟨2, ![256, 1024]⟩
abbrev S264x3072 : Shape := ⟨2, ![264, 3072]⟩
abbrev S8x3072 : Shape := ⟨2, ![8, 3072]⟩

abbrev nBuf : Space → Nat
  | .hbm => 8
  | .vmem => 12
  | .smem => 0
  | _ => 0

abbrev bufTy : (tb : Table) → Fin (tcTables nBuf tb) → BufTy
  | .hbm, ⟨0, _⟩ => ⟨S32768x6144, .bf16⟩
  | .hbm, ⟨1, _⟩ => ⟨S3x3072, .f32⟩
  | .hbm, ⟨2, _⟩ => ⟨S3072, .f32⟩
  | .hbm, ⟨3, _⟩ => ⟨S3072x1024, .f32⟩
  | .hbm, ⟨4, _⟩ => ⟨S32768x1024, .f32⟩
  | .hbm, ⟨5, _⟩ => ⟨S1x3072, .f32⟩
  | .hbm, ⟨6, _⟩ => ⟨S3072x1024, .bf16⟩
  | .hbm, ⟨7, _⟩ => ⟨S32768x1024, .f32⟩
  | .local _ .vmem, ⟨0, _⟩ => ⟨S256x3072, .bf16⟩
  | .local _ .vmem, ⟨1, _⟩ => ⟨S256x3072, .bf16⟩
  | .local _ .vmem, ⟨2, _⟩ => ⟨S256x3072, .bf16⟩
  | .local _ .vmem, ⟨3, _⟩ => ⟨S256x3072, .bf16⟩
  | .local _ .vmem, ⟨4, _⟩ => ⟨S3x3072, .f32⟩
  | .local _ .vmem, ⟨5, _⟩ => ⟨S1x3072, .f32⟩
  | .local _ .vmem, ⟨6, _⟩ => ⟨S3072x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S264x3072, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnDownRefIdeal.lean ====
abbrev S32768x6144 : Shape := ⟨2, ![32768, 6144]⟩
abbrev S3x3072 : Shape := ⟨2, ![3, 3072]⟩
abbrev S3072 : Shape := ⟨1, ![3072]⟩
abbrev S3072x1024 : Shape := ⟨2, ![3072, 1024]⟩
abbrev S32768x1024 : Shape := ⟨2, ![32768, 1024]⟩
abbrev S4x8192x6144 : Shape := ⟨3, ![4, 8192, 6144]⟩
abbrev S4x8192x3072 : Shape := ⟨3, ![4, 8192, 3072]⟩
abbrev S_ : Shape := ⟨0, ![]⟩
abbrev S4x8194x3072 : Shape := ⟨3, ![4, 8194, 3072]⟩
abbrev S1x3072 : Shape := ⟨2, ![1, 3072]⟩
abbrev S1x1x3072 : Shape := ⟨3, ![1, 1, 3072]⟩
abbrev S4x8192x1024 : Shape := ⟨3, ![4, 8192, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S3x3072, .f32⟩
  | .hbm, ⟨2, _⟩ => ⟨S3072, .f32⟩
  | .hbm, ⟨3, _⟩ => ⟨S3072x1024, .f32⟩
  | .hbm, ⟨4, _⟩ => ⟨S32768x1024, .f32⟩
  | .hbm, ⟨5, _⟩ => ⟨S32768x6144, .f32⟩
  | .hbm, ⟨6, _⟩ => ⟨S4x8192x6144, .f32⟩
  | .hbm, ⟨7, _⟩ => ⟨S4x8192x3072, .f32⟩
  | .hbm, ⟨8, _⟩ => ⟨S4x8192x3072, .f32⟩
  | .hbm, ⟨9, _⟩ => ⟨S_, .i32⟩
  | .hbm, ⟨10, _⟩ => ⟨S_, .f32⟩
  | .hbm, ⟨11, _⟩ => ⟨S4x8194x3072, .f32⟩
  | .hbm, ⟨12, _⟩ => ⟨S1x3072, .f32⟩
  | .hbm, ⟨13, _⟩ => ⟨S3072, .f32⟩
  | .hbm, ⟨14, _⟩ => ⟨S4x8192x3072, .f32⟩
  | .hbm, ⟨15, _⟩ => ⟨S1x1x3072, .f32⟩
  | .hbm, ⟨16, _⟩ => ⟨S4x8192x3072, .f32⟩
  | .hbm, ⟨17, _⟩ => ⟨S4x8192x3072, .f32⟩
  | .hbm, ⟨18, _⟩ => ⟨S_, .f32⟩
  | .hbm, ⟨19, _⟩ => ⟨S4x8192x3072, .f32⟩
  | .hbm, ⟨20, _⟩ => ⟨S4x8192x3072, .f32⟩
  | .hbm, ⟨21, _⟩ => ⟨S1x3072, .f32⟩
  | .hbm, ⟨22, _⟩ => ⟨S3072, .f32⟩
  | .hbm, ⟨23, _⟩ => ⟨S4x8192x3072, .f32⟩
  | .hbm, ⟨24, _⟩ => ⟨S1x1x3072, .f32⟩
  | .hbm, ⟨25, _⟩ => ⟨S4x8192x3072, .f32⟩
  | .hbm, ⟨26, _⟩ => ⟨S4x8192x3072, .f32⟩
  | .hbm, ⟨27, _⟩ => ⟨S4x8192x3072, .f32⟩
  | .hbm, ⟨28, _⟩ => ⟨S1x3072, .f32⟩
  | .hbm, ⟨29, _⟩ => ⟨S3072, .f32⟩
  | .hbm, ⟨30, _⟩ => ⟨S4x8192x3072, .f32⟩
  | .hbm, ⟨31, _⟩ => ⟨S1x1x3072, .f32⟩
  | .hbm, ⟨32, _⟩ => ⟨S4x8192x3072, .f32⟩
  | .hbm, ⟨33, _⟩ => ⟨S4x8192x3072, .f32⟩
  | .hbm, ⟨34, _⟩ => ⟨S4x8192x3072, .f32⟩
  | .hbm, ⟨35, _⟩ => ⟨S1x1x3072, .f32⟩
  | .hbm, ⟨36, _⟩ => ⟨S4x8192x3072, .f32⟩
  | .hbm, ⟨37, _⟩ => ⟨S4x8192x3072, .f32⟩
  | .hbm, ⟨38, _⟩ => ⟨S4x8192x3072, .f32⟩
  | .hbm, ⟨39, _⟩ => ⟨S4x8192x3072, .f32⟩
  | .hbm, ⟨40, _⟩ => ⟨S_, .f32⟩
  | .hbm, ⟨41, _⟩ => ⟨S4x8192x3072, .f32⟩
  | .hbm, ⟨42, _⟩ => ⟨S4x8192x3072, .f32⟩
  | .hbm, ⟨43, _⟩ => ⟨S4x8192x3072, .f32⟩
  | .hbm, ⟨44, _⟩ => ⟨S_, .f32⟩
  | .hbm, ⟨45, _⟩ => ⟨S4x8192x3072, .f32⟩
  | .hbm, ⟨46, _⟩ => ⟨S4x8192x3072, .f32⟩
  | .hbm, ⟨47, _⟩ => ⟨S4x8192x3072, .f32⟩
  | .hbm, ⟨48, _⟩ => ⟨S_, .f32⟩
  | .hbm, ⟨49, _⟩ => ⟨S4x8192x3072, .f32⟩
  | .hbm, ⟨50, _⟩ => ⟨S4x8192x3072, .f32⟩
  | .hbm, ⟨51, _⟩ => ⟨S_, .f32⟩
  | .hbm, ⟨52, _⟩ => ⟨S4x8192x3072, .f32⟩
  | .hbm, ⟨53, _⟩ => ⟨S4x8192x3072, .f32⟩
  | .hbm, ⟨54, _⟩ => ⟨S4x8192x3072, .f32⟩
  | .hbm, ⟨55, _⟩ => ⟨S4x8192x3072, .f32⟩
  | .hbm, ⟨56, _⟩ => ⟨S4x8192x1024, .f32⟩
  | .hbm, ⟨57, _⟩ => ⟨S32768x1024, .f32⟩
  | .hbm, ⟨58, _⟩ => ⟨S32768x1024, .f32⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== FinalNorm.lean ====
abbrev S4x8192x1024 : Shape := ⟨3, ![4, 8192, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S32768x1024, .f32⟩
  | .hbm, ⟨3, _⟩ => ⟨S1x1024, .f32⟩
  | .hbm, ⟨4, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x8192x1024, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x1, .f32⟩
  | .hbm, ⟨13, _⟩ => ⟨S4x8192x1024, .f32⟩
  | .hbm, ⟨14, _⟩ => ⟨S4x8192x1024, .f32⟩
  | .hbm, ⟨15, _⟩ => ⟨S1x1x1024, .f32⟩
  | .hbm, ⟨16, _⟩ => ⟨S4x8192x1024, .f32⟩
  | .hbm, ⟨17, _⟩ => ⟨S4x8192x1024, .f32⟩
  | .hbm, ⟨18, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Rope.lean ====
abbrev S4x8192 : Shape := ⟨2, ![4, 8192]⟩
abbrev S128 : Shape := ⟨1, ![128]⟩
abbrev S32 : Shape := ⟨1, ![32]⟩
abbrev S_ : Shape := ⟨0, ![]⟩
abbrev S128x1 : Shape := ⟨2, ![128, 1]⟩
abbrev S1x128 : Shape := ⟨2, ![1, 128]⟩
abbrev S32768x1 : Shape := ⟨2, ![32768, 1]⟩
abbrev S32768x128 : Shape := ⟨2, ![32768, 128]⟩
abbrev S1024x1 : Shape := ⟨2, ![1024, 1]⟩
abbrev S1024x128 : Shape := ⟨2, ![1024, 128]⟩

abbrev nBuf : Space → Nat
  | .hbm => 30
  | .vmem => 8
  | .smem => 0
  | _ => 0

abbrev bufTy : (tb : Table) → Fin (tcTables nBuf tb) → BufTy
  | .hbm, ⟨0, _⟩ => ⟨S4x8192, .i32⟩
  | .hbm, ⟨1, _⟩ => ⟨S128, .i32⟩
  | .hbm, ⟨2, _⟩ => ⟨S128, .i1⟩
  | .hbm, ⟨3, _⟩ => ⟨S128, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S128, .f32⟩
  | .hbm, ⟨24, _⟩ => ⟨S1x128, .f32⟩
  | .hbm, ⟨25, _⟩ => ⟨S1x128, .f32⟩
  | .hbm, ⟨26, _⟩ => ⟨S32768x1, .i32⟩
  | .hbm, ⟨27, _⟩ => ⟨S32768x1, .f32⟩
  | .hbm, ⟨28, _⟩ => ⟨S32768x128, .f32⟩
  | .hbm, ⟨29, _⟩ => ⟨S32768x128, .f32⟩
  | .local _ .vmem, ⟨0, _⟩ => ⟨S1024x1, .f32⟩
  | .local _ .vmem, ⟨1, _⟩ => ⟨S1024x1, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_c_5 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S4x8192 : Shape := ⟨2, ![4, 8192]⟩
abbrev S32 : Shape := ⟨1, ![32]⟩
abbrev S_ : Shape := ⟨0, ![]⟩
abbrev S32768 : Shape := ⟨1, ![32768]⟩
abbrev S32768x1 : Shape := ⟨2, ![32768, 1]⟩
abbrev S1x32 : Shape := ⟨2, ![1, 32]⟩
abbrev S32768x32 : Shape := ⟨2, ![32768, 32]⟩
abbrev S32768x128 : Shape := ⟨2, ![32768, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32768, .i32⟩
  | .hbm, ⟨16, _⟩ => ⟨S32768, .f32⟩
  | .hbm, ⟨17, _⟩ => ⟨S32768x1, .f32⟩
  | .hbm, ⟨18, _⟩ => ⟨S1x32, .f32⟩
  | .hbm, ⟨19, _⟩ => ⟨S32768x32, .f32⟩
  | .hbm, ⟨20, _⟩ => ⟨S32768x32, .f32⟩
  | .hbm, ⟨21, _⟩ => ⟨S32768x32, .f32⟩
  | .hbm, ⟨22, _⟩ => ⟨S32768x32, .f32⟩
  | .hbm, ⟨23, _⟩ => ⟨S32768x32, .f32⟩
  | .hbm, ⟨24, _⟩ => ⟨S32768x128, .f32⟩
  | .hbm, ⟨25, _⟩ => ⟨S32768x32, .f32⟩
  | .hbm, ⟨26, _⟩ => ⟨S32768x32, .f32⟩
  | .hbm, ⟨27, _⟩ => ⟨S32768x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Prep.lean ====
abbrev S32768x8192 : Shape := ⟨2, ![32768, 8192]⟩
abbrev S32768x128 : Shape := ⟨2, ![32768, 128]⟩
abbrev S4x8192x32 : Shape := ⟨3, ![4, 8192, 32]⟩
abbrev S32768x32 : Shape := ⟨2, ![32768, 32]⟩
abbrev S32768x512 : Shape := ⟨2, ![32768, 512]⟩
abbrev S32768x256 : Shape := ⟨2, ![32768, 256]⟩
abbrev S128x640x256 : Shape := ⟨3, ![128, 640, 256]⟩
abbrev S1024x512 : Shape := ⟨2, ![1024, 512]⟩
abbrev S1024x128 : Shape := ⟨2, ![1024, 128]⟩
abbrev S1024x256 : Shape := ⟨2, ![1024, 256]⟩
abbrev S4x640x256 : Shape := ⟨3, ![4, 640, 256]⟩
abbrev S16x256 : Shape := ⟨2, ![16, 256]⟩
abbrev S256x512 : Shape := ⟨2, ![256, 512]⟩
abbrev S512x256 : Shape := ⟨2, ![512, 256]⟩
abbrev S64x256 : Shape := ⟨2, ![64, 256]⟩
abbrev S1x64x256 : Shape := ⟨3, ![1, 64, 256]⟩
abbrev S1x16x256 : Shape := ⟨3, ![1, 16, 256]⟩
abbrev S1024x1 : Shape := ⟨2, ![1024, 1]⟩

abbrev nBuf : Space → Nat
  | .hbm => 15
  | .vmem => 24
  | .smem => 0
  | _ => 0

abbrev bufTy : (tb : Table) → Fin (tcTables nBuf tb) → BufTy
  | .hbm, ⟨0, _⟩ => ⟨S32768x8192, .bf16⟩
  | .hbm, ⟨1, _⟩ => ⟨S32768x128, .f32⟩
  | .hbm, ⟨2, _⟩ => ⟨S4x8192x32, .f32⟩
  | .hbm, ⟨3, _⟩ => ⟨S4x8192x32, .f32⟩
  | .hbm, ⟨4, _⟩ => ⟨S32768x32, .f32⟩
  | .hbm, ⟨5, _⟩ => ⟨S32768x32, .f32⟩
  | .hbm, ⟨6, _⟩ => ⟨S32768x128, .f32⟩
  | .hbm, ⟨7, _⟩ => ⟨S32768x32, .f32⟩
  | .hbm, ⟨8, _⟩ => ⟨S32768x32, .f32⟩
  | .hbm, ⟨9, _⟩ => ⟨S32768x128, .f32⟩
  | .hbm, ⟨10, _⟩ => ⟨S32768x512, .bf16⟩
  | .hbm, ⟨11, _⟩ => ⟨S32768x512, .bf16⟩
  | .hbm, ⟨12, _⟩ => ⟨S32768x512, .bf16⟩
  | .hbm, ⟨13, _⟩ => ⟨S32768x256, .bf16⟩
  | .hbm, ⟨14, _⟩ => ⟨S128x640x256, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x256, .bf16⟩
  | .local _ .vmem, ⟨21, _⟩ => ⟨S1024x256, .bf16⟩
  | .local _ .vmem, ⟨22, _⟩ => ⟨S4x640x256, .bf16⟩
  | .local _ .vmem, ⟨23, _⟩ => ⟨S4x640x256, .bf16⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x640x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PrepRefIdeal.lean ====
abbrev S32768x8192 : Shape := ⟨2, ![32768, 8192]⟩
abbrev S32768x128 : Shape := ⟨2, ![32768, 128]⟩
abbrev S4x8192x32 : Shape := ⟨3, ![4, 8192, 32]⟩
abbrev S32768x32 : Shape := ⟨2, ![32768, 32]⟩
abbrev S32768x512 : Shape := ⟨2, ![32768, 512]⟩
abbrev S32768x8x64 : Shape := ⟨3, ![32768, 8, 64]⟩
abbrev S32768x8x32 : Shape := ⟨3, ![32768, 8, 32]⟩
abbrev S32768x1x32 : Shape := ⟨3, ![32768, 1, 32]⟩
abbrev S_ : Shape := ⟨0, ![]⟩
abbrev S32768x8 : Shape := ⟨2, ![32768, 8]⟩
abbrev S32768x8x1 : Shape := ⟨3, ![32768, 8, 1]⟩
abbrev S32768x64 : Shape := ⟨2, ![32768, 64]⟩
abbrev S32768x1x64 : Shape := ⟨3, ![32768, 1, 64]⟩
abbrev S32768x256 : Shape := ⟨2, ![32768, 256]⟩
abbrev S128x256x8x64 : Shape := ⟨4, ![128, 256, 8, 64]⟩
abbrev S128x8x64x256 : Shape := ⟨4, ![128, 8, 64, 256]⟩
abbrev S128x8x16x256 : Shape := ⟨4, ![128, 8, 16, 256]⟩
abbrev S128x8x80x256 : Shape := ⟨4, ![128, 8, 80, 256]⟩
abbrev S128x640x256 : Shape := ⟨3, ![128, 640, 256]⟩

abbrev nBuf : Space → Nat
  | .hbm => 106
  | .vmem => 0
  | .smem => 0
  | _ => 0

abbrev bufTy : (tb : Table) → Fin (tcTables nBuf tb) → BufTy
  | .hbm, ⟨0, _⟩ => ⟨S32768x8192, .bf16⟩
  | .hbm, ⟨1, _⟩ => ⟨S32768x128, .f32⟩
  | .hbm, ⟨2, _⟩ => ⟨S4x8192x32, .f32⟩
  | .hbm, ⟨3, _⟩ => ⟨S4x8192x32, .f32⟩
  | .hbm, ⟨4, _⟩ => ⟨S32768x32, .f32⟩
  | .hbm, ⟨5, _⟩ => ⟨S32768x32, .f32⟩
  | .hbm, ⟨6, _⟩ => ⟨S32768x512, .bf16⟩
  | .hbm, ⟨7, _⟩ => ⟨S32768x8x64, .bf16⟩
  | .hbm, ⟨8, _⟩ => ⟨S32768x8x64, .f32⟩
  | .hbm, ⟨9, _⟩ => ⟨S32768x8x32, .f32⟩
  | .hbm, ⟨10, _⟩ => ⟨S32768x8x32, .f32⟩
  | .hbm, ⟨11, _⟩ => ⟨S32768x1x32, .f32⟩
  | .hbm, ⟨12, _⟩ => ⟨S32768x1x32, .f32⟩
  | .hbm, ⟨13, _⟩ => ⟨S32768x8x32, .f32⟩
  | .hbm, ⟨14, _⟩ => ⟨S32768x8x32, .f32⟩
  | .hbm, ⟨15, _⟩ => ⟨S32768x8x32, .f32⟩
  | .hbm, ⟨16, _⟩ => ⟨S32768x8x32, .f32⟩
  | .hbm, ⟨17, _⟩ => ⟨S32768x8x32, .f32⟩
  | .hbm, ⟨18, _⟩ => ⟨S32768x8x32, .f32⟩
  | .hbm, ⟨19, _⟩ => ⟨S32768x8x32, .f32⟩
  | .hbm, ⟨20, _⟩ => ⟨S32768x8x32, .f32⟩
  | .hbm, ⟨21, _⟩ => ⟨S32768x8x32, .f32⟩
  | .hbm, ⟨22, _⟩ => ⟨S32768x8x32, .f32⟩
  | .hbm, ⟨23, _⟩ => ⟨S32768x8x64, .f32⟩
  | .hbm, ⟨24, _⟩ => ⟨S32768x8x64, .bf16⟩
  | .hbm, ⟨25, _⟩ => ⟨S32768x8x64, .f32⟩
  | .hbm, ⟨26, _⟩ => ⟨S_, .f32⟩
  | .hbm, ⟨27, _⟩ => ⟨S32768x8x64, .f32⟩
  | .hbm, ⟨28, _⟩ => ⟨S32768x8x64, .f32⟩
  | .hbm, ⟨29, _⟩ => ⟨S32768x512, .bf16⟩
  | .hbm, ⟨30, _⟩ => ⟨S32768x8x64, .bf16⟩
  | .hbm, ⟨31, _⟩ => ⟨S32768x8x64, .f32⟩
  | .hbm, ⟨32, _⟩ => ⟨S32768x8x32, .f32⟩
  | .hbm, ⟨33, _⟩ => ⟨S32768x8x32, .f32⟩
  | .hbm, ⟨34, _⟩ => ⟨S32768x1x32, .f32⟩
  | .hbm, ⟨35, _⟩ => ⟨S32768x1x32, .f32⟩
  | .hbm, ⟨36, _⟩ => ⟨S32768x8x32, .f32⟩
  | .hbm, ⟨37, _⟩ => ⟨S32768x8x32, .f32⟩
  | .hbm, ⟨38, _⟩ => ⟨S32768x8x32, .f32⟩
  | .hbm, ⟨39, _⟩ => ⟨S32768x8x32, .f32⟩
  | .hbm, ⟨40, _⟩ => ⟨S32768x8x32, .f32⟩
  | .hbm, ⟨41, _⟩ => ⟨S32768x8x32, .f32⟩
  | .hbm, ⟨42, _⟩ => ⟨S32768x8x32, .f32⟩
  | .hbm, ⟨43, _⟩ => ⟨S32768x8x32, .f32⟩
  | .hbm, ⟨44, _⟩ => ⟨S32768x8x32, .f32⟩
  | .hbm, ⟨45, _⟩ => ⟨S32768x8x32, .f32⟩
  | .hbm, ⟨46, _⟩ => ⟨S32768x8x64, .f32⟩
  | .hbm, ⟨47, _⟩ => ⟨S32768x8x64, .bf16⟩
  | .hbm, ⟨48, _⟩ => ⟨S32768x8, .f32⟩
  | .hbm, ⟨49, _⟩ => ⟨S32768x8, .f32⟩
  | .hbm, ⟨50, _⟩ => ⟨S_, .f32⟩
  | .hbm, ⟨51, _⟩ => ⟨S32768x8, .f32⟩
  | .hbm, ⟨52, _⟩ => ⟨S32768x8, .f32⟩
  | .hbm, ⟨53, _⟩ => ⟨S32768x512, .bf16⟩
  | .hbm, ⟨54, _⟩ => ⟨S32768x8x64, .bf16⟩
  | .hbm, ⟨55, _⟩ => ⟨S32768x8x64, .f32⟩
  | .hbm, ⟨56, _⟩ => ⟨S32768x8x32, .f32⟩
  | .hbm, ⟨57, _⟩ => ⟨S32768x8x32, .f32⟩
  | .hbm, ⟨58, _⟩ => ⟨S32768x1x32, .f32⟩
  | .hbm, ⟨59, _⟩ => ⟨S32768x1x32, .f32⟩
  | .hbm, ⟨60, _⟩ => ⟨S32768x8x32, .f32⟩
  | .hbm, ⟨61, _⟩ => ⟨S32768x8x32, .f32⟩
  | .hbm, ⟨62, _⟩ => ⟨S32768x8x32, .f32⟩
  | .hbm, ⟨63, _⟩ => ⟨S32768x8x32, .f32⟩
  | .hbm, ⟨64, _⟩ => ⟨S32768x8x32, .f32⟩
  | .hbm, ⟨65, _⟩ => ⟨S32768x8x32, .f32⟩
  | .hbm, ⟨66, _⟩ => ⟨S32768x8x32, .f32⟩
  | .hbm, ⟨67, _⟩ => ⟨S32768x8x32, .f32⟩
  | .hbm, ⟨68, _⟩ => ⟨S32768x8x32, .f32⟩
  | .hbm, ⟨69, _⟩ => ⟨S32768x8x32, .f32⟩
  | .hbm, ⟨70, _⟩ => ⟨S32768x8x64, .f32⟩
  | .hbm, ⟨71, _⟩ => ⟨S32768x8x64, .bf16⟩
  | .hbm, ⟨72, _⟩ => ⟨S32768x8x64, .f32⟩
  | .hbm, ⟨73, _⟩ => ⟨S32768x8x1, .f32⟩
  | .hbm, ⟨74, _⟩ => ⟨S32768x8x64, .f32⟩
  | .hbm, ⟨75, _⟩ => ⟨S32768x8x64, .f32⟩
  | .hbm, ⟨76, _⟩ => ⟨S32768x64, .f32⟩
  | .hbm, ⟨77, _⟩ => ⟨S32768x1x64, .f32⟩
  | .hbm, ⟨78, _⟩ => ⟨S32768x1x32, .f32⟩
  | .hbm, ⟨79, _⟩ => ⟨S32768x1x32, .f32⟩
  | .hbm, ⟨80, _⟩ => ⟨S32768x1x32, .f32⟩
  | .hbm, ⟨81, _⟩ => ⟨S32768x1x32, .f32⟩
  | .hbm, ⟨82, _⟩ => ⟨S32768x1x32, .f32⟩
  | .hbm, ⟨83, _⟩ => ⟨S32768x1x32, .f32⟩
  | .hbm, ⟨84, _⟩ => ⟨S32768x1x32, .f32⟩
  | .hbm, ⟨85, _⟩ => ⟨S32768x1x32, .f32⟩
  | .hbm, ⟨86, _⟩ => ⟨S32768x1x32, .f32⟩
  | .hbm, ⟨87, _⟩ => ⟨S32768x1x32, .f32⟩
  | .hbm, ⟨88, _⟩ => ⟨S32768x1x64, .f32⟩
  | .hbm, ⟨89, _⟩ => ⟨S32768x64, .f32⟩
  | .hbm, ⟨90, _⟩ => ⟨S_, .f32⟩
  | .hbm, ⟨91, _⟩ => ⟨S32768x64, .f32⟩
  | .hbm, ⟨92, _⟩ => ⟨S32768x256, .f32⟩
  | .hbm, ⟨93, _⟩ => ⟨S32768x512, .bf16⟩
  | .hbm, ⟨94, _⟩ => ⟨S128x256x8x64, .bf16⟩
  | .hbm, ⟨95, _⟩ => ⟨S128x8x64x256, .bf16⟩
  | .hbm, ⟨96, _⟩ => ⟨S_, .bf16⟩
  | .hbm, ⟨97, _⟩ => ⟨S128x8x16x256, .bf16⟩
  | .hbm, ⟨98, _⟩ => ⟨S128x8x80x256, .bf16⟩
  | .hbm, ⟨99, _⟩ => ⟨S128x640x256, .bf16⟩
  | .hbm, ⟨100, _⟩ => ⟨S32768x8x64, .bf16⟩
  | .hbm, ⟨101, _⟩ => ⟨S32768x512, .bf16⟩
  | .hbm, ⟨102, _⟩ => ⟨S32768x512, .bf16⟩
  | .hbm, ⟨103, _⟩ => ⟨S32768x8x64, .bf16⟩
  | .hbm, ⟨104, _⟩ => ⟨S32768x512, .bf16⟩
  | .hbm, ⟨105, _⟩ => ⟨S32768x256, .bf16⟩
  | _, _ => ⟨S32768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_0 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_cst_1 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_cst_2 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩

abbrev nD : Nat := 1
abbrev τ : Topo := Topo.v7x

variable {F : FTy → Type} [FloatOps F]
-- ==== Mlstm.lean ====
abbrev S32768x8192 : Shape := ⟨2, ![32768, 8192]⟩
abbrev S32768x128 : Shape := ⟨2, ![32768, 128]⟩
abbrev S4x1024 : Shape := ⟨2, ![4, 1024]⟩
abbrev S1024 : Shape := ⟨1, ![1024]⟩
abbrev S4 : Shape := ⟨1, ![4]⟩
abbrev S512 : Shape := ⟨1, ![512]⟩
abbrev S_ : Shape := ⟨0, ![]⟩
abbrev S1x128 : Shape := ⟨2, ![1, 128]⟩
abbrev S1 : Shape := ⟨1, ![1]⟩
abbrev S2 : Shape := ⟨1, ![2]⟩
abbrev S1x1024 : Shape := ⟨2, ![1, 1024]⟩
abbrev S1x512 : Shape := ⟨2, ![1, 512]⟩
abbrev S32768x512 : Shape := ⟨2, ![32768, 512]⟩
abbrev S128x1024 : Shape := ⟨2, ![128, 1024]⟩
abbrev S128x512 : Shape := ⟨2, ![128, 512]⟩
abbrev S128x128 : Shape := ⟨2, ![128, 128]⟩
abbrev S136x1024 : Shape := ⟨2, ![136, 1024]⟩
abbrev S4x128x128 : Shape := ⟨3, ![4, 128, 128]⟩
abbrev S8x128 : Shape := ⟨2, ![8, 128]⟩
abbrev S8x1024 : Shape := ⟨2, ![8, 1024]⟩
abbrev S128x1 : Shape := ⟨2, ![128, 1]⟩
abbrev S1x1 : Shape := ⟨2, ![1, 1]⟩
abbrev S128 : Shape := ⟨1, ![128]⟩
abbrev S1x128x128 : Shape := ⟨3, ![1, 128, 128]⟩

abbrev nBuf : Space → Nat
  | .hbm => 24
  | .vmem => 18
  | .smem => 0
  | _ => 0

abbrev bufTy : (tb : Table) → Fin (tcTables nBuf tb) → BufTy
  | .hbm, ⟨0, _⟩ => ⟨S32768x8192, .bf16⟩
  | .hbm, ⟨1, _⟩ => ⟨S32768x128, .f32⟩
  | .hbm, ⟨2, _⟩ => ⟨S4x1024, .f32⟩
  | .hbm, ⟨3, _⟩ => ⟨S1024, .f32⟩
  | .hbm, ⟨4, _⟩ => ⟨S4, .f32⟩
  | .hbm, ⟨5, _⟩ => ⟨S4, .f32⟩
  | .hbm, ⟨6, _⟩ => ⟨S512, .f32⟩
  | .hbm, ⟨7, _⟩ => ⟨S_, .f32⟩
  | .hbm, ⟨8, _⟩ => ⟨S1x128, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S1x1024, .f32⟩
  | .hbm, ⟨22, _⟩ => ⟨S1x512, .f32⟩
  | .hbm, ⟨23, _⟩ => ⟨S32768x512, .bf16⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x128, .f32⟩
  | .local _ .vmem, ⟨7, _⟩ => ⟨S128x128, .f32⟩
  | .local _ .vmem, ⟨8, _⟩ => ⟨S4x1024, .f32⟩
  | .local _ .vmem, ⟨9, _⟩ => ⟨S1x1024, .f32⟩
  | .local _ .vmem, ⟨10, _⟩ => ⟨S1x128, .f32⟩
  | .local _ .vmem, ⟨11, _⟩ => ⟨S1x512, .f32⟩
  | .local _ .vmem, ⟨12, _⟩ => ⟨S128x512, .bf16⟩
  | .local _ .vmem, ⟨13, _⟩ => ⟨S128x512, .bf16⟩
  | .local _ .vmem, ⟨14, _⟩ => ⟨S136x1024, .f32⟩
  | .local _ .vmem, ⟨15, _⟩ => ⟨S4x128x128, .f32⟩
  | .local _ .vmem, ⟨16, _⟩ => ⟨S8x128, .f32⟩
  | .local _ .vmem, ⟨17, _⟩ => ⟨S8x128, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Rglru.lean ====
abbrev S32768x8192 : Shape := ⟨2, ![32768, 8192]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S32768x512 : Shape := ⟨2, ![32768, 512]⟩
abbrev S256x512 : Shape := ⟨2, ![256, 512]⟩
abbrev S264x512 : Shape := ⟨2, ![264, 512]⟩
abbrev S8x512 : Shape := ⟨2, ![8, 512]⟩

abbrev nBuf : Space → Nat
  | .hbm => 41
  | .vmem => 15
  | .smem => 0
  | _ => 0

abbrev bufTy : (tb : Table) → Fin (tcTables nBuf tb) → BufTy
  | .hbm, ⟨0, _⟩ => ⟨S32768x8192, .bf16⟩
  | .hbm, ⟨1, _⟩ => ⟨S4x512, .f32⟩
  | .hbm, ⟨2, _⟩ => ⟨S512, .f32⟩
  | .hbm, ⟨3, _⟩ => ⟨S8x64x64, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S8x64x1x64, .f32⟩
  | .hbm, ⟨17, _⟩ => ⟨S8x1x8x1, .f32⟩
  | .hbm, ⟨18, _⟩ => ⟨S8x64x8x64, .f32⟩
  | .hbm, ⟨19, _⟩ => ⟨S8x64x8x64, .f32⟩
  | .hbm, ⟨20, _⟩ => ⟨S8x64x8x64, .f32⟩
  | .hbm, ⟨21, _⟩ => ⟨S512x512, .f32⟩
  | .hbm, ⟨22, _⟩ => ⟨S512x512, .bf16⟩
  | .hbm, ⟨23, _⟩ => ⟨S1x512, .f32⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S8x64x1x64, .f32⟩
  | .hbm, ⟨32, _⟩ => ⟨S8x1x8x1, .f32⟩
  | .hbm, ⟨33, _⟩ => ⟨S8x64x8x64, .f32⟩
  | .hbm, ⟨34, _⟩ => ⟨S8x64x8x64, .f32⟩
  | .hbm, ⟨35, _⟩ => ⟨S8x64x8x64, .f32⟩
  | .hbm, ⟨36, _⟩ => ⟨S512x512, .f32⟩
  | .hbm, ⟨37, _⟩ => ⟨S512x512, .bf16⟩
  | .hbm, ⟨38, _⟩ => ⟨S1x512, .f32⟩
  | .hbm, ⟨39, _⟩ => ⟨S1x512, .f32⟩
  | .hbm, ⟨40, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S256x512, .bf16⟩
  | .local _ .vmem, ⟨12, _⟩ => ⟨S256x512, .bf16⟩
  | .local _ .vmem, ⟨13, _⟩ => ⟨S264x512, .f32⟩
  | .local _ .vmem, ⟨14, _⟩ => ⟨S8x512, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proof.DsaLoops.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

/-! # The two outer loops of the sparse-attention kernel

Most counted loops of the kernel have invariants stated by their printed text. Two have a loop inside: the radix select's
loop over the bit planes, and the binary search for the last position admitted among equal keys. Their invariants are
stated here, at the strength the frame needs: a buffer the loop reads keeps its contents, a buffer it writes holds
something. -/

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame kit: no counters beside the points-tos. -/
abbrev UU (nD : Nat) (τ : Topo) : Type := UR sig nD τ
/-- No loop variants are asked for. -/
abbrev 𝒱₀ : Variants := Variants.none

set_option warn.classDefReducibility false in
/-- The loop over the bit planes: the planes are read, the set of keys still alive is rewritten. -/
@[sl_loop] def loopInv_k0_t5 (c : Dev nD) (E : Set ℕ) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole) (v20 : BitVec 32) (v175 : BitVec 32) (v176 : IVec S1x256 32) (v186 : IVec S1x256 32) (v189 : IVec S1x256 1) (c1_i32_123 : BitVec 32) (X_arg10 : BufTy.Contents (Elt F) arg10.view.ty) (init : IVec S1x256 32 × IVec S1x256 32 × IVec S8x256 32) :
    Cert.Kernel.Gen.LoopInvTy_k0_t5 (F := F) Unit ℕ (UU nD τ) ℕ 𝒱₀ c none E i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v175 v176 v186 v189 c1_i32_123 init where
  inv _ _ := iprop((arg10.view.loc (c : Thread nD τ) ↦[arg10.view.set]{fullShare} X_arg10) ∗ (∃ f, arg11.view.loc (c : Thread nD τ) ↦[arg11.view.set]{fullShare} f))
  step k acc := by
    iintro ⟨H10, %f, H11⟩
    unfold Cert.Kernel.Gen.k0_t5_body
    sl_exec
    sl_step
    sl_close

set_option warn.classDefReducibility false in
/-- The binary search over positions: the keys are read, nothing is written. -/
@[sl_loop] def loopInv_k0_t12 (c : Dev nD) (E : Set ℕ) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole) (v20 : BitVec 32) (v139 : IVec S8x256 32) (v218 : IVec S1x256 32) (v223 : IVec S1x256 1) (v225 : IVec S8x256 32) (v230 : BitVec 32) (v332_0 : IVec S8x256 32) (v332_1 : IVec S8x256 32) (v332_2 : IVec S8x256 32) (v332_3 : IVec S8x256 32) (X_arg9 : BufTy.Contents (Elt F) arg9.view.ty) (init : IVec S1x256 32) :
    Cert.Kernel.Gen.LoopInvTy_k0_t12 (F := F) Unit ℕ (UU nD τ) ℕ 𝒱₀ c none E i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v139 v218 v223 v225 v230 v332_0 v332_1 v332_2 v332_3 init where
  inv _ _ := iprop(arg9.view.loc (c : Thread nD τ) ↦[arg9.view.set]{fullShare} X_arg9)
  step k acc := by
    iintro H9
    unfold Cert.Kernel.Gen.k0_t12_body
    sl_exec
    sl_step
    sl_close

end Cert.Proof.Kernel

end
-- ==== Proof.DsaParts.lean ====
module

public import proofs.«01_k».proof.Proof.DsaLoops
public import Idealize.ShloMosaic.Lib.Pipeline.FrameBody
public import Idealize.ShloMosaic.Lib.Tactic
public import Idealize.ShloMosaic.Lib.WordCmp

/-! # The stretches of the sparse-attention kernel's body, each run by itself -/

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-- What the kernel's body holds between two of its stretches: the six inputs at the contents they came with, the output and
the eight scratch buffers at some contents. -/
def Res (c : Dev nD) (arg2 : Memref sig .tc .vmem S256x512 .bf16) (arg3 : Memref sig .tc .vmem S256x512 .bf16) (arg4 : Memref sig .tc .vmem S256x128 .f32) (arg5 : Memref sig .tc .vmem S8192x256 .bf16) (arg6 : Memref sig .tc .vmem S8192x512 .bf16) (arg7 : Memref sig .tc .vmem S32x640x256 .bf16) (arg8 : Memref sig .tc .vmem S256x512 .bf16) (arg9 : Memref sig .tc .vmem S32x256x256 .i32) (arg10 : Memref sig .tc .vmem S32x32x8x256 .i32) (arg11 : Memref sig .tc .vmem S32x8x256 .i32) (arg12 : Memref sig .tc .vmem S16x256x128 .bf16) (arg13 : Memref sig .tc .vmem S8x256x256 .f32) (arg14 : Memref sig .tc .vmem S512x256 .f32) (arg15 : Memref sig .tc .vmem S8x1x256 .f32) (arg16 : Memref sig .tc .vmem S8x1x256 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))

set_option maxHeartbeats 4000000 in
/-- The first stretch of the body runs. -/
theorem part193 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole)
    {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty} {X7 : BufTy.Contents (Elt F) arg7.view.ty} (E : Set ℕ) (K : (Σ' (v0 : BitVec 32) (v20 : BitVec 32) (v23 : IVec S256x128 1), Vec F S256x128 .bf16) → sProp 𝕄) :
      iprop(Res c arg2 arg3 arg4 arg5 arg6 arg7 arg8 arg9 arg10 arg11 arg12 arg13 arg14 arg15 arg16 X2 X3 X4 X5 X6 X7
          ∗ (∀ r, Res c arg2 arg3 arg4 arg5 arg6 arg7 arg8 arg9 arg10 arg11 arg12 arg13 arg14 arg15 arg16 X2 X3 X4 X5 X6 X7 -∗ K r))
        ⊢ wp frame (wpE (defs₀ (F := F)) Variants.none c none) E (k0_part193 i arg2 harg2 arg3 harg3 arg4 harg4 arg5 harg5 arg6 harg6 arg7 harg7 arg8 harg8 arg9 harg9 arg10 harg10 arg11 harg11 arg12 harg12 arg13 harg13 arg14 harg14 arg15 harg15 arg16 harg16 ) K := by
    unfold Res
    iintro ⟨⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
    rw [k0_part193_eq_skeleton]; unfold k0_part193_skel
    sl_exec
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

set_option maxHeartbeats 4000000 in
/-- The second stretch runs. -/
theorem part194 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole) (v23 : IVec S256x128 1) (v32 : Vec F S256x128 .bf16)
    {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty} {X7 : BufTy.Contents (Elt F) arg7.view.ty} (E : Set ℕ) (K : (IVec S256x128 1) → sProp 𝕄) :
      iprop(Res c arg2 arg3 arg4 arg5 arg6 arg7 arg8 arg9 arg10 arg11 arg12 arg13 arg14 arg15 arg16 X2 X3 X4 X5 X6 X7
          ∗ (∀ r, Res c arg2 arg3 arg4 arg5 arg6 arg7 arg8 arg9 arg10 arg11 arg12 arg13 arg14 arg15 arg16 X2 X3 X4 X5 X6 X7 -∗ K r))
        ⊢ wp frame (wpE (defs₀ (F := F)) Variants.none c none) E (k0_part194 i arg2 harg2 arg3 harg3 arg4 harg4 arg5 harg5 arg6 harg6 arg7 harg7 arg8 harg8 arg9 harg9 arg10 harg10 arg11 harg11 arg12 harg12 arg13 harg13 arg14 harg14 arg15 harg15 arg16 harg16 v23 v32) K := by
    unfold Res
    iintro ⟨⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
    rw [k0_part194_eq_skeleton]; unfold k0_part194_skel
    sl_exec
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

set_option maxHeartbeats 4000000 in
/-- The third stretch runs. -/
theorem part195 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole) (v23 : IVec S256x128 1) (v61 : IVec S256x128 1)
    {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty} {X7 : BufTy.Contents (Elt F) arg7.view.ty} (E : Set ℕ) (K : (Σ' (v86 : IVec S256x128 1), Vec F S256x128 .bf16) → sProp 𝕄) :
      iprop(Res c arg2 arg3 arg4 arg5 arg6 arg7 arg8 arg9 arg10 arg11 arg12 arg13 arg14 arg15 arg16 X2 X3 X4 X5 X6 X7
          ∗ (∀ r, Res c arg2 arg3 arg4 arg5 arg6 arg7 arg8 arg9 arg10 arg11 arg12 arg13 arg14 arg15 arg16 X2 X3 X4 X5 X6 X7 -∗ K r))
        ⊢ wp frame (wpE (defs₀ (F := F)) Variants.none c none) E (k0_part195 i arg2 harg2 arg3 harg3 arg4 harg4 arg5 harg5 arg6 harg6 arg7 harg7 arg8 harg8 arg9 harg9 arg10 harg10 arg11 harg11 arg12 harg12 arg13 harg13 arg14 harg14 arg15 harg15 arg16 harg16 v23 v61) K := by
    unfold Res
    iintro ⟨⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
    rw [k0_part195_eq_skeleton]; unfold k0_part195_skel
    sl_exec
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

set_option maxHeartbeats 4000000 in
/-- The fourth stretch runs. -/
theorem part196 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole) (v23 : IVec S256x128 1) (v86 : IVec S256x128 1) (v89 : Vec F S256x128 .bf16)
    {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty} {X7 : BufTy.Contents (Elt F) arg7.view.ty} (E : Set ℕ) (K : (Σ' (v111 : IVec S256x128 1), FVec F S1x256x128 .bf16) → sProp 𝕄) :
      iprop(Res c arg2 arg3 arg4 arg5 arg6 arg7 arg8 arg9 arg10 arg11 arg12 arg13 arg14 arg15 arg16 X2 X3 X4 X5 X6 X7
          ∗ (∀ r, Res c arg2 arg3 arg4 arg5 arg6 arg7 arg8 arg9 arg10 arg11 arg12 arg13 arg14 arg15 arg16 X2 X3 X4 X5 X6 X7 -∗ K r))
        ⊢ wp frame (wpE (defs₀ (F := F)) Variants.none c none) E (k0_part196 i arg2 harg2 arg3 harg3 arg4 harg4 arg5 harg5 arg6 harg6 arg7 harg7 arg8 harg8 arg9 harg9 arg10 harg10 arg11 harg11 arg12 harg12 arg13 harg13 arg14 harg14 arg15 harg15 arg16 harg16 v23 v86 v89) K := by
    unfold Res
    iintro ⟨⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
    rw [k0_part196_eq_skeleton]; unfold k0_part196_skel
    sl_exec
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

set_option maxHeartbeats 4000000 in
/-- The fifth stretch runs: the scores of the keys at or before each query, turned into sortable integers. -/
theorem part197 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole) (v0 : BitVec 32) (v20 : BitVec 32) (v111 : IVec S256x128 1) (v117 : FVec F S1x256x128 .bf16)
    {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty} {X7 : BufTy.Contents (Elt F) arg7.view.ty} (E : Set ℕ) (K : (Σ' (v139 : IVec S8x256 32) (v146 : BitVec 32) (v147 : BitVec 32) (v148 : BitVec 1) (v149 : BitVec 1), BitVec 32) → sProp 𝕄) :
      iprop(Res c arg2 arg3 arg4 arg5 arg6 arg7 arg8 arg9 arg10 arg11 arg12 arg13 arg14 arg15 arg16 X2 X3 X4 X5 X6 X7
          ∗ (∀ r, Res c arg2 arg3 arg4 arg5 arg6 arg7 arg8 arg9 arg10 arg11 arg12 arg13 arg14 arg15 arg16 X2 X3 X4 X5 X6 X7 -∗ K r))
        ⊢ wp frame (wpE (defs₀ (F := F)) Variants.none c none) E (k0_part197 i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v20 v111 v117) K := by
    unfold Res
    iintro ⟨⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
    rw [k0_part197_eq_skeleton]; unfold k0_part197_skel
    sl_exec
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

set_option maxHeartbeats 4000000 in
/-- The sixth stretch runs: the largest and the smallest of them. -/
theorem part198 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole) (v20 : BitVec 32) (v146 : BitVec 32) (v147 : BitVec 32) (v148 : BitVec 1) (v149 : BitVec 1) (c0_i32_104 : BitVec 32)
    {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty} {X7 : BufTy.Contents (Elt F) arg7.view.ty} (E : Set ℕ) (K : (Σ' (v175 : BitVec 32) (v176 : IVec S1x256 32) (v186 : IVec S1x256 32) (v189 : IVec S1x256 1), BitVec 32) → sProp 𝕄) :
      iprop(Res c arg2 arg3 arg4 arg5 arg6 arg7 arg8 arg9 arg10 arg11 arg12 arg13 arg14 arg15 arg16 X2 X3 X4 X5 X6 X7
          ∗ (∀ r, Res c arg2 arg3 arg4 arg5 arg6 arg7 arg8 arg9 arg10 arg11 arg12 arg13 arg14 arg15 arg16 X2 X3 X4 X5 X6 X7 -∗ K r))
        ⊢ wp frame (wpE (defs₀ (F := F)) Variants.none c none) E (k0_part198 i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v146 v147 v148 v149 c0_i32_104) K := by
    unfold Res
    iintro ⟨⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
    rw [k0_part198_eq_skeleton]; unfold k0_part198_skel
    by_cases h : k0_cond1 i = 1#1
    · simp only [dif_pos h]
      sl_exec
      sl_step
      iapply Hk
      isplitl [H2]
      · iexact H2
      isplitl [H3]
      · iexact H3
      isplitl [H4]
      · iexact H4
      isplitl [H5]
      · iexact H5
      isplitl [H6]
      · iexact H6
      isplitl [H7]
      · iexact H7
      isplitl [H8]
      · iexists _; iexact H8
      isplitl [H9]
      · iexists _; iexact H9
      isplitl [H10]
      · iexists _; iexact H10
      isplitl [H11]
      · iexists _; iexact H11
      isplitl [H12]
      · iexists _; iexact H12
      isplitl [H13]
      · iexists _; iexact H13
      isplitl [H14]
      · iexists _; iexact H14
      isplitl [H15]
      · iexists _; iexact H15
      iexists _; iexact H16
    · simp only [dif_neg h]
      sl_exec
      sl_step
      iapply Hk
      isplitl [H2]
      · iexact H2
      isplitl [H3]
      · iexact H3
      isplitl [H4]
      · iexact H4
      isplitl [H5]
      · iexact H5
      isplitl [H6]
      · iexact H6
      isplitl [H7]
      · iexact H7
      isplitl [H8]
      · iexists _; iexact H8
      isplitl [H9]
      · iexists _; iexact H9
      isplitl [H10]
      · iexists _; iexact H10
      isplitl [H11]
      · iexists _; iexact H11
      isplitl [H12]
      · iexists _; iexact H12
      isplitl [H13]
      · iexists _; iexact H13
      isplitl [H14]
      · iexists _; iexact H14
      isplitl [H15]
      · iexists _; iexact H15
      iexists _; iexact H16

set_option maxHeartbeats 4000000 in
/-- The seventh stretch runs: the search, bit by bit, for each query's threshold. -/
theorem part199 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole) (v20 : BitVec 32) (v175 : BitVec 32) (v176 : IVec S1x256 32) (v186 : IVec S1x256 32) (v189 : IVec S1x256 1) (c1_i32_123 : BitVec 32)
    {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty} {X7 : BufTy.Contents (Elt F) arg7.view.ty} (E : Set ℕ) (K : (Σ' (v218 : IVec S1x256 32) (v223 : IVec S1x256 1) (v225 : IVec S8x256 32), BitVec 32) → sProp 𝕄) :
      iprop(Res c arg2 arg3 arg4 arg5 arg6 arg7 arg8 arg9 arg10 arg11 arg12 arg13 arg14 arg15 arg16 X2 X3 X4 X5 X6 X7
          ∗ (∀ r, Res c arg2 arg3 arg4 arg5 arg6 arg7 arg8 arg9 arg10 arg11 arg12 arg13 arg14 arg15 arg16 X2 X3 X4 X5 X6 X7 -∗ K r))
        ⊢ wp frame (wpE (defs₀ (F := F)) Variants.none c none) E (k0_part199 i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v175 v176 v186 v189 c1_i32_123) K := by
    unfold Res
    iintro ⟨⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
    rw [k0_part199_eq_skeleton]; unfold k0_part199_skel
    sl_exec
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

end Cert.Proof.Kernel

end
-- ==== Proof.DsaPartsB.lean ====
module

public import proofs.«01_k».proof.Proof.DsaLoops
public import proofs.«01_k».proof.Proof.DsaParts
public import Idealize.ShloMosaic.Lib.Pipeline.FrameBody
public import Idealize.ShloMosaic.Lib.Tactic
public import Idealize.ShloMosaic.Lib.WordCmp

/-! # The later stretches of the sparse-attention kernel's body -/

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The eighth stretch runs: the ties at the threshold, and the attention over the selected keys. -/
theorem part200 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole) (v20 : BitVec 32) (v139 : IVec S8x256 32) (v218 : IVec S1x256 32) (v223 : IVec S1x256 1) (v225 : IVec S8x256 32) (v230 : BitVec 32)
    {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty} {X7 : BufTy.Contents (Elt F) arg7.view.ty} (E : Set ℕ) (K : (FVec F S64x256 .f32) → sProp 𝕄) :
      iprop(Res c arg2 arg3 arg4 arg5 arg6 arg7 arg8 arg9 arg10 arg11 arg12 arg13 arg14 arg15 arg16 X2 X3 X4 X5 X6 X7
          ∗ (∀ r, Res c arg2 arg3 arg4 arg5 arg6 arg7 arg8 arg9 arg10 arg11 arg12 arg13 arg14 arg15 arg16 X2 X3 X4 X5 X6 X7 -∗ K r))
        ⊢ wp frame (wpE (defs₀ (F := F)) Variants.none c none) E (k0_part200 i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v139 v218 v223 v225 v230) K := by
    unfold Res
    iintro ⟨⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
    rw [k0_part200_eq_skeleton]; unfold k0_part200_skel
    sl_exec
    by_cases h : part200.sl.v233 v230 = 1#1
    · rw [if_pos h]
      sl_exec
      sl_step
      iapply Hk
      isplitl [H2]
      · iexact H2
      isplitl [H3]
      · iexact H3
      isplitl [H4]
      · iexact H4
      isplitl [H5]
      · iexact H5
      isplitl [H6]
      · iexact H6
      isplitl [H7]
      · iexact H7
      isplitl [H8]
      · iexists _; iexact H8
      isplitl [H9]
      · iexists _; iexact H9
      isplitl [H10]
      · iexists _; iexact H10
      isplitl [H11]
      · iexists _; iexact H11
      isplitl [H12]
      · iexists _; iexact H12
      isplitl [H13]
      · iexists _; iexact H13
      isplitl [H14]
      · iexists _; iexact H14
      isplitl [H15]
      · iexists _; iexact H15
      iexists _; iexact H16
    · rw [if_neg h]
      sl_exec
      sl_step
      iapply Hk
      isplitl [H2]
      · iexact H2
      isplitl [H3]
      · iexact H3
      isplitl [H4]
      · iexact H4
      isplitl [H5]
      · iexact H5
      isplitl [H6]
      · iexact H6
      isplitl [H7]
      · iexact H7
      isplitl [H8]
      · iexists _; iexact H8
      isplitl [H9]
      · iexists _; iexact H9
      isplitl [H10]
      · iexists _; iexact H10
      isplitl [H11]
      · iexists _; iexact H11
      isplitl [H12]
      · iexists _; iexact H12
      isplitl [H13]
      · iexists _; iexact H13
      isplitl [H14]
      · iexists _; iexact H14
      isplitl [H15]
      · iexists _; iexact H15
      iexists _; iexact H16

set_option maxHeartbeats 4000000 in
/-- The ninth stretch runs. -/
theorem part201 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole) (v257 : FVec F S64x256 .f32)
    {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty} {X7 : BufTy.Contents (Elt F) arg7.view.ty} (E : Set ℕ) (K : (FVec F S64x256 .f32) → sProp 𝕄) :
      iprop(Res c arg2 arg3 arg4 arg5 arg6 arg7 arg8 arg9 arg10 arg11 arg12 arg13 arg14 arg15 arg16 X2 X3 X4 X5 X6 X7
          ∗ (∀ r, Res c arg2 arg3 arg4 arg5 arg6 arg7 arg8 arg9 arg10 arg11 arg12 arg13 arg14 arg15 arg16 X2 X3 X4 X5 X6 X7 -∗ K r))
        ⊢ wp frame (wpE (defs₀ (F := F)) Variants.none c none) E (k0_part201 i arg2 harg2 arg3 harg3 arg4 harg4 arg5 harg5 arg6 harg6 arg7 harg7 arg8 harg8 arg9 harg9 arg10 harg10 arg11 harg11 arg12 harg12 arg13 harg13 arg14 harg14 arg15 harg15 arg16 harg16 v257) K := by
    unfold Res
    iintro ⟨⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
    rw [k0_part201_eq_skeleton]; unfold k0_part201_skel
    sl_exec
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

set_option maxHeartbeats 4000000 in
/-- The tenth stretch runs. -/
theorem part202 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole) (v289 : FVec F S64x256 .f32)
    {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty} {X7 : BufTy.Contents (Elt F) arg7.view.ty} (E : Set ℕ) (K : (FVec F S256x512 .bf16) → sProp 𝕄) :
      iprop(Res c arg2 arg3 arg4 arg5 arg6 arg7 arg8 arg9 arg10 arg11 arg12 arg13 arg14 arg15 arg16 X2 X3 X4 X5 X6 X7
          ∗ (∀ r, Res c arg2 arg3 arg4 arg5 arg6 arg7 arg8 arg9 arg10 arg11 arg12 arg13 arg14 arg15 arg16 X2 X3 X4 X5 X6 X7 -∗ K r))
        ⊢ wp frame (wpE (defs₀ (F := F)) Variants.none c none) E (k0_part202 i arg2 harg2 arg3 harg3 arg4 harg4 arg5 harg5 arg6 harg6 arg7 harg7 arg8 harg8 arg9 harg9 arg10 harg10 arg11 harg11 arg12 harg12 arg13 harg13 arg14 harg14 arg15 harg15 arg16 harg16 v289) K := by
    unfold Res
    iintro ⟨⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
    rw [k0_part202_eq_skeleton]; unfold k0_part202_skel
    sl_exec
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

end Cert.Proof.Kernel

end
-- ==== Proof.DsaBody.lean ====
module

public import proofs.«01_k».proof.Proof.DsaLoops
public import proofs.«01_k».proof.Proof.DsaPartsB
public import Idealize.ShloMosaic.Lib.Pipeline.FrameBody
public import Idealize.ShloMosaic.Lib.Tactic
public import Idealize.ShloMosaic.Lib.WordCmp

/-! # The sparse-attention kernel's body runs -/

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The kernel's body, its ten stretches one after the other and the store of the output's block. -/
theorem bodyStretches (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole)
    {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty} {X7 : BufTy.Contents (Elt F) arg7.view.ty} (E : Set ℕ) (K : PUnit → sProp 𝕄) :
      iprop(Res c arg2 arg3 arg4 arg5 arg6 arg7 arg8 arg9 arg10 arg11 arg12 arg13 arg14 arg15 arg16 X2 X3 X4 X5 X6 X7
          ∗ (Res c arg2 arg3 arg4 arg5 arg6 arg7 arg8 arg9 arg10 arg11 arg12 arg13 arg14 arg15 arg16 X2 X3 X4 X5 X6 X7 -∗ K ⟨⟩))
        ⊢ wp frame (wpE (defs₀ (F := F)) Variants.none c none) E (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    rw [cc0_dsa_eq_skeleton]; unfold cc0_dsa_skel
    iintro ⟨HR, Hk⟩
    rw [wp_bind]
    iapply (part193 c i arg2 harg2 arg3 harg3 arg4 harg4 arg5 harg5 arg6 harg6 arg7 harg7 arg8 harg8 arg9 harg9 arg10 harg10 arg11 harg11 arg12 harg12 arg13 harg13 arg14 harg14 arg15 harg15 arg16 harg16  (X2 := X2) (X3 := X3) (X4 := X4) (X5 := X5) (X6 := X6) (X7 := X7) E _)
    isplitl [HR]
    · iexact HR
    iintro %r193 HR
    obtain ⟨v0, v20, v23, v32⟩ := r193
    dsimp only
    rw [wp_bind]
    iapply (part194 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ (X2 := X2) (X3 := X3) (X4 := X4) (X5 := X5) (X6 := X6) (X7 := X7) E _)
    isplitl [HR]
    · iexact HR
    iintro %r194 HR
    rw [wp_bind]
    iapply (part195 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ (X2 := X2) (X3 := X3) (X4 := X4) (X5 := X5) (X6 := X6) (X7 := X7) E _)
    isplitl [HR]
    · iexact HR
    iintro %r195 HR
    obtain ⟨v86, v89⟩ := r195
    dsimp only
    rw [wp_bind]
    iapply (part196 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ (X2 := X2) (X3 := X3) (X4 := X4) (X5 := X5) (X6 := X6) (X7 := X7) E _)
    isplitl [HR]
    · iexact HR
    iintro %r196 HR
    obtain ⟨v111, v117⟩ := r196
    dsimp only
    rw [wp_bind]
    iapply (part197 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ (X2 := X2) (X3 := X3) (X4 := X4) (X5 := X5) (X6 := X6) (X7 := X7) E _)
    isplitl [HR]
    · iexact HR
    iintro %r197 HR
    obtain ⟨v139, v146, v147, v148, v149, c0_i32_104⟩ := r197
    dsimp only
    rw [wp_bind]
    iapply (part198 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ (X2 := X2) (X3 := X3) (X4 := X4) (X5 := X5) (X6 := X6) (X7 := X7) E _)
    isplitl [HR]
    · iexact HR
    iintro %r198 HR
    obtain ⟨v175, v176, v186, v189, c1_i32_123⟩ := r198
    dsimp only
    rw [wp_bind]
    iapply (part199 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ (X2 := X2) (X3 := X3) (X4 := X4) (X5 := X5) (X6 := X6) (X7 := X7) E _)
    isplitl [HR]
    · iexact HR
    iintro %r199 HR
    obtain ⟨v218, v223, v225, v230⟩ := r199
    dsimp only
    rw [wp_bind]
    iapply (part200 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ (X2 := X2) (X3 := X3) (X4 := X4) (X5 := X5) (X6 := X6) (X7 := X7) E _)
    isplitl [HR]
    · iexact HR
    iintro %r200 HR
    rw [wp_bind]
    iapply (part201 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ (X2 := X2) (X3 := X3) (X4 := X4) (X5 := X5) (X6 := X6) (X7 := X7) E _)
    isplitl [HR]
    · iexact HR
    iintro %r201 HR
    rw [wp_bind]
    iapply (part202 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ (X2 := X2) (X3 := X3) (X4 := X4) (X5 := X5) (X6 := X6) (X7 := X7) E _)
    isplitl [HR]
    · iexact HR
    iintro %r202 HR
    unfold Res
    icases HR with ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
    sl_exec
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

set_option maxHeartbeats 4000000 in
/-- The kernel's body on whole buffers: the six inputs are handed back as they were, the output and the scratch buffers at
some contents. -/
theorem bodyRun (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S8192x256 .bf16) (harg5 : arg5.IsWhole) (arg6 : Memref sig .tc .vmem S8192x512 .bf16) (harg6 : arg6.IsWhole) (arg7 : Memref sig .tc .vmem S32x640x256 .bf16) (harg7 : arg7.IsWhole) (arg8 : Memref sig .tc .vmem S256x512 .bf16) (harg8 : arg8.IsWhole) (arg9 : Memref sig .tc .vmem S32x256x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S16x256x128 .bf16) (harg12 : arg12.IsWhole) (arg13 : Memref sig .tc .vmem S8x256x256 .f32) (harg13 : arg13.IsWhole) (arg14 : Memref sig .tc .vmem S512x256 .f32) (harg14 : arg14.IsWhole) (arg15 : Memref sig .tc .vmem S8x1x256 .f32) (harg15 : arg15.IsWhole) (arg16 : Memref sig .tc .vmem S8x1x256 .f32) (harg16 : arg16.IsWhole)
    (x0 : Vec F S256x512 .bf16) (x1 : Vec F S256x512 .bf16) (x2 : Vec F S256x128 .f32) (x3 : Vec F S8192x256 .bf16) (x4 : Vec F S8192x512 .bf16) (x5 : Vec F S32x640x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    iapply (bodyStretches c i arg2 harg2 arg3 harg3 arg4 harg4 arg5 harg5 arg6 harg6 arg7 harg7 arg8 harg8 arg9 harg9 arg10 harg10 arg11 harg11 arg12 harg12 arg13 harg13 arg14 harg14 arg15 harg15 arg16 harg16 E K)
    unfold Res
    isplitl [H0 H1 H2 H3 H4 H5 H6 H7 H8 H9 H10 H11 H12 H13 H14]
    · isplitl [H0]
      · iexact H0
      isplitl [H1]
      · iexact H1
      isplitl [H2]
      · iexact H2
      isplitl [H3]
      · iexact H3
      isplitl [H4]
      · iexact H4
      isplitl [H5]
      · iexact H5
      isplitl [H6]
      · iexists _; iexact H6
      isplitl [H7]
      · iexists _; iexact H7
      isplitl [H8]
      · iexists _; iexact H8
      isplitl [H9]
      · iexists _; iexact H9
      isplitl [H10]
      · iexists _; iexact H10
      isplitl [H11]
      · iexists _; iexact H11
      isplitl [H12]
      · iexists _; iexact H12
      isplitl [H13]
      · iexists _; iexact H13
      iexists _; iexact H14
    iintro ⟨H0, H1, H2, H3, H4, H5, H6, H7, H8, H9, H10, H11, H12, H13, H14⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · icases H6 with ⟨%g6, H6⟩; iexists _, _; isplitr; swap; · iexact H6
      ipureintro; rfl
    isplitl [H7]
    · icases H7 with ⟨%g7, H7⟩; iexists _, _; isplitr; swap; · iexact H7
      ipureintro; rfl
    isplitl [H8]
    · icases H8 with ⟨%g8, H8⟩; iexists _, _; isplitr; swap; · iexact H8
      ipureintro; rfl
    isplitl [H9]
    · icases H9 with ⟨%g9, H9⟩; iexists _, _; isplitr; swap; · iexact H9
      ipureintro; rfl
    isplitl [H10]
    · icases H10 with ⟨%g10, H10⟩; iexists _, _; isplitr; swap; · iexact H10
      ipureintro; rfl
    isplitl [H11]
    · icases H11 with ⟨%g11, H11⟩; iexists _, _; isplitr; swap; · iexact H11
      ipureintro; rfl
    isplitl [H12]
    · icases H12 with ⟨%g12, H12⟩; iexists _, _; isplitr; swap; · iexact H12
      ipureintro; rfl
    isplitl [H13]
    · icases H13 with ⟨%g13, H13⟩; iexists _, _; isplitr; swap; · iexact H13
      ipureintro; rfl
    icases H14 with ⟨%g14, H14⟩; iexists _, _; isplitr; swap; · iexact H14
    ipureintro; rfl

end Cert.Proof.Kernel

end
-- ==== Proof.DsaFrame.lean ====
module

public import proofs.«01_k».proof.Proof.DsaLoops
public import proofs.«01_k».proof.Proof.DsaBody
public import proofs.«01_k».proof.Proof.Gen.Kernel.Frame
public import Idealize.ShloMosaic.Lib.Claim
public import Idealize.ShloMosaic.Lib.Ring
public import Idealize.ShloMosaic.Lib.Pipeline.FrameBody
public import Idealize.ShloMosaic.Lib.Tactic
public import Idealize.ShloMosaic.Lib.WordCmp

/-! # The sparse-attention call runs: its arguments end as they began -/

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The memrefs the body is called with -/

/-- Window 0's staging buffer at a point, -/
abbrev ms0_0 (t : Fin cfg0.N) := win0_0.stage (cfg0.slots t 0)
/-- which is a whole buffer. -/
theorem hs0_0 (t : Fin cfg0.N) : (ms0_0 t).IsWhole := hstage0_0 ((cfg0.slots t 0).cast nbuf0_0)
/-- Window 1's staging buffer at a point, -/
abbrev ms0_1 (t : Fin cfg0.N) := win0_1.stage (cfg0.slots t 1)
/-- which is a whole buffer. -/
theorem hs0_1 (t : Fin cfg0.N) : (ms0_1 t).IsWhole := hstage0_1 ((cfg0.slots t 1).cast nbuf0_1)
/-- Window 2's staging buffer at a point, -/
abbrev ms0_2 (t : Fin cfg0.N) := win0_2.stage (cfg0.slots t 2)
/-- which is a whole buffer. -/
theorem hs0_2 (t : Fin cfg0.N) : (ms0_2 t).IsWhole := hstage0_2 ((cfg0.slots t 2).cast nbuf0_2)
/-- Window 3's staging buffer at a point, -/
abbrev ms0_3 (t : Fin cfg0.N) := win0_3.stage (cfg0.slots t 3)
/-- which is a whole buffer. -/
theorem hs0_3 (t : Fin cfg0.N) : (ms0_3 t).IsWhole := hstage0_3 ((cfg0.slots t 3).cast nbuf0_3)
/-- Window 4's staging buffer at a point, -/
abbrev ms0_4 (t : Fin cfg0.N) := win0_4.stage (cfg0.slots t 4)
/-- which is a whole buffer. -/
theorem hs0_4 (t : Fin cfg0.N) : (ms0_4 t).IsWhole := hstage0_4 ((cfg0.slots t 4).cast nbuf0_4)
/-- Window 5's staging buffer at a point, -/
abbrev ms0_5 (t : Fin cfg0.N) := win0_5.stage (cfg0.slots t 5)
/-- which is a whole buffer. -/
theorem hs0_5 (t : Fin cfg0.N) : (ms0_5 t).IsWhole := hstage0_5 ((cfg0.slots t 5).cast nbuf0_5)
/-- Window 6's staging buffer at a point, -/
abbrev ms0_6 (t : Fin cfg0.N) := win0_6.stage (cfg0.slots t 6)
/-- which is a whole buffer. -/
theorem hs0_6 (t : Fin cfg0.N) : (ms0_6 t).IsWhole := hstage0_6 ((cfg0.slots t 6).cast nbuf0_6)
/-- Scratch buffer 0. -/
abbrev scM0_0 := Memref.whole cc0_scratch0
/-- Scratch buffer 1. -/
abbrev scM0_1 := Memref.whole cc0_scratch1
/-- Scratch buffer 2. -/
abbrev scM0_2 := Memref.whole cc0_scratch2
/-- Scratch buffer 3. -/
abbrev scM0_3 := Memref.whole cc0_scratch3
/-- Scratch buffer 4. -/
abbrev scM0_4 := Memref.whole cc0_scratch4
/-- Scratch buffer 5. -/
abbrev scM0_5 := Memref.whole cc0_scratch5
/-- Scratch buffer 6. -/
abbrev scM0_6 := Memref.whole cc0_scratch6
/-- Scratch buffer 7. -/
abbrev scM0_7 := Memref.whole cc0_scratch7

/-- What the pipeline keeps between points: the scratch buffers at some contents and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-! ## The pipeline's proof data -/

/-- The output's contents are not stated. -/
def forgets0 : Fin 7 → Bool := fun w => w.val == 6

/-- The proof data: each input's buffer holds its block after the body as before it, the output's holds something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The arrays are those the region is entered with. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩⟩
  iapply (bodyRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point's slots is the body called there. -/
theorem defs₀_row (t : Fin cfg0.N) :
    defs₀ (F := F) .tc cfg0.body (cfg0.bodyArgs t (cfg0.slots t)) = bodyAt0 t := by
  unfold defs₀; rw [Defs.onTc_tc]

/-- The obligation of the pipeline's rule, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: every run ends with the pipeline's arrays as its rule says and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c))⟩, h.2⟩) (run_main_quiescent m ρ)

end Cert.Proof.Kernel

end
-- ==== Proof.InMainValue.lean ====
module

public import proofs.«01_k».proof.Defs
public import proofs.«01_k».proof.Proof.Gen.InMainIdeal.Value
public import proofs.«01_k».proof.Proof.Gen.InMainRefIdeal.Run
public import Idealize.ShloMosaic.Lib.Pointwise
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Proof.InMain

open Idealize.ShloMosaic Idealize.ShloMosaic.TcCoe Idealize.SL.Sem
open Idealize.ShloMosaic.Pipeline (Dat)
open Cert.InMainIdeal Cert.InMainIdeal.Gen

variable (m : (ℓ : Loc nD τ sig) → Buf (Elt Ideal) ℓ) (ρ : Dev nD → PrngReg)

/-- Row `R` of `x`, normed by its root mean square and scaled lane by lane. -/
def xn (x : Vec Ideal S32768x1024 .f32) (g : Vec Ideal S1024 .f32) (R : Fin 32768) (k : Fin 1024) : EReal :=
  x (ix2 R k) * Ideal.rsqrt (Ideal.div (∑ k : Fin 1024, x (ix2 R k) * x (ix2 R k)) (Ideal.ofBits .f32 0x44800000#32)
        + Ideal.ofBits .f32 0x358637BD#32) * g (ix1 k)

/-- The column of the weights that the kernel lays at column `q`. -/
def perm (q : Fin 8192) : Fin 8272 :=
  ⟨if q.val < 2048 then q.val else if q.val < 5120 then q.val + 8 else q.val + 80, by split_ifs <;> omega⟩

/-- The normed rows times the kernel's columns of the weights, in its order. -/
def G (x : Vec Ideal S32768x1024 .f32) (g : Vec Ideal S1024 .f32) (w : Vec Ideal S1024x8272 .f32) : Vec Ideal S32768x8192 .bf16 :=
  fun i => ∑ k : Fin 1024, xn x g (i 0) k * w (ix2 k (perm (i 1)))

theorem cols_apply (w : FVec Ideal S1024x8272 .f32) (k : Fin 1024) (q : Fin 8192) :
    (truncf .bf16 (concatenate S1024x8192 1 [⟨S1024x1024, ((extractStridedSlice S1024x1024 ![0, 0] w slices_S1024x8272_S1024x1024_0_0) : (⟨S1024x1024, .f32⟩ : BufTy).Contents (Elt Ideal))⟩, ⟨S1024x512, ((extractStridedSlice S1024x512 ![0, 1024] w slices_S1024x8272_S1024x512_0_1024) : (⟨S1024x512, .f32⟩ : BufTy).Contents (Elt Ideal))⟩, ⟨S1024x512, ((extractStridedSlice S1024x512 ![0, 1536] w slices_S1024x8272_S1024x512_0_1536) : (⟨S1024x512, .f32⟩ : BufTy).Contents (Elt Ideal))⟩, ⟨S1024x512, ((extractStridedSlice S1024x512 ![0, 2056] w slices_S1024x8272_S1024x512_0_2056) : (⟨S1024x512, .f32⟩ : BufTy).Contents (Elt Ideal))⟩, ⟨S1024x512, ((extractStridedSlice S1024x512 ![0, 2568] w slices_S1024x8272_S1024x512_0_2568) : (⟨S1024x512, .f32⟩ : BufTy).Contents (Elt Ideal))⟩, ⟨S1024x512, ((extractStridedSlice S1024x512 ![0, 3080] w slices_S1024x8272_S1024x512_0_3080) : (⟨S1024x512, .f32⟩ : BufTy).Contents (Elt Ideal))⟩, ⟨S1024x512, ((extractStridedSlice S1024x512 ![0, 3592] w slices_S1024x8272_S1024x512_0_3592) : (⟨S1024x512, .f32⟩ : BufTy).Contents (Elt Ideal))⟩, ⟨S1024x512, ((extractStridedSlice S1024x512 ![0, 4104] w slices_S1024x8272_S1024x512_0_4104) : (⟨S1024x512, .f32⟩ : BufTy).Contents (Elt Ideal))⟩, ⟨S1024x512, ((extractStridedSlice S1024x512 ![0, 4616] w slices_S1024x8272_S1024x512_0_4616) : (⟨S1024x512, .f32⟩ : BufTy).Contents (Elt Ideal))⟩, ⟨S1024x3072, ((extractStridedSlice S1024x3072 ![0, 5200] w slices_S1024x8272_S1024x3072_0_5200) : (⟨S1024x3072, .f32⟩ : BufTy).Contents (Elt Ideal))⟩] concatenates_S1024x1024_S1024x512_S1024x512_S1024x512_S1024x512_S1024x512_S1024x512_S1024x512_S1024x512_S1024x3072_S1024x8192_d1) bitsLt_bf16_f32 : FVec Ideal S1024x8192 .bf16) (ix2 k q) = w (ix2 k (perm q)) := by
  have hc : ∀ a b : Fin 8272, a.val = b.val → w (ix2 k a) = w (ix2 k b) := fun a b h => by rw [Fin.ext h]
  pointwise
  by_cases h0 : q.val < 1024
  · rw [dif_pos h0]; exact hc _ _ (by unfold perm; dsimp only; split_ifs <;> omega)
  rw [dif_neg h0]
  by_cases h1 : q.val - 1024 < 512
  · rw [dif_pos h1]; exact hc _ _ (by unfold perm; dsimp only; split_ifs <;> omega)
  rw [dif_neg h1]
  by_cases h2 : q.val - 1024 - 512 < 512
  · rw [dif_pos h2]; exact hc _ _ (by unfold perm; dsimp only; split_ifs <;> omega)
  rw [dif_neg h2]
  by_cases h3 : q.val - 1024 - 512 - 512 < 512
  · rw [dif_pos h3]; exact hc _ _ (by unfold perm; dsimp only; split_ifs <;> omega)
  rw [dif_neg h3]
  by_cases h4 : q.val - 1024 - 512 - 512 - 512 < 512
  · rw [dif_pos h4]; exact hc _ _ (by unfold perm; dsimp only; split_ifs <;> omega)
  rw [dif_neg h4]
  by_cases h5 : q.val - 1024 - 512 - 512 - 512 - 512 < 512
  · rw [dif_pos h5]; exact hc _ _ (by unfold perm; dsimp only; split_ifs <;> omega)
  rw [dif_neg h5]
  by_cases h6 : q.val - 1024 - 512 - 512 - 512 - 512 - 512 < 512
  · rw [dif_pos h6]; exact hc _ _ (by unfold perm; dsimp only; split_ifs <;> omega)
  rw [dif_neg h6]
  by_cases h7 : q.val - 1024 - 512 - 512 - 512 - 512 - 512 - 512 < 512
  · rw [dif_pos h7]; exact hc _ _ (by unfold perm; dsimp only; split_ifs <;> omega)
  rw [dif_neg h7]
  by_cases h8 : q.val - 1024 - 512 - 512 - 512 - 512 - 512 - 512 - 512 < 512
  · rw [dif_pos h8]; exact hc _ _ (by unfold perm; dsimp only; split_ifs <;> omega)
  rw [dif_neg h8]
  exact hc _ _ (by unfold perm; dsimp only; split_ifs <;> omega)

theorem V_v19 (c : Dev nD) : V m c main_v19 = broadcastInDim S1x1024 ![1] bcast_S1024_S1x1024_1 (m ((c : Thread nD τ).loc main_arg1)) := by
  dsimp only [V, hostOps0]; after_results <;> rfl
theorem V_w (c : Dev nD) (k : Fin 1024) (q : Fin 8192) : V m c main_v15 (ix2 k q) = m ((c : Thread nD τ).loc main_arg2) (ix2 k (perm q)) := by
  have e : V m c main_v15 = (truncf .bf16 (concatenate S1024x8192 1 [⟨S1024x1024, ((extractStridedSlice S1024x1024 ![0, 0] (m ((c : Thread nD τ).loc main_arg2)) slices_S1024x8272_S1024x1024_0_0) : (⟨S1024x1024, .f32⟩ : BufTy).Contents (Elt Ideal))⟩, ⟨S1024x512, ((extractStridedSlice S1024x512 ![0, 1024] (m ((c : Thread nD τ).loc main_arg2)) slices_S1024x8272_S1024x512_0_1024) : (⟨S1024x512, .f32⟩ : BufTy).Contents (Elt Ideal))⟩, ⟨S1024x512, ((extractStridedSlice S1024x512 ![0, 1536] (m ((c : Thread nD τ).loc main_arg2)) slices_S1024x8272_S1024x512_0_1536) : (⟨S1024x512, .f32⟩ : BufTy).Contents (Elt Ideal))⟩, ⟨S1024x512, ((extractStridedSlice S1024x512 ![0, 2056] (m ((c : Thread nD τ).loc main_arg2)) slices_S1024x8272_S1024x512_0_2056) : (⟨S1024x512, .f32⟩ : BufTy).Contents (Elt Ideal))⟩, ⟨S1024x512, ((extractStridedSlice S1024x512 ![0, 2568] (m ((c : Thread nD τ).loc main_arg2)) slices_S1024x8272_S1024x512_0_2568) : (⟨S1024x512, .f32⟩ : BufTy).Contents (Elt Ideal))⟩, ⟨S1024x512, ((extractStridedSlice S1024x512 ![0, 3080] (m ((c : Thread nD τ).loc main_arg2)) slices_S1024x8272_S1024x512_0_3080) : (⟨S1024x512, .f32⟩ : BufTy).Contents (Elt Ideal))⟩, ⟨S1024x512, ((extractStridedSlice S1024x512 ![0, 3592] (m ((c : Thread nD τ).loc main_arg2)) slices_S1024x8272_S1024x512_0_3592) : (⟨S1024x512, .f32⟩ : BufTy).Contents (Elt Ideal))⟩, ⟨S1024x512, ((extractStridedSlice S1024x512 ![0, 4104] (m ((c : Thread nD τ).loc main_arg2)) slices_S1024x8272_S1024x512_0_4104) : (⟨S1024x512, .f32⟩ : BufTy).Contents (Elt Ideal))⟩, ⟨S1024x512, ((extractStridedSlice S1024x512 ![0, 4616] (m ((c : Thread nD τ).loc main_arg2)) slices_S1024x8272_S1024x512_0_4616) : (⟨S1024x512, .f32⟩ : BufTy).Contents (Elt Ideal))⟩, ⟨S1024x3072, ((extractStridedSlice S1024x3072 ![0, 5200] (m ((c : Thread nD τ).loc main_arg2)) slices_S1024x8272_S1024x3072_0_5200) : (⟨S1024x3072, .f32⟩ : BufTy).Contents (Elt Ideal))⟩] concatenates_S1024x1024_S1024x512_S1024x512_S1024x512_S1024x512_S1024x512_S1024x512_S1024x512_S1024x512_S1024x3072_S1024x8192_d1) bitsLt_bf16_f32 : FVec Ideal S1024x8192 .bf16) := by
    dsimp only [V, hostOps0]; after_results <;> rfl
  rw [e]
  exact cols_apply _ k q

theorem idx_facts : ∀ t : Fin cfg0.N, win0_0.index t = ![t.val / 8, 0] ∧ win0_1.index t = ![0, 0]
    ∧ win0_2.index t = ![0, t.val % 8] ∧ win0_3.index t = ![t.val / 8, t.val % 8] ∧ t.val < 128 :=
  (by decide +kernel : ∀ t : Fin grid0.N, _)

def row (t : Fin cfg0.N) (r : Fin 2048) : Fin 32768 := ⟨t.val / 8 * 2048 + r.val, by have := (idx_facts t).2.2.2.2; omega⟩
def col (t : Fin cfg0.N) (r : Fin 1024) : Fin 8192 := ⟨t.val % 8 * 1024 + r.val, by omega⟩

theorem iblk0_apply (c : Dev nD) (t : Fin cfg0.N) (r : Fin 2048) (l : Fin 1024) :
    iblk m c 0 t (ix2 r l) = m ((c : Thread nD τ).loc main_arg0) (ix2 (row t r) l) := by
  obtain ⟨e0, -⟩ := idx_facts t
  show V m c main_arg0 _ = _
  rw [V_main_arg0]
  blk_ext [iblk, e0, row]

theorem iblk1_apply (c : Dev nD) (t : Fin cfg0.N) (r : Fin 1) (l : Fin 1024) :
    iblk m c 1 t (ix2 r l) = m ((c : Thread nD τ).loc main_arg1) (ix1 l) := by
  obtain ⟨-, e1, -⟩ := idx_facts t
  show V m c main_v19 (((cfg0.win 1).blk t).view.emb (ix2 r l)) = _
  have h : ((cfg0.win 1).blk t).view.emb (ix2 r l) = ix2 r l := by blk_ext [e1]
  rw [h, V_v19]
  pointwise

theorem iblk2_apply (c : Dev nD) (t : Fin cfg0.N) (r : Fin 1024) (l : Fin 1024) :
    iblk m c 2 t (ix2 r l) = m ((c : Thread nD τ).loc main_arg2) (ix2 r (perm (col t l))) := by
  obtain ⟨-, -, e2, -⟩ := idx_facts t
  show V m c main_v15 (((cfg0.win 2).blk t).view.emb (ix2 r l)) = _
  have h : ((cfg0.win 2).blk t).view.emb (ix2 r l) = ix2 r (col t l) := by blk_ext [e2, col]
  rw [h, V_w]

/-- The payload that norms a row block. -/
theorem pay1_apply (x0 : Vec Ideal S2048x1024 .f32) (x1 : Vec Ideal S1x1024 .f32) (r : Fin 2048) (k : Fin 1024) :
    k0_pay1 x0 x1 (ix2 r k) = x0 (ix2 r k)
      * Ideal.rsqrt (Ideal.div (∑ k : Fin 1024, x0 (ix2 r k) * x0 (ix2 r k)) (Ideal.ofBits .f32 0x44800000#32)
        + Ideal.ofBits .f32 0x358637BD#32) * x1 (ix2 0 k) := by
  pointwise [k0_pay1]

/-- The payload that multiplies by the weights' block. -/
theorem pay2_apply (x0 : Vec Ideal S2048x1024 .bf16) (x1 : Vec Ideal S1024x1024 .bf16) (r : Fin 2048) (l : Fin 1024) :
    k0_pay2 x0 x1 (ix2 r l) = ∑ k : Fin 1024, x0 (ix2 r k) * x1 (ix2 k l) := by
  pointwise [k0_pay2]

theorem norm_apply (c : Dev nD) (t : Fin cfg0.N) (r : Fin 2048) (k : Fin 1024) :
    k0_pay1 (iblk m c 0 t) (iblk m c 1 t) (ix2 r k)
      = xn (m ((c : Thread nD τ).loc main_arg0)) (m ((c : Thread nD τ).loc main_arg1)) (row t r) k := by
  rw [pay1_apply]
  simp only [iblk0_apply, iblk1_apply]
  rfl

/-- A point that begins a row block leaves its normed rows in the scratch. -/
theorem scratch_A (c : Dev nD) (t : Fin cfg0.N) (h0 : t.val % 8 = 0) (r : Fin 2048) (k : Fin 1024) :
    (outsAt0 m c t.val t.isLt).2 (ix2 r k)
      = xn (m ((c : Thread nD τ).loc main_arg0)) (m ((c : Thread nD τ).loc main_arg1)) (row t r) k := by
  rw [outsAt0_A m c t h0]
  frame_out
  exact norm_apply m c t r k

/-- The other points of a row block leave the scratch as they found it. -/
theorem scratch_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- The scratch holds the normed rows of the point's row block. -/
theorem scratch (c : Dev nD) (n : ℕ) (hn : n < cfg0.N) (r : Fin 2048) (k : Fin 1024) :
    (outsAt0 m c n hn).2 (ix2 r k)
      = xn (m ((c : Thread nD τ).loc main_arg0)) (m ((c : Thread nD τ).loc main_arg1)) (row ⟨n, hn⟩ r) k := by
  induction n with
  | zero => exact scratch_A m c ⟨0, hn⟩ rfl r k
  | succ n ih =>
    by_cases h : (n + 1) % 8 = 0
    · exact scratch_A m c ⟨n + 1, hn⟩ h r k
    · have e : row ⟨n + 1, hn⟩ r = row ⟨n, by omega⟩ r := Fin.ext (by simp only [row]; omega)
      have hb := scratch_B m c ⟨n + 1, hn⟩ h
      simp only [Nat.add_sub_cancel] at hb
      rw [hb, e]
      exact ih _

theorem final3 (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e3, -⟩ := idx_facts t
  obtain ⟨r, l, rfl⟩ : ∃ (r : Fin 2048) (l : Fin 1024), y = ix2 r l := ⟨y 0, y 1, eq_ix2 y⟩
  have h : ((cfg0.win 3).blk t).view.emb (ix2 r l) = ix2 (row t r) (col t l) := by blk_ext [e3, row, col]
  rw [h]
  blk_simp
  rw [after0_3]
  by_cases h0 : t.val % 8 = 0
  · rw [outsAt0_A m c t h0]
    frame_out
    rw [pay2_apply]
    exact Fin.sum_fin_congr fun k => by rw [norm_apply, iblk2_apply]; rfl
  · rw [outsAt0_B m c t h0]
    frame_out
    simp only [read_unread_whole]
    rw [pay2_apply]
    have e : row ⟨t.val - 1, Nat.lt_of_le_of_lt (Nat.sub_le _ _) t.isLt⟩ r = row t r := Fin.ext (by simp only [row]; omega)
    exact Fin.sum_fin_congr fun k => by rw [scratch, iblk2_apply, e]; rfl

/-- The reference's operations, composed, are the same product. -/
theorem ref_eq (x : FVec Ideal Cert.InMainRefIdeal.S32768x1024 .f32) (g : FVec Ideal Cert.InMainRefIdeal.S1024 .f32) (w : FVec Ideal Cert.InMainRefIdeal.S1024x8272 .f32) :
    (truncf .bf16 ((concatenate Cert.InMainRefIdeal.S32768x8192 1 [⟨Cert.InMainRefIdeal.S32768x2048, ((extractStridedSlice Cert.InMainRefIdeal.S32768x2048 ![0, 0] (Host.dotGeneral Cert.InMainRefIdeal.dot_S32768x1024_S1024x8272_S32768x8272_1_0_0_1_n_n none (mulf (mulf x (broadcastInDim Cert.InMainRefIdeal.S32768x1024 ![0, 1] Cert.InMainRefIdeal.Gen.bcast_S32768x1_S32768x1024_0_1 (Host.rsqrt (addf (Host.divf (broadcastInDim Cert.InMainRefIdeal.S32768x1 ![0] Cert.InMainRefIdeal.Gen.bcast_S32768_S32768x1_0 (Host.reduceAdd (mulf x x) (constant Cert.InMainRefIdeal.S_ .f32 0x00000000#32) Cert.InMainRefIdeal.Gen.reducesTo_S32768x1024_S32768_d1 Cert.InMainRefIdeal.Gen.h_S_)) (broadcastInDim Cert.InMainRefIdeal.S32768x1 ![] Cert.InMainRefIdeal.Gen.bcast_S_S32768x1 (constant Cert.InMainRefIdeal.S_ .f32 0x44800000#32))) (broadcastInDim Cert.InMainRefIdeal.S32768x1 ![] Cert.InMainRefIdeal.Gen.bcast_S_S32768x1 (constant Cert.InMainRefIdeal.S_ .f32 0x358637BD#32)))))) (broadcastInDim Cert.InMainRefIdeal.S32768x1024 ![0, 1] Cert.InMainRefIdeal.Gen.bcast_S1x1024_S32768x1024_0_1 (broadcastInDim Cert.InMainRefIdeal.S1x1024 ![1] Cert.InMainRefIdeal.Gen.bcast_S1024_S1x1024_1 g))) w) Cert.InMainRefIdeal.Gen.slices_S32768x8272_S32768x2048_0_0) : (⟨Cert.InMainRefIdeal.S32768x2048, .f32⟩ : BufTy).Contents (Elt Ideal))⟩, ⟨Cert.InMainRefIdeal.S32768x3072, ((extractStridedSlice Cert.InMainRefIdeal.S32768x3072 ![0, 2056] (Host.dotGeneral Cert.InMainRefIdeal.dot_S32768x1024_S1024x8272_S32768x8272_1_0_0_1_n_n none (mulf (mulf x (broadcastInDim Cert.InMainRefIdeal.S32768x1024 ![0, 1] Cert.InMainRefIdeal.Gen.bcast_S32768x1_S32768x1024_0_1 (Host.rsqrt (addf (Host.divf (broadcastInDim Cert.InMainRefIdeal.S32768x1 ![0] Cert.InMainRefIdeal.Gen.bcast_S32768_S32768x1_0 (Host.reduceAdd (mulf x x) (constant Cert.InMainRefIdeal.S_ .f32 0x00000000#32) Cert.InMainRefIdeal.Gen.reducesTo_S32768x1024_S32768_d1 Cert.InMainRefIdeal.Gen.h_S_)) (broadcastInDim Cert.InMainRefIdeal.S32768x1 ![] Cert.InMainRefIdeal.Gen.bcast_S_S32768x1 (constant Cert.InMainRefIdeal.S_ .f32 0x44800000#32))) (broadcastInDim Cert.InMainRefIdeal.S32768x1 ![] Cert.InMainRefIdeal.Gen.bcast_S_S32768x1 (constant Cert.InMainRefIdeal.S_ .f32 0x358637BD#32)))))) (broadcastInDim Cert.InMainRefIdeal.S32768x1024 ![0, 1] Cert.InMainRefIdeal.Gen.bcast_S1x1024_S32768x1024_0_1 (broadcastInDim Cert.InMainRefIdeal.S1x1024 ![1] Cert.InMainRefIdeal.Gen.bcast_S1024_S1x1024_1 g))) w) Cert.InMainRefIdeal.Gen.slices_S32768x8272_S32768x3072_0_2056) : (⟨Cert.InMainRefIdeal.S32768x3072, .f32⟩ : BufTy).Contents (Elt Ideal))⟩, ⟨Cert.InMainRefIdeal.S32768x3072, ((extractStridedSlice Cert.InMainRefIdeal.S32768x3072 ![0, 5200] (Host.dotGeneral Cert.InMainRefIdeal.dot_S32768x1024_S1024x8272_S32768x8272_1_0_0_1_n_n none (mulf (mulf x (broadcastInDim Cert.InMainRefIdeal.S32768x1024 ![0, 1] Cert.InMainRefIdeal.Gen.bcast_S32768x1_S32768x1024_0_1 (Host.rsqrt (addf (Host.divf (broadcastInDim Cert.InMainRefIdeal.S32768x1 ![0] Cert.InMainRefIdeal.Gen.bcast_S32768_S32768x1_0 (Host.reduceAdd (mulf x x) (constant Cert.InMainRefIdeal.S_ .f32 0x00000000#32) Cert.InMainRefIdeal.Gen.reducesTo_S32768x1024_S32768_d1 Cert.InMainRefIdeal.Gen.h_S_)) (broadcastInDim Cert.InMainRefIdeal.S32768x1 ![] Cert.InMainRefIdeal.Gen.bcast_S_S32768x1 (constant Cert.InMainRefIdeal.S_ .f32 0x44800000#32))) (broadcastInDim Cert.InMainRefIdeal.S32768x1 ![] Cert.InMainRefIdeal.Gen.bcast_S_S32768x1 (constant Cert.InMainRefIdeal.S_ .f32 0x358637BD#32)))))) (broadcastInDim Cert.InMainRefIdeal.S32768x1024 ![0, 1] Cert.InMainRefIdeal.Gen.bcast_S1x1024_S32768x1024_0_1 (broadcastInDim Cert.InMainRefIdeal.S1x1024 ![1] Cert.InMainRefIdeal.Gen.bcast_S1024_S1x1024_1 g))) w) Cert.InMainRefIdeal.Gen.slices_S32768x8272_S32768x3072_0_5200) : (⟨Cert.InMainRefIdeal.S32768x3072, .f32⟩ : BufTy).Contents (Elt Ideal))⟩] Cert.InMainRefIdeal.Gen.concatenates_S32768x2048_S32768x3072_S32768x3072_S32768x8192_d1 : (⟨Cert.InMainRefIdeal.S32768x8192, .f32⟩ : BufTy).Contents (Elt Ideal))) Cert.InMainRefIdeal.Gen.bitsLt_bf16_f32 : FVec Ideal Cert.InMainRefIdeal.S32768x8192 .bf16) = G x g w := by
  funext i
  obtain ⟨R, l, rfl⟩ : ∃ (R : Fin 32768) (l : Fin 8192), i = ix2 R l := ⟨i 0, i 1, eq_ix2 i⟩
  have hc : ∀ (k : Fin 1024) (a b : Fin 8272), a.val = b.val → w (ix2 k a) = w (ix2 k b) := fun k a b h => by rw [Fin.ext h]
  pointwise [G, xn]
  have hp : ∀ (k : Fin 1024) (n : ℕ) (hn : n < 8272), n = (perm l).val → w (ix2 k ⟨n, hn⟩) = w (ix2 k (perm l)) := fun k n hn h => hc k _ _ h
  have hv : (perm l).val = if l.val < 2048 then l.val else if l.val < 5120 then l.val + 8 else l.val + 80 := rfl
  by_cases h : l.val < 2048
  · rw [dif_pos h]
    rw [if_pos h] at hv
    exact Fin.sum_fin_congr fun k => by rw [hp k l.val (by omega) hv.symm]
  rw [dif_neg h]
  rw [if_neg h] at hv
  by_cases h2 : l.val - 2048 < 3072
  · rw [dif_pos h2]
    rw [if_pos (by omega)] at hv
    exact Fin.sum_fin_congr fun k => by rw [hp k (2056 + (l.val - 2048)) (by omega) (by omega)]
  rw [dif_neg h2]
  rw [if_neg (by omega)] at hv
  exact Fin.sum_fin_congr fun k => by rw [hp k (5200 + (l.val - 2048 - 3072)) (by omega) (by omega)]

/-- The two programs end with equal results over the extended reals. -/
theorem algebraic : Cert.algebraic_InMainIdeal_InMainRefIdeal := by
  intro m g m' g' _ hm
  refine ⟨fun c => G (m ((c : Thread nD τ).loc main_arg0)) (m ((c : Thread nD τ).loc main_arg1)) (m ((c : Thread nD τ).loc main_arg2)),
    (θ_run _ _ _).mono (fun r h c => ⟨(h c).1.trans (final3 m c), (h c).2⟩) (Value.run_blocks m g),
    (θ_run _ _ _).mono (fun r h c => ⟨(h c).1.trans ?_, (h c).2⟩) (Cert.InMainRefIdeal.Value.run m' g')⟩
  rw [(hm c).1, (hm c).2.1, (hm c).2.2]
  exact ref_eq _ _ _

end Cert.Proof.InMain

end
-- ==== Proof.InSideValue.lean ====
module

public import proofs.«01_k».proof.Defs
public import proofs.«01_k».proof.Proof.Gen.InSideIdeal.Value
public import proofs.«01_k».proof.Proof.Gen.InSideRefIdeal.Run
public import Idealize.ShloMosaic.Lib.Pointwise
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Proof.InSide

open Idealize.ShloMosaic Idealize.ShloMosaic.TcCoe Idealize.SL.Sem
open Idealize.ShloMosaic.Pipeline (Dat)
open Cert.InSideIdeal Cert.InSideIdeal.Gen

variable (m : (ℓ : Loc nD τ sig) → Buf (Elt Ideal) ℓ) (ρ : Dev nD → PrngReg)

/-- Row `R` of `x`, normed by its root mean square and scaled lane by lane. -/
def xn (x : Vec Ideal S32768x1024 .f32) (g : Vec Ideal S1024 .f32) (R : Fin 32768) (k : Fin 1024) : EReal :=
  x (ix2 R k) * Ideal.rsqrt (Ideal.div (∑ k : Fin 1024, x (ix2 R k) * x (ix2 R k)) (Ideal.ofBits .f32 0x44800000#32)
        + Ideal.ofBits .f32 0x358637BD#32) * g (ix1 k)

/-- Column `q` of the side projection's weights: 80 columns of the weights in the kernel's order, then zeros. -/
def wcol (w : Vec Ideal S1024x8272 .f32) (k : Fin 1024) (q : Fin 128) : EReal :=
  if h : q.val < 64 then w (ix2 k ⟨5128 + q.val, by omega⟩)
  else if h : q.val < 72 then w (ix2 k ⟨1984 + q.val, by omega⟩)
  else if h : q.val < 80 then w (ix2 k ⟨5120 + q.val, by omega⟩)
  else 0

theorem wcol_a (w : Vec Ideal S1024x8272 .f32) (k : Fin 1024) (q : Fin 128) (h : q.val < 64) :
    wcol w k q = w (ix2 k ⟨5128 + q.val, by omega⟩) := dif_pos h
theorem wcol_b (w : Vec Ideal S1024x8272 .f32) (k : Fin 1024) (q : Fin 128) (h : ¬q.val < 64) (h' : q.val < 72) :
    wcol w k q = w (ix2 k ⟨1984 + q.val, by omega⟩) := (dif_neg h).trans (dif_pos h')
theorem wcol_c (w : Vec Ideal S1024x8272 .f32) (k : Fin 1024) (q : Fin 128) (h : ¬q.val < 72) (h' : q.val < 80) :
    wcol w k q = w (ix2 k ⟨5120 + q.val, by omega⟩) := (dif_neg (by omega)).trans ((dif_neg h).trans (dif_pos h'))
theorem wcol_d (w : Vec Ideal S1024x8272 .f32) (k : Fin 1024) (q : Fin 128) (h : ¬q.val < 80) :
    wcol w k q = 0 := (dif_neg (by omega)).trans ((dif_neg (by omega)).trans (dif_neg h))

/-- The normed rows times the kernel's columns of the weights, in its order. -/
def G (x : Vec Ideal S32768x1024 .f32) (g : Vec Ideal S1024 .f32) (w : Vec Ideal S1024x8272 .f32) : Vec Ideal S32768x128 .f32 :=
  fun i => ∑ k : Fin 1024, xn x g (i 0) k * wcol w k (i 1)

theorem cols_apply (w : FVec Ideal S1024x8272 .f32) (k : Fin 1024) (q : Fin 128) :
    (truncf .bf16 (concatenate S1024x128 1 [⟨S1024x64, ((extractStridedSlice S1024x64 ![0, 5128] w slices_S1024x8272_S1024x64_0_5128) : (⟨S1024x64, .f32⟩ : BufTy).Contents (Elt Ideal))⟩, ⟨S1024x4, ((extractStridedSlice S1024x4 ![0, 2048] w slices_S1024x8272_S1024x4_0_2048) : (⟨S1024x4, .f32⟩ : BufTy).Contents (Elt Ideal))⟩, ⟨S1024x4, ((extractStridedSlice S1024x4 ![0, 2052] w slices_S1024x8272_S1024x4_0_2052) : (⟨S1024x4, .f32⟩ : BufTy).Contents (Elt Ideal))⟩, ⟨S1024x8, ((extractStridedSlice S1024x8 ![0, 5192] w slices_S1024x8272_S1024x8_0_5192) : (⟨S1024x8, .f32⟩ : BufTy).Contents (Elt Ideal))⟩, ⟨S1024x48, ((broadcastInDim S1024x48 ![] bcast_S_S1024x48 (constant S_ .f32 0x00000000#32) : FVec Ideal S1024x48 .f32) : (⟨S1024x48, .f32⟩ : BufTy).Contents (Elt Ideal))⟩] concatenates_S1024x64_S1024x4_S1024x4_S1024x8_S1024x48_S1024x128_d1) bitsLt_bf16_f32 : FVec Ideal S1024x128 .bf16) (ix2 k q) = wcol w k q := by
  have hc : ∀ a b : Fin 8272, a.val = b.val → w (ix2 k a) = w (ix2 k b) := fun a b h => by rw [Fin.ext h]
  pointwise
  by_cases h0 : q.val < 64
  · rw [dif_pos h0, wcol_a w k q (by omega)]
  rw [dif_neg h0]
  by_cases h1 : q.val - 64 < 4
  · rw [dif_pos h1, wcol_b w k q (by omega) (by omega)]; exact hc _ _ (by first | rfl | omega | (simp only []; omega))
  rw [dif_neg h1]
  by_cases h2 : q.val - 64 - 4 < 4
  · rw [dif_pos h2, wcol_b w k q (by omega) (by omega)]; exact hc _ _ (by first | rfl | omega | (simp only []; omega))
  rw [dif_neg h2]
  by_cases h3 : q.val - 64 - 4 - 4 < 8
  · rw [dif_pos h3, wcol_c w k q (by omega) (by omega)]; exact hc _ _ (by first | rfl | omega | (simp only []; omega))
  rw [dif_neg h3]
  exact (wcol_d w k q (by omega)).symm

theorem V_v19 (c : Dev nD) : V m c main_v19 = broadcastInDim S1x1024 ![1] bcast_S1024_S1x1024_1 (m ((c : Thread nD τ).loc main_arg1)) := by
  dsimp only [V, hostOps0]; after_results <;> rfl
theorem V_w (c : Dev nD) (k : Fin 1024) (q : Fin 128) : V m c main_v18 (ix2 k q) = wcol (m ((c : Thread nD τ).loc main_arg2)) k q := by
  have e : V m c main_v18 = (truncf .bf16 (concatenate S1024x128 1 [⟨S1024x64, ((extractStridedSlice S1024x64 ![0, 5128] (m ((c : Thread nD τ).loc main_arg2)) slices_S1024x8272_S1024x64_0_5128) : (⟨S1024x64, .f32⟩ : BufTy).Contents (Elt Ideal))⟩, ⟨S1024x4, ((extractStridedSlice S1024x4 ![0, 2048] (m ((c : Thread nD τ).loc main_arg2)) slices_S1024x8272_S1024x4_0_2048) : (⟨S1024x4, .f32⟩ : BufTy).Contents (Elt Ideal))⟩, ⟨S1024x4, ((extractStridedSlice S1024x4 ![0, 2052] (m ((c : Thread nD τ).loc main_arg2)) slices_S1024x8272_S1024x4_0_2052) : (⟨S1024x4, .f32⟩ : BufTy).Contents (Elt Ideal))⟩, ⟨S1024x8, ((extractStridedSlice S1024x8 ![0, 5192] (m ((c : Thread nD τ).loc main_arg2)) slices_S1024x8272_S1024x8_0_5192) : (⟨S1024x8, .f32⟩ : BufTy).Contents (Elt Ideal))⟩, ⟨S1024x48, ((broadcastInDim S1024x48 ![] bcast_S_S1024x48 (constant S_ .f32 0x00000000#32) : FVec Ideal S1024x48 .f32) : (⟨S1024x48, .f32⟩ : BufTy).Contents (Elt Ideal))⟩] concatenates_S1024x64_S1024x4_S1024x4_S1024x8_S1024x48_S1024x128_d1) bitsLt_bf16_f32 : FVec Ideal S1024x128 .bf16) := by
    dsimp only [V, hostOps0]; after_results <;> rfl
  rw [e]
  exact cols_apply _ k q

theorem idx_facts : ∀ t : Fin cfg0.N, win0_0.index t = ![t.val, 0] ∧ win0_1.index t = ![0, 0]
    ∧ win0_2.index t = ![0, 0] ∧ win0_3.index t = ![t.val, 0] ∧ t.val < 32 :=
  (by decide +kernel : ∀ t : Fin grid0.N, _)

def row (t : Fin cfg0.N) (r : Fin 1024) : Fin 32768 := ⟨t.val * 1024 + r.val, by have := (idx_facts t).2.2.2.2; omega⟩

theorem iblk0_apply (c : Dev nD) (t : Fin cfg0.N) (r : Fin 1024) (l : Fin 1024) :
    iblk m c 0 t (ix2 r l) = m ((c : Thread nD τ).loc main_arg0) (ix2 (row t r) l) := by
  obtain ⟨e0, -⟩ := idx_facts t
  show V m c main_arg0 _ = _
  rw [V_main_arg0]
  blk_ext [iblk, e0, row]

theorem iblk1_apply (c : Dev nD) (t : Fin cfg0.N) (r : Fin 1) (l : Fin 1024) :
    iblk m c 1 t (ix2 r l) = m ((c : Thread nD τ).loc main_arg1) (ix1 l) := by
  obtain ⟨-, e1, -⟩ := idx_facts t
  show V m c main_v19 (((cfg0.win 1).blk t).view.emb (ix2 r l)) = _
  have h : ((cfg0.win 1).blk t).view.emb (ix2 r l) = ix2 r l := by blk_ext [e1]
  rw [h, V_v19]
  pointwise

theorem iblk2_apply (c : Dev nD) (t : Fin cfg0.N) (r : Fin 1024) (l : Fin 128) :
    iblk m c 2 t (ix2 r l) = wcol (m ((c : Thread nD τ).loc main_arg2)) r l := by
  obtain ⟨-, -, e2, -⟩ := idx_facts t
  show V m c main_v18 (((cfg0.win 2).blk t).view.emb (ix2 r l)) = _
  have h : ((cfg0.win 2).blk t).view.emb (ix2 r l) = ix2 r l := by blk_ext [e2]
  rw [h, V_w]

/-- The payload that norms a row block. -/
theorem pay1_apply (x0 : Vec Ideal S1024x1024 .f32) (x1 : Vec Ideal S1x1024 .f32) (r : Fin 1024) (k : Fin 1024) :
    k0_pay1 x0 x1 (ix2 r k) = x0 (ix2 r k)
      * Ideal.rsqrt (Ideal.div (∑ k : Fin 1024, x0 (ix2 r k) * x0 (ix2 r k)) (Ideal.ofBits .f32 0x44800000#32)
        + Ideal.ofBits .f32 0x358637BD#32) * x1 (ix2 0 k) := by
  pointwise [k0_pay1]

/-- The payload that multiplies by the weights' block. -/
theorem pay2_apply (x0 : Vec Ideal S1024x1024 .bf16) (x1 : Vec Ideal S1024x128 .bf16) (r : Fin 1024) (l : Fin 128) :
    k0_pay2 x0 x1 (ix2 r l) = ∑ k : Fin 1024, x0 (ix2 r k) * x1 (ix2 k l) := by
  pointwise [k0_pay2]

theorem norm_apply (c : Dev nD) (t : Fin cfg0.N) (r : Fin 1024) (k : Fin 1024) :
    k0_pay1 (iblk m c 0 t) (iblk m c 1 t) (ix2 r k)
      = xn (m ((c : Thread nD τ).loc main_arg0)) (m ((c : Thread nD τ).loc main_arg1)) (row t r) k := by
  rw [pay1_apply]
  simp only [iblk0_apply, iblk1_apply]
  rfl

theorem final3 (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e3, -⟩ := idx_facts t
  obtain ⟨r, l, rfl⟩ : ∃ (r : Fin 1024) (l : Fin 128), y = ix2 r l := ⟨y 0, y 1, eq_ix2 y⟩
  have h : ((cfg0.win 3).blk t).view.emb (ix2 r l) = ix2 (row t r) l := by blk_ext [e3, row]
  rw [h]
  blk_simp
  rw [after0_3]
  unfold outsAt0
  frame_out
  rw [pay2_apply]
  exact Fin.sum_fin_congr fun k => by rw [norm_apply, iblk2_apply]; rfl

/-- The reference's operations, composed, are the same product. -/
theorem ref_eq (x : FVec Ideal Cert.InSideRefIdeal.S32768x1024 .f32) (g : FVec Ideal Cert.InSideRefIdeal.S1024 .f32) (w : FVec Ideal Cert.InSideRefIdeal.S1024x8272 .f32) :
    (pad Cert.InSideRefIdeal.S32768x128 ![0, 0] ![0, 48] ![0, 0] ((concatenate Cert.InSideRefIdeal.S32768x80 1 [⟨Cert.InSideRefIdeal.S32768x64, ((extractStridedSlice Cert.InSideRefIdeal.S32768x64 ![0, 5128] (Host.dotGeneral Cert.InSideRefIdeal.dot_S32768x1024_S1024x8272_S32768x8272_1_0_0_1_n_n none (mulf (mulf x (broadcastInDim Cert.InSideRefIdeal.S32768x1024 ![0, 1] Cert.InSideRefIdeal.Gen.bcast_S32768x1_S32768x1024_0_1 (Host.rsqrt (addf (Host.divf (broadcastInDim Cert.InSideRefIdeal.S32768x1 ![0] Cert.InSideRefIdeal.Gen.bcast_S32768_S32768x1_0 (Host.reduceAdd (mulf x x) (constant Cert.InSideRefIdeal.S_ .f32 0x00000000#32) Cert.InSideRefIdeal.Gen.reducesTo_S32768x1024_S32768_d1 Cert.InSideRefIdeal.Gen.h_S_)) (broadcastInDim Cert.InSideRefIdeal.S32768x1 ![] Cert.InSideRefIdeal.Gen.bcast_S_S32768x1 (constant Cert.InSideRefIdeal.S_ .f32 0x44800000#32))) (broadcastInDim Cert.InSideRefIdeal.S32768x1 ![] Cert.InSideRefIdeal.Gen.bcast_S_S32768x1 (constant Cert.InSideRefIdeal.S_ .f32 0x358637BD#32)))))) (broadcastInDim Cert.InSideRefIdeal.S32768x1024 ![0, 1] Cert.InSideRefIdeal.Gen.bcast_S1x1024_S32768x1024_0_1 (broadcastInDim Cert.InSideRefIdeal.S1x1024 ![1] Cert.InSideRefIdeal.Gen.bcast_S1024_S1x1024_1 g))) w) Cert.InSideRefIdeal.Gen.slices_S32768x8272_S32768x64_0_5128) : (⟨Cert.InSideRefIdeal.S32768x64, .f32⟩ : BufTy).Contents (Elt Ideal))⟩, ⟨Cert.InSideRefIdeal.S32768x8, ((extractStridedSlice Cert.InSideRefIdeal.S32768x8 ![0, 2048] (Host.dotGeneral Cert.InSideRefIdeal.dot_S32768x1024_S1024x8272_S32768x8272_1_0_0_1_n_n none (mulf (mulf x (broadcastInDim Cert.InSideRefIdeal.S32768x1024 ![0, 1] Cert.InSideRefIdeal.Gen.bcast_S32768x1_S32768x1024_0_1 (Host.rsqrt (addf (Host.divf (broadcastInDim Cert.InSideRefIdeal.S32768x1 ![0] Cert.InSideRefIdeal.Gen.bcast_S32768_S32768x1_0 (Host.reduceAdd (mulf x x) (constant Cert.InSideRefIdeal.S_ .f32 0x00000000#32) Cert.InSideRefIdeal.Gen.reducesTo_S32768x1024_S32768_d1 Cert.InSideRefIdeal.Gen.h_S_)) (broadcastInDim Cert.InSideRefIdeal.S32768x1 ![] Cert.InSideRefIdeal.Gen.bcast_S_S32768x1 (constant Cert.InSideRefIdeal.S_ .f32 0x44800000#32))) (broadcastInDim Cert.InSideRefIdeal.S32768x1 ![] Cert.InSideRefIdeal.Gen.bcast_S_S32768x1 (constant Cert.InSideRefIdeal.S_ .f32 0x358637BD#32)))))) (broadcastInDim Cert.InSideRefIdeal.S32768x1024 ![0, 1] Cert.InSideRefIdeal.Gen.bcast_S1x1024_S32768x1024_0_1 (broadcastInDim Cert.InSideRefIdeal.S1x1024 ![1] Cert.InSideRefIdeal.Gen.bcast_S1024_S1x1024_1 g))) w) Cert.InSideRefIdeal.Gen.slices_S32768x8272_S32768x8_0_2048) : (⟨Cert.InSideRefIdeal.S32768x8, .f32⟩ : BufTy).Contents (Elt Ideal))⟩, ⟨Cert.InSideRefIdeal.S32768x8, ((extractStridedSlice Cert.InSideRefIdeal.S32768x8 ![0, 5192] (Host.dotGeneral Cert.InSideRefIdeal.dot_S32768x1024_S1024x8272_S32768x8272_1_0_0_1_n_n none (mulf (mulf x (broadcastInDim Cert.InSideRefIdeal.S32768x1024 ![0, 1] Cert.InSideRefIdeal.Gen.bcast_S32768x1_S32768x1024_0_1 (Host.rsqrt (addf (Host.divf (broadcastInDim Cert.InSideRefIdeal.S32768x1 ![0] Cert.InSideRefIdeal.Gen.bcast_S32768_S32768x1_0 (Host.reduceAdd (mulf x x) (constant Cert.InSideRefIdeal.S_ .f32 0x00000000#32) Cert.InSideRefIdeal.Gen.reducesTo_S32768x1024_S32768_d1 Cert.InSideRefIdeal.Gen.h_S_)) (broadcastInDim Cert.InSideRefIdeal.S32768x1 ![] Cert.InSideRefIdeal.Gen.bcast_S_S32768x1 (constant Cert.InSideRefIdeal.S_ .f32 0x44800000#32))) (broadcastInDim Cert.InSideRefIdeal.S32768x1 ![] Cert.InSideRefIdeal.Gen.bcast_S_S32768x1 (constant Cert.InSideRefIdeal.S_ .f32 0x358637BD#32)))))) (broadcastInDim Cert.InSideRefIdeal.S32768x1024 ![0, 1] Cert.InSideRefIdeal.Gen.bcast_S1x1024_S32768x1024_0_1 (broadcastInDim Cert.InSideRefIdeal.S1x1024 ![1] Cert.InSideRefIdeal.Gen.bcast_S1024_S1x1024_1 g))) w) Cert.InSideRefIdeal.Gen.slices_S32768x8272_S32768x8_0_5192) : (⟨Cert.InSideRefIdeal.S32768x8, .f32⟩ : BufTy).Contents (Elt Ideal))⟩] Cert.InSideRefIdeal.Gen.concatenates_S32768x64_S32768x8_S32768x8_S32768x80_d1 : (⟨Cert.InSideRefIdeal.S32768x80, .f32⟩ : BufTy).Contents (Elt Ideal))) (sitofp .f32 (constantI Cert.InSideRefIdeal.S_ 32 0#32)) Cert.InSideRefIdeal.Gen.pads_S32768x80_S32768x128_000_0480 Cert.InSideRefIdeal.Gen.h_S_ : FVec Ideal Cert.InSideRefIdeal.S32768x128 .f32) = G x g w := by
  funext i
  obtain ⟨R, l, rfl⟩ : ∃ (R : Fin 32768) (l : Fin 128), i = ix2 R l := ⟨i 0, i 1, eq_ix2 i⟩
  have hc : ∀ (k : Fin 1024) (a b : Fin 8272), a.val = b.val → w (ix2 k a) = w (ix2 k b) := fun k a b h => by rw [Fin.ext h]
  pointwise [G, xn]
  by_cases h : l.val < 80
  · rw [dif_pos h]
    by_cases h1 : l.val < 64
    · rw [dif_pos h1]
      exact Fin.sum_fin_congr fun k => by rw [wcol_a w k l h1]
    rw [dif_neg h1]
    by_cases h2 : l.val - 64 < 8
    · rw [dif_pos h2]
      exact Fin.sum_fin_congr fun k => by rw [wcol_b w k l (by omega) (by omega), hc k ⟨2048 + (l.val - 64), by omega⟩ ⟨1984 + l.val, by omega⟩ (show 2048 + (l.val - 64) = 1984 + l.val by omega)]
    rw [dif_neg h2]
    exact Fin.sum_fin_congr fun k => by rw [wcol_c w k l (by omega) (by omega), hc k ⟨5192 + (l.val - 64 - 8), by omega⟩ ⟨5120 + l.val, by omega⟩ (show 5192 + (l.val - 64 - 8) = 5120 + l.val by omega)]
  rw [dif_neg h]
  have hz : ∀ k, wcol w k l = 0 := fun k => wcol_d w k l (by omega)
  simp only [hz, mul_zero, Finset.sum_const_zero]
  simp [FloatOps.sitofp]

/-- The two programs end with equal results over the extended reals. -/
theorem algebraic : Cert.algebraic_InSideIdeal_InSideRefIdeal := by
  intro m g m' g' _ hm
  refine ⟨fun c => G (m ((c : Thread nD τ).loc main_arg0)) (m ((c : Thread nD τ).loc main_arg1)) (m ((c : Thread nD τ).loc main_arg2)),
    (θ_run _ _ _).mono (fun r h c => ⟨(h c).1.trans (final3 m c), (h c).2⟩) (Value.run_blocks m g),
    (θ_run _ _ _).mono (fun r h c => ⟨(h c).1.trans ?_, (h c).2⟩) (Cert.InSideRefIdeal.Value.run m' g')⟩
  rw [(hm c).1, (hm c).2.1, (hm c).2.2]
  exact ref_eq _ _ _

end Cert.Proof.InSide

end
-- ==== Proof.MergeValue.lean ====
module

public import proofs.«01_k».proof.Defs
public import proofs.«01_k».proof.Proof.Gen.MergeIdeal.Value
public import proofs.«01_k».proof.Proof.Gen.MergeRefIdeal.Run
public import Idealize.ShloMosaic.Lib.Pointwise
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Proof.Merge

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ) (ρ : Dev nD → PrngReg)

/-- The gate of lane `q` of the projection at row `R`. -/
def gate (p : Vec Ideal S32768x8192 .bf16) (R : Fin 32768) (q : Fin 8192) : EReal :=
  Ideal.div (Ideal.ofBits .f32 0x3F800000#32) (Ideal.ofBits .f32 0x3F800000#32 + Ideal.exp (-(p (ix2 R q))))

/-- The gated sum of the three branches at row `R`, lane `k`. -/
def merged (ya yb yc : Vec Ideal S32768x512 .bf16) (p : Vec Ideal S32768x8192 .bf16) (wb : Vec Ideal S3x512x1024 .f32)
    (R : Fin 32768) (k : Fin 1024) : EReal :=
  gate p R ⟨5120 + k.val, by omega⟩ * (∑ j : Fin 512, ya (ix2 R j) * wb (ix3 0 j k))
    + gate p R ⟨5120 + (1024 + k.val), by omega⟩ * (∑ j : Fin 512, yb (ix2 R j) * wb (ix3 1 j k))
    + gate p R ⟨5120 + (2048 + k.val), by omega⟩ * (∑ j : Fin 512, yc (ix2 R j) * wb (ix3 2 j k))

/-- The residual plus the merged rows times the output weights. -/
def G (ya yb yc : Vec Ideal S32768x512 .bf16) (p : Vec Ideal S32768x8192 .bf16) (x : Vec Ideal S32768x1024 .f32)
    (wb : Vec Ideal S3x512x1024 .f32) (wo : Vec Ideal S1024x1024 .f32) : Vec Ideal S32768x1024 .f32 :=
  fun i => x i + ∑ k : Fin 1024, merged ya yb yc p wb (i 0) k * wo (ix2 k (i 1))

theorem V_v0 (c : Dev nD) : V m c main_v0 = (Host.convertf (F := Ideal) (φ := .f32) (s := S3x512x1024) .bf16 (m ((c : Thread nD τ).loc main_arg5)) : FVec Ideal S3x512x1024 .bf16) := by
  dsimp only [V, hostOps0]; after_results <;> rfl
theorem V_v1 (c : Dev nD) : V m c main_v1 = (Host.convertf (F := Ideal) (φ := .f32) (s := S1024x1024) .bf16 (m ((c : Thread nD τ).loc main_arg6)) : FVec Ideal S1024x1024 .bf16) := by
  dsimp only [V, hostOps0]; after_results <;> rfl

theorem idx_facts : ∀ t : Fin cfg0.N, (win0_0.index t = ![t.val, 0] ∧ win0_1.index t = ![t.val, 0] ∧ win0_2.index t = ![t.val, 0])
    ∧ (win0_3.index t = ![t.val, 5] ∧ win0_4.index t = ![t.val, 6] ∧ win0_5.index t = ![t.val, 7]) ∧ win0_6.index t = ![t.val, 0]
    ∧ win0_7.index t = ![0, 0, 0] ∧ win0_8.index t = ![0, 0] ∧ win0_9.index t = ![t.val, 0] ∧ t.val < 32 :=
  (by decide +kernel : ∀ t : Fin grid0.N, _)

/-- Row `r` of point `t`'s block is row `1024 t + r` of the array. -/
def row (t : Fin cfg0.N) (r : Fin 1024) : Fin 32768 := ⟨t.val * 1024 + r.val, by have := (idx_facts t).2.2.2.2.2.2; omega⟩

theorem iblk0_apply (c : Dev nD) (t : Fin cfg0.N) (r : Fin 1024) (l : Fin 512) :
    iblk m c 0 t (ix2 r l) = m ((c : Thread nD τ).loc main_arg0) (ix2 (row t r) l) := by
  obtain ⟨⟨e, -, -⟩, -⟩ := idx_facts t
  show V m c main_arg0 _ = _
  rw [V_main_arg0]
  blk_ext [iblk, e, row]

theorem iblk1_apply (c : Dev nD) (t : Fin cfg0.N) (r : Fin 1024) (l : Fin 512) :
    iblk m c 1 t (ix2 r l) = m ((c : Thread nD τ).loc main_arg1) (ix2 (row t r) l) := by
  obtain ⟨⟨-, e, -⟩, -⟩ := idx_facts t
  show V m c main_arg1 _ = _
  rw [V_main_arg1]
  blk_ext [iblk, e, row]

theorem iblk2_apply (c : Dev nD) (t : Fin cfg0.N) (r : Fin 1024) (l : Fin 512) :
    iblk m c 2 t (ix2 r l) = m ((c : Thread nD τ).loc main_arg2) (ix2 (row t r) l) := by
  obtain ⟨⟨-, -, e⟩, -⟩ := idx_facts t
  show V m c main_arg2 _ = _
  rw [V_main_arg2]
  blk_ext [iblk, e, row]

theorem iblk3_apply (c : Dev nD) (t : Fin cfg0.N) (r l : Fin 1024) :
    iblk m c 3 t (ix2 r l) = m ((c : Thread nD τ).loc main_arg3) (ix2 (row t r) ⟨5120 + l.val, by omega⟩) := by
  obtain ⟨-, ⟨e, -, -⟩, -⟩ := idx_facts t
  show V m c main_arg3 _ = _
  rw [V_main_arg3]
  blk_ext [iblk, e, row]

theorem iblk4_apply (c : Dev nD) (t : Fin cfg0.N) (r l : Fin 1024) :
    iblk m c 4 t (ix2 r l) = m ((c : Thread nD τ).loc main_arg3) (ix2 (row t r) ⟨5120 + (1024 + l.val), by omega⟩) := by
  obtain ⟨-, ⟨-, e, -⟩, -⟩ := idx_facts t
  show V m c main_arg3 _ = _
  rw [V_main_arg3]
  blk_ext [iblk, e, row]

theorem iblk5_apply (c : Dev nD) (t : Fin cfg0.N) (r l : Fin 1024) :
    iblk m c 5 t (ix2 r l) = m ((c : Thread nD τ).loc main_arg3) (ix2 (row t r) ⟨5120 + (2048 + l.val), by omega⟩) := by
  obtain ⟨-, ⟨-, -, e⟩, -⟩ := idx_facts t
  show V m c main_arg3 _ = _
  rw [V_main_arg3]
  blk_ext [iblk, e, row]

theorem iblk6_apply (c : Dev nD) (t : Fin cfg0.N) (r l : Fin 1024) :
    iblk m c 6 t (ix2 r l) = m ((c : Thread nD τ).loc main_arg4) (ix2 (row t r) l) := by
  obtain ⟨-, -, e, -⟩ := idx_facts t
  show V m c main_arg4 _ = _
  rw [V_main_arg4]
  blk_ext [iblk, e, row]

theorem iblk7_apply (c : Dev nD) (t : Fin cfg0.N) (n : Fin 3) (j : Fin 512) (k : Fin 1024) :
    iblk m c 7 t (ix3 n j k) = m ((c : Thread nD τ).loc main_arg5) (ix3 n j k) := by
  obtain ⟨-, -, -, e, -⟩ := idx_facts t
  show V m c main_v0 (((cfg0.win 7).blk t).view.emb (ix3 n j k)) = _
  have h : ((cfg0.win 7).blk t).view.emb (ix3 n j k) = ix3 n j k := by blk_ext [e]
  rw [h, V_v0]
  pointwise

theorem iblk8_apply (c : Dev nD) (t : Fin cfg0.N) (r l : Fin 1024) :
    iblk m c 8 t (ix2 r l) = m ((c : Thread nD τ).loc main_arg6) (ix2 r l) := by
  obtain ⟨-, -, -, -, e, -⟩ := idx_facts t
  show V m c main_v1 (((cfg0.win 8).blk t).view.emb (ix2 r l)) = _
  have h : ((cfg0.win 8).blk t).view.emb (ix2 r l) = ix2 r l := by blk_ext [e]
  rw [h, V_v1]
  pointwise

/-- The gate the kernel computes from its block of the projection. -/
def gateB (x : Vec Ideal S1024x1024 .bf16) (r k : Fin 1024) : EReal :=
  Ideal.div (Ideal.ofBits .f32 0x3F800000#32) (Ideal.ofBits .f32 0x3F800000#32 + Ideal.exp (-(x (ix2 r k))))

/-- The block a point writes, over the extended reals. -/
theorem out_apply (x0 x1 x2 : Vec Ideal S1024x512 .bf16) (x3 x4 x5 : Vec Ideal S1024x1024 .bf16) (x6 : Vec Ideal S1024x1024 .f32)
    (x7 : Vec Ideal S3x512x1024 .bf16) (x8 : Vec Ideal S1024x1024 .bf16) (r l : Fin 1024) :
    out0_9 x0 x1 x2 x3 x4 x5 x6 x7 x8 (ix2 r l) = x6 (ix2 r l) + ∑ k : Fin 1024,
      (gateB x3 r k * (∑ j : Fin 512, x0 (ix2 r j) * x7 (ix3 0 j k)) + gateB x4 r k * (∑ j : Fin 512, x1 (ix2 r j) * x7 (ix3 1 j k))
        + gateB x5 r k * (∑ j : Fin 512, x2 (ix2 r j) * x7 (ix3 2 j k))) * x8 (ix2 k l) := by
  frame_out
  pointwise [k0_pay1, k0_pay2, k0_pay3, gateB]
  simp only [zero_sub]

theorem final9 (c : Dev nD) : (dats m 0 c).arrAt 9 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨-, -, -, -, -, e9, -⟩ := idx_facts t
  obtain ⟨r, l, rfl⟩ : ∃ (r l : Fin 1024), y = ix2 r l := ⟨y 0, y 1, eq_ix2 y⟩
  have h : ((cfg0.win 9).blk t).view.emb (ix2 r l) = ix2 (row t r) l := by blk_ext [e9, row]
  rw [h]
  blk_simp
  rw [after0_9, out_apply]
  simp only [gateB, iblk0_apply, iblk1_apply, iblk2_apply, iblk3_apply, iblk4_apply, iblk5_apply, iblk6_apply, iblk7_apply, iblk8_apply]
  rfl

/-- The reference's operations, composed, are the same sum. -/
theorem ref_eq (ya yb yc : FVec Ideal Cert.MergeRefIdeal.S32768x512 .bf16) (p : FVec Ideal Cert.MergeRefIdeal.S32768x8192 .bf16)
    (x : FVec Ideal Cert.MergeRefIdeal.S32768x1024 .f32) (wb : FVec Ideal Cert.MergeRefIdeal.S3x512x1024 .f32)
    (wo : FVec Ideal Cert.MergeRefIdeal.S1024x1024 .f32) :
    (addf x (Host.dotGeneral Cert.MergeRefIdeal.dot_S32768x1024_S1024x1024_S32768x1024_1_0_0_1_n_n none (addf (addf (mulf (extractStridedSlice Cert.MergeRefIdeal.S32768x1024 ![0, 0] (Host.divf (broadcastInDim Cert.MergeRefIdeal.S32768x3072 ![] Cert.MergeRefIdeal.Gen.bcast_S_S32768x3072 (constant Cert.MergeRefIdeal.S_ .f32 0x3F800000#32)) (addf (broadcastInDim Cert.MergeRefIdeal.S32768x3072 ![] Cert.MergeRefIdeal.Gen.bcast_S_S32768x3072 (constant Cert.MergeRefIdeal.S_ .f32 0x3F800000#32)) (Host.exp (Host.negf (extf .f32 (extractStridedSlice Cert.MergeRefIdeal.S32768x3072 ![0, 5120] p Cert.MergeRefIdeal.Gen.slices_S32768x8192_S32768x3072_0_5120) Cert.MergeRefIdeal.Gen.bitsLt_bf16_f32))))) Cert.MergeRefIdeal.Gen.slices_S32768x3072_S32768x1024_0_0) (Host.dotGeneral Cert.MergeRefIdeal.dot_S32768x512_S512x1024_S32768x1024_1_0_0_1_n_n none (extf .f32 ya Cert.MergeRefIdeal.Gen.bitsLt_bf16_f32) (shapeCast _ (extractStridedSlice Cert.MergeRefIdeal.S1x512x1024 ![0, 0, 0] wb Cert.MergeRefIdeal.Gen.slices_S3x512x1024_S1x512x1024_0_0_0) Cert.MergeRefIdeal.Gen.shapeCasts_S1x512x1024_S512x1024))) (mulf (extractStridedSlice Cert.MergeRefIdeal.S32768x1024 ![0, 1024] (Host.divf (broadcastInDim Cert.MergeRefIdeal.S32768x3072 ![] Cert.MergeRefIdeal.Gen.bcast_S_S32768x3072 (constant Cert.MergeRefIdeal.S_ .f32 0x3F800000#32)) (addf (broadcastInDim Cert.MergeRefIdeal.S32768x3072 ![] Cert.MergeRefIdeal.Gen.bcast_S_S32768x3072 (constant Cert.MergeRefIdeal.S_ .f32 0x3F800000#32)) (Host.exp (Host.negf (extf .f32 (extractStridedSlice Cert.MergeRefIdeal.S32768x3072 ![0, 5120] p Cert.MergeRefIdeal.Gen.slices_S32768x8192_S32768x3072_0_5120) Cert.MergeRefIdeal.Gen.bitsLt_bf16_f32))))) Cert.MergeRefIdeal.Gen.slices_S32768x3072_S32768x1024_0_1024) (Host.dotGeneral Cert.MergeRefIdeal.dot_S32768x512_S512x1024_S32768x1024_1_0_0_1_n_n none (extf .f32 yb Cert.MergeRefIdeal.Gen.bitsLt_bf16_f32) (shapeCast _ (extractStridedSlice Cert.MergeRefIdeal.S1x512x1024 ![1, 0, 0] wb Cert.MergeRefIdeal.Gen.slices_S3x512x1024_S1x512x1024_1_0_0) Cert.MergeRefIdeal.Gen.shapeCasts_S1x512x1024_S512x1024)))) (mulf (extractStridedSlice Cert.MergeRefIdeal.S32768x1024 ![0, 2048] (Host.divf (broadcastInDim Cert.MergeRefIdeal.S32768x3072 ![] Cert.MergeRefIdeal.Gen.bcast_S_S32768x3072 (constant Cert.MergeRefIdeal.S_ .f32 0x3F800000#32)) (addf (broadcastInDim Cert.MergeRefIdeal.S32768x3072 ![] Cert.MergeRefIdeal.Gen.bcast_S_S32768x3072 (constant Cert.MergeRefIdeal.S_ .f32 0x3F800000#32)) (Host.exp (Host.negf (extf .f32 (extractStridedSlice Cert.MergeRefIdeal.S32768x3072 ![0, 5120] p Cert.MergeRefIdeal.Gen.slices_S32768x8192_S32768x3072_0_5120) Cert.MergeRefIdeal.Gen.bitsLt_bf16_f32))))) Cert.MergeRefIdeal.Gen.slices_S32768x3072_S32768x1024_0_2048) (Host.dotGeneral Cert.MergeRefIdeal.dot_S32768x512_S512x1024_S32768x1024_1_0_0_1_n_n none (extf .f32 yc Cert.MergeRefIdeal.Gen.bitsLt_bf16_f32) (shapeCast _ (extractStridedSlice Cert.MergeRefIdeal.S1x512x1024 ![2, 0, 0] wb Cert.MergeRefIdeal.Gen.slices_S3x512x1024_S1x512x1024_2_0_0) Cert.MergeRefIdeal.Gen.shapeCasts_S1x512x1024_S512x1024)))) wo) : FVec Ideal Cert.MergeRefIdeal.S32768x1024 .f32) = G ya yb yc p x wb wo := by
  funext i
  obtain ⟨R, l, rfl⟩ : ∃ (R : Fin 32768) (l : Fin 1024), i = ix2 R l := ⟨i 0, i 1, eq_ix2 i⟩
  pointwise [G, merged, gate]

/-- The two programs end with equal results over the extended reals. -/
theorem algebraic : Cert.algebraic_MergeIdeal_MergeRefIdeal := by
  intro m g m' g' _ hm
  refine ⟨fun c => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    (θ_run _ _ _).mono (fun r h c => ⟨(h c).1.trans (final9 m c), (h c).2⟩) (Value.run_blocks m g),
    (θ_run _ _ _).mono (fun r h c => ⟨(h c).1.trans ?_, (h c).2⟩) (Cert.MergeRefIdeal.Value.run m' g')⟩
  obtain ⟨h0, h1, h2, h3, h4, h5, h6⟩ := hm c
  rw [h0, h1, h2, h3, h4, h5, h6]
  exact ref_eq _ _ _ _ _ _ _

end Cert.Proof.Merge

end
-- ==== Proof.FfnUpValue.lean ====
module

public import proofs.«01_k».proof.Defs
public import proofs.«01_k».proof.Proof.Gen.FfnUpIdeal.Value
public import proofs.«01_k».proof.Proof.Gen.FfnUpRefIdeal.Run
public import Idealize.ShloMosaic.Lib.Pointwise
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Proof.FfnUp

open Idealize.ShloMosaic Idealize.ShloMosaic.TcCoe Idealize.SL.Sem
open Idealize.ShloMosaic.Pipeline (Dat)
open Cert.FfnUpIdeal Cert.FfnUpIdeal.Gen

variable (m : (ℓ : Loc nD τ sig) → Buf (Elt Ideal) ℓ) (ρ : Dev nD → PrngReg)

/-- Row `R` of `x`, normed by its root mean square and scaled lane by lane. -/
def xn (x : Vec Ideal S32768x1024 .f32) (g : Vec Ideal S1024 .f32) (R : Fin 32768) (k : Fin 1024) : EReal :=
  x (ix2 R k) * Ideal.rsqrt (Ideal.div (∑ k : Fin 1024, x (ix2 R k) * x (ix2 R k)) (Ideal.ofBits .f32 0x44800000#32)
        + Ideal.ofBits .f32 0x358637BD#32) * g (ix1 k)

/-- The normed rows times the weights. -/
def G (x : Vec Ideal S32768x1024 .f32) (g : Vec Ideal S1024 .f32) (w : Vec Ideal S1024x6144 .f32) : Vec Ideal S32768x6144 .bf16 :=
  fun i => ∑ k : Fin 1024, xn x g (i 0) k * w (ix2 k (i 1))

theorem V_v0 (c : Dev nD) : V m c main_v0 = broadcastInDim S1x1024 ![1] bcast_S1024_S1x1024_1 (m ((c : Thread nD τ).loc main_arg1)) := by
  dsimp only [V, hostOps0]; after_results <;> rfl
theorem V_v1 (c : Dev nD) : V m c main_v1 = (Host.convertf (F := Ideal) (φ := .f32) (s := S1024x6144) .bf16 (m ((c : Thread nD τ).loc main_arg2)) : FVec Ideal S1024x6144 .bf16) := by
  dsimp only [V, hostOps0]; after_results <;> rfl

theorem idx_facts : ∀ t : Fin cfg0.N, win0_0.index t = ![t.val / 6, 0] ∧ win0_1.index t = ![0, 0]
    ∧ win0_2.index t = ![0, t.val % 6] ∧ win0_3.index t = ![t.val / 6, t.val % 6] ∧ t.val < 96 :=
  (by decide +kernel : ∀ t : Fin grid0.N, _)

def row (t : Fin cfg0.N) (r : Fin 2048) : Fin 32768 := ⟨t.val / 6 * 2048 + r.val, by have := (idx_facts t).2.2.2.2; omega⟩
def col (t : Fin cfg0.N) (r : Fin 1024) : Fin 6144 := ⟨t.val % 6 * 1024 + r.val, by omega⟩

theorem iblk0_apply (c : Dev nD) (t : Fin cfg0.N) (r : Fin 2048) (l : Fin 1024) :
    iblk m c 0 t (ix2 r l) = m ((c : Thread nD τ).loc main_arg0) (ix2 (row t r) l) := by
  obtain ⟨e0, -⟩ := idx_facts t
  show V m c main_arg0 _ = _
  rw [V_main_arg0]
  blk_ext [iblk, e0, row]

theorem iblk1_apply (c : Dev nD) (t : Fin cfg0.N) (r : Fin 1) (l : Fin 1024) :
    iblk m c 1 t (ix2 r l) = m ((c : Thread nD τ).loc main_arg1) (ix1 l) := by
  obtain ⟨-, e1, -⟩ := idx_facts t
  show V m c main_v0 (((cfg0.win 1).blk t).view.emb (ix2 r l)) = _
  have h : ((cfg0.win 1).blk t).view.emb (ix2 r l) = ix2 r l := by blk_ext [e1]
  rw [h, V_v0]
  pointwise

theorem iblk2_apply (c : Dev nD) (t : Fin cfg0.N) (r : Fin 1024) (l : Fin 1024) :
    iblk m c 2 t (ix2 r l) = m ((c : Thread nD τ).loc main_arg2) (ix2 r (col t l)) := by
  obtain ⟨-, -, e2, -⟩ := idx_facts t
  show V m c main_v1 (((cfg0.win 2).blk t).view.emb (ix2 r l)) = _
  have h : ((cfg0.win 2).blk t).view.emb (ix2 r l) = ix2 r (col t l) := by blk_ext [e2, col]
  rw [h, V_v1]
  pointwise

/-- The payload that norms a row block. -/
theorem pay1_apply (x0 : Vec Ideal S2048x1024 .f32) (x1 : Vec Ideal S1x1024 .f32) (r : Fin 2048) (k : Fin 1024) :
    k0_pay1 x0 x1 (ix2 r k) = x0 (ix2 r k)
      * Ideal.rsqrt (Ideal.div (∑ k : Fin 1024, x0 (ix2 r k) * x0 (ix2 r k)) (Ideal.ofBits .f32 0x44800000#32)
        + Ideal.ofBits .f32 0x358637BD#32) * x1 (ix2 0 k) := by
  pointwise [k0_pay1]

/-- The payload that multiplies by the weights' block. -/
theorem pay2_apply (x0 : Vec Ideal S2048x1024 .bf16) (x1 : Vec Ideal S1024x1024 .bf16) (r : Fin 2048) (l : Fin 1024) :
    k0_pay2 x0 x1 (ix2 r l) = ∑ k : Fin 1024, x0 (ix2 r k) * x1 (ix2 k l) := by
  pointwise [k0_pay2]

theorem norm_apply (c : Dev nD) (t : Fin cfg0.N) (r : Fin 2048) (k : Fin 1024) :
    k0_pay1 (iblk m c 0 t) (iblk m c 1 t) (ix2 r k)
      = xn (m ((c : Thread nD τ).loc main_arg0)) (m ((c : Thread nD τ).loc main_arg1)) (row t r) k := by
  rw [pay1_apply]
  simp only [iblk0_apply, iblk1_apply]
  rfl

/-- A point that begins a row block leaves its normed rows in the scratch. -/
theorem scratch_A (c : Dev nD) (t : Fin cfg0.N) (h0 : t.val % 6 = 0) (r : Fin 2048) (k : Fin 1024) :
    (outsAt0 m c t.val t.isLt).2 (ix2 r k)
      = xn (m ((c : Thread nD τ).loc main_arg0)) (m ((c : Thread nD τ).loc main_arg1)) (row t r) k := by
  rw [outsAt0_A m c t h0]
  frame_out
  exact norm_apply m c t r k

/-- The other points of a row block leave the scratch as they found it. -/
theorem scratch_B (c : Dev nD) (t : Fin cfg0.N) (h0 : ¬t.val % 6 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- The scratch holds the normed rows of the point's row block. -/
theorem scratch (c : Dev nD) (n : ℕ) (hn : n < cfg0.N) (r : Fin 2048) (k : Fin 1024) :
    (outsAt0 m c n hn).2 (ix2 r k)
      = xn (m ((c : Thread nD τ).loc main_arg0)) (m ((c : Thread nD τ).loc main_arg1)) (row ⟨n, hn⟩ r) k := by
  induction n with
  | zero => exact scratch_A m c ⟨0, hn⟩ rfl r k
  | succ n ih =>
    by_cases h : (n + 1) % 6 = 0
    · exact scratch_A m c ⟨n + 1, hn⟩ h r k
    · have e : row ⟨n + 1, hn⟩ r = row ⟨n, by omega⟩ r := Fin.ext (by simp only [row]; omega)
      have hb := scratch_B m c ⟨n + 1, hn⟩ h
      simp only [Nat.add_sub_cancel] at hb
      rw [hb, e]
      exact ih _

theorem final3 (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e3, -⟩ := idx_facts t
  obtain ⟨r, l, rfl⟩ : ∃ (r : Fin 2048) (l : Fin 1024), y = ix2 r l := ⟨y 0, y 1, eq_ix2 y⟩
  have h : ((cfg0.win 3).blk t).view.emb (ix2 r l) = ix2 (row t r) (col t l) := by blk_ext [e3, row, col]
  rw [h]
  blk_simp
  rw [after0_3]
  by_cases h0 : t.val % 6 = 0
  · rw [outsAt0_A m c t h0]
    frame_out
    rw [pay2_apply]
    exact Fin.sum_fin_congr fun k => by rw [norm_apply, iblk2_apply]; rfl
  · rw [outsAt0_B m c t h0]
    frame_out
    simp only [read_unread_whole]
    rw [pay2_apply]
    have e : row ⟨t.val - 1, Nat.lt_of_le_of_lt (Nat.sub_le _ _) t.isLt⟩ r = row t r := Fin.ext (by simp only [row]; omega)
    exact Fin.sum_fin_congr fun k => by rw [scratch, iblk2_apply, e]; rfl

/-- The reference's operations, composed, are the same product. -/
theorem ref_eq (x : FVec Ideal Cert.FfnUpRefIdeal.S32768x1024 .f32) (g : FVec Ideal Cert.FfnUpRefIdeal.S1024 .f32) (w : FVec Ideal Cert.FfnUpRefIdeal.S1024x6144 .f32) :
    (truncf .bf16 (Host.dotGeneral Cert.FfnUpRefIdeal.dot_S32768x1024_S1024x6144_S32768x6144_1_0_0_1_n_n none (mulf (mulf x (broadcastInDim Cert.FfnUpRefIdeal.S32768x1024 ![0, 1] Cert.FfnUpRefIdeal.Gen.bcast_S32768x1_S32768x1024_0_1 (Host.rsqrt (addf (Host.divf (broadcastInDim Cert.FfnUpRefIdeal.S32768x1 ![0] Cert.FfnUpRefIdeal.Gen.bcast_S32768_S32768x1_0 (Host.reduceAdd (mulf x x) (constant Cert.FfnUpRefIdeal.S_ .f32 0x00000000#32) Cert.FfnUpRefIdeal.Gen.reducesTo_S32768x1024_S32768_d1 Cert.FfnUpRefIdeal.Gen.h_S_)) (broadcastInDim Cert.FfnUpRefIdeal.S32768x1 ![] Cert.FfnUpRefIdeal.Gen.bcast_S_S32768x1 (constant Cert.FfnUpRefIdeal.S_ .f32 0x44800000#32))) (broadcastInDim Cert.FfnUpRefIdeal.S32768x1 ![] Cert.FfnUpRefIdeal.Gen.bcast_S_S32768x1 (constant Cert.FfnUpRefIdeal.S_ .f32 0x358637BD#32)))))) (broadcastInDim Cert.FfnUpRefIdeal.S32768x1024 ![0, 1] Cert.FfnUpRefIdeal.Gen.bcast_S1x1024_S32768x1024_0_1 (broadcastInDim Cert.FfnUpRefIdeal.S1x1024 ![1] Cert.FfnUpRefIdeal.Gen.bcast_S1024_S1x1024_1 g))) w) Cert.FfnUpRefIdeal.Gen.bitsLt_bf16_f32 : FVec Ideal Cert.FfnUpRefIdeal.S32768x6144 .bf16) = G x g w := by
  funext i
  obtain ⟨R, l, rfl⟩ : ∃ (R : Fin 32768) (l : Fin 6144), i = ix2 R l := ⟨i 0, i 1, eq_ix2 i⟩
  pointwise [G, xn]

/-- The two programs end with equal results over the extended reals. -/
theorem algebraic : Cert.algebraic_FfnUpIdeal_FfnUpRefIdeal := by
  intro m g m' g' _ hm
  refine ⟨fun c => G (m ((c : Thread nD τ).loc main_arg0)) (m ((c : Thread nD τ).loc main_arg1)) (m ((c : Thread nD τ).loc main_arg2)),
    (θ_run _ _ _).mono (fun r h c => ⟨(h c).1.trans (final3 m c), (h c).2⟩) (Value.run_blocks m g),
    (θ_run _ _ _).mono (fun r h c => ⟨(h c).1.trans ?_, (h c).2⟩) (Cert.FfnUpRefIdeal.Value.run m' g')⟩
  rw [(hm c).1, (hm c).2.1, (hm c).2.2]
  exact ref_eq _ _ _

end Cert.Proof.FfnUp

end
-- ==== Proof.FfnDownRefValue.lean ====
module

public import proofs.«01_k».proof.Defs
public import proofs.«01_k».proof.Proof.Gen.FfnDownRefIdeal.Run
public import Idealize.ShloMosaic.Lib.Pointwise
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Proof.FfnDown

open Idealize.ShloMosaic Idealize.ShloMosaic.TcCoe Idealize.SL.Sem
open Idealize.ShloMosaic.Pipeline (Dat)
open Cert.FfnDownRefIdeal Cert.FfnDownRefIdeal.Gen

/-- The gate lanes `d` tokens before token `R`, zero before the token's sequence begins. -/
def back (up : FVec Ideal S32768x6144 .bf16) (d : ℕ) (R : Fin 32768) (k : Fin 3072) : EReal :=
  if R.val % 8192 < d then 0 else up (ix2 ⟨R.val - d, by omega⟩ ⟨k.val, by omega⟩)

/-- The causal convolution of the gate lanes over three tokens. -/
def conv (up : FVec Ideal S32768x6144 .bf16) (cw : FVec Ideal S3x3072 .f32) (cb : FVec Ideal S3072 .f32) (R : Fin 32768) (k : Fin 3072) : EReal :=
  cb (ix1 k) + cw (ix2 2 k) * up (ix2 R ⟨k.val, by omega⟩) + cw (ix2 0 k) * back up 2 R k + cw (ix2 1 k) * back up 1 R k

/-- The tanh form of the Gaussian error linear unit. -/
def gelu (z : EReal) : EReal :=
  Ideal.ofBits .f32 0x3F000000#32 * z * (1 + Ideal.tanh (Ideal.ofBits .f32 0x3F4C422A#32 * (z + Ideal.ofBits .f32 0x3D372713#32 * (z * z * z))))

/-- The residual stream plus the gated lanes through the down projection. -/
def G (up : FVec Ideal S32768x6144 .bf16) (cw : FVec Ideal S3x3072 .f32) (cb : FVec Ideal S3072 .f32)
    (wd : FVec Ideal S3072x1024 .f32) (x : FVec Ideal S32768x1024 .f32) : FVec Ideal S32768x1024 .f32 := fun i =>
  x (ix2 (i 0) (i 1)) + ∑ k : Fin 3072, gelu (conv up cw cb (i 0) k) * up (ix2 (i 0) ⟨3072 + k.val, by omega⟩) * wd (ix2 k (i 1))

theorem sum_order (a b c d : EReal) : a + b + c + d = d + c + a + b := by ac_rfl

theorem G_apply (up : FVec Ideal S32768x6144 .bf16) (cw : FVec Ideal S3x3072 .f32) (cb : FVec Ideal S3072 .f32)
    (wd : FVec Ideal S3072x1024 .f32) (x : FVec Ideal S32768x1024 .f32) (R : Fin 32768) (l : Fin 1024) :
    G up cw cb wd x (ix2 R l)
      = x (ix2 R l) + ∑ k : Fin 3072, gelu (conv up cw cb R k) * up (ix2 R ⟨3072 + k.val, by omega⟩) * wd (ix2 k l) := rfl

/-- The reference's padded and sliced sum of three products is the convolution. -/
theorem conv_ref (up : FVec Ideal S32768x6144 .bf16) (cw : FVec Ideal S3x3072 .f32) (cb : FVec Ideal S3072 .f32) (R : Fin 32768) (k : Fin 3072) :
    (cw (ix2 0 k) * (if h : R.val / 8192 < 4 ∧ 2 ≤ R.val % 8192 ∧ R.val % 8192 - 2 < 8192 then
        up (ix2 ⟨R.val / 8192 * 8192 + (R.val % 8192 - 2), by omega⟩ ⟨k.val, by omega⟩) else (FloatOps.sitofp .f32 0#32 : Ideal .f32))
      + cw (ix2 1 k) * (if h : R.val / 8192 < 4 ∧ 2 ≤ 1 + R.val % 8192 ∧ 1 + R.val % 8192 - 2 < 8192 then
        up (ix2 ⟨R.val / 8192 * 8192 + (1 + R.val % 8192 - 2), by omega⟩ ⟨k.val, by omega⟩) else (FloatOps.sitofp .f32 0#32 : Ideal .f32))
      + cw (ix2 2 k) * (if h : R.val / 8192 < 4 ∧ R.val % 8192 < 8192 then up (ix2 R ⟨k.val, by omega⟩) else (FloatOps.sitofp .f32 0#32 : Ideal .f32))
      + cb (ix1 k) : EReal) = conv up cw cb R k := by
  have h2 : (if h : R.val / 8192 < 4 ∧ 2 ≤ R.val % 8192 ∧ R.val % 8192 - 2 < 8192 then
        up (ix2 ⟨R.val / 8192 * 8192 + (R.val % 8192 - 2), by omega⟩ ⟨k.val, by omega⟩) else (FloatOps.sitofp .f32 0#32 : Ideal .f32)) = back up 2 R k := by
    unfold back
    by_cases h : R.val % 8192 < 2
    · rw [dif_neg (by omega), if_pos h]; simp [FloatOps.sitofp]
    · rw [dif_pos (by omega), if_neg h]
      exact congrArg (fun r : Fin 32768 => up (ix2 r ⟨k.val, by omega⟩)) (Fin.ext (by show R.val / 8192 * 8192 + (R.val % 8192 - 2) = R.val - 2; omega))
  have h1 : (if h : R.val / 8192 < 4 ∧ 2 ≤ 1 + R.val % 8192 ∧ 1 + R.val % 8192 - 2 < 8192 then
        up (ix2 ⟨R.val / 8192 * 8192 + (1 + R.val % 8192 - 2), by omega⟩ ⟨k.val, by omega⟩) else (FloatOps.sitofp .f32 0#32 : Ideal .f32)) = back up 1 R k := by
    unfold back
    by_cases h : R.val % 8192 < 1
    · rw [dif_neg (by omega), if_pos h]; simp [FloatOps.sitofp]
    · rw [dif_pos (by omega), if_neg h]
      exact congrArg (fun r : Fin 32768 => up (ix2 r ⟨k.val, by omega⟩)) (Fin.ext (by show R.val / 8192 * 8192 + (1 + R.val % 8192 - 2) = R.val - 1; omega))
  rw [h2, h1, dif_pos (by omega)]
  exact sum_order _ _ _ _

/-- The reference's order of the unit's factors. -/
theorem gelu_ref (z u w : EReal) :
    z * (Ideal.ofBits .f32 0x3F000000#32 * (1 + Ideal.tanh (Ideal.ofBits .f32 0x3F4C422A#32 * (z + Ideal.ofBits .f32 0x3D372713#32 * (z * z * z))))) * u * w
      = gelu z * u * w := by
  unfold gelu
  rw [← mul_assoc z, mul_comm z]

/-- The reference's operations, composed, are `G`. -/
theorem ref_eq (up : FVec Ideal S32768x6144 .bf16) (cw : FVec Ideal S3x3072 .f32) (cb : FVec Ideal S3072 .f32)
    (wd : FVec Ideal S3072x1024 .f32) (x : FVec Ideal S32768x1024 .f32) :
    (addf x (shapeCast _ (Host.dotGeneral dot_S4x8192x3072_S3072x1024_S4x8192x1024_2_0_01_1_n_n none (mulf (mulf (addf (addf (addf (addf (broadcastInDim S4x8192x3072 ![] bcast_S_S4x8192x3072 (constant S_ .f32 0x00000000#32)) (mulf (broadcastInDim S4x8192x3072 ![0, 1, 2] bcast_S1x1x3072_S4x8192x3072_0_1_2 (broadcastInDim S1x1x3072 ![2] bcast_S3072_S1x1x3072_2 (shapeCast _ (extractStridedSlice S1x3072 ![0, 0] cw slices_S3x3072_S1x3072_0_0) shapeCasts_S1x3072_S3072))) (extractStridedSlice S4x8192x3072 ![0, 0, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_0_0))) (mulf (broadcastInDim S4x8192x3072 ![0, 1, 2] bcast_S1x1x3072_S4x8192x3072_0_1_2 (broadcastInDim S1x1x3072 ![2] bcast_S3072_S1x1x3072_2 (shapeCast _ (extractStridedSlice S1x3072 ![1, 0] cw slices_S3x3072_S1x3072_1_0) shapeCasts_S1x3072_S3072))) (extractStridedSlice S4x8192x3072 ![0, 1, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_1_0))) (mulf (broadcastInDim S4x8192x3072 ![0, 1, 2] bcast_S1x1x3072_S4x8192x3072_0_1_2 (broadcastInDim S1x1x3072 ![2] bcast_S3072_S1x1x3072_2 (shapeCast _ (extractStridedSlice S1x3072 ![2, 0] cw slices_S3x3072_S1x3072_2_0) shapeCasts_S1x3072_S3072))) (extractStridedSlice S4x8192x3072 ![0, 2, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_2_0))) (broadcastInDim S4x8192x3072 ![0, 1, 2] bcast_S1x1x3072_S4x8192x3072_0_1_2 (broadcastInDim S1x1x3072 ![2] bcast_S3072_S1x1x3072_2 cb))) (mulf (broadcastInDim S4x8192x3072 ![] bcast_S_S4x8192x3072 (constant S_ .f32 0x3F000000#32)) (addf (broadcastInDim S4x8192x3072 ![] bcast_S_S4x8192x3072 (constant S_ .f32 0x3F800000#32)) (Host.tanh (mulf (broadcastInDim S4x8192x3072 ![] bcast_S_S4x8192x3072 (constant S_ .f32 0x3F4C422A#32)) (addf (addf (addf (addf (addf (broadcastInDim S4x8192x3072 ![] bcast_S_S4x8192x3072 (constant S_ .f32 0x00000000#32)) (mulf (broadcastInDim S4x8192x3072 ![0, 1, 2] bcast_S1x1x3072_S4x8192x3072_0_1_2 (broadcastInDim S1x1x3072 ![2] bcast_S3072_S1x1x3072_2 (shapeCast _ (extractStridedSlice S1x3072 ![0, 0] cw slices_S3x3072_S1x3072_0_0) shapeCasts_S1x3072_S3072))) (extractStridedSlice S4x8192x3072 ![0, 0, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_0_0))) (mulf (broadcastInDim S4x8192x3072 ![0, 1, 2] bcast_S1x1x3072_S4x8192x3072_0_1_2 (broadcastInDim S1x1x3072 ![2] bcast_S3072_S1x1x3072_2 (shapeCast _ (extractStridedSlice S1x3072 ![1, 0] cw slices_S3x3072_S1x3072_1_0) shapeCasts_S1x3072_S3072))) (extractStridedSlice S4x8192x3072 ![0, 1, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_1_0))) (mulf (broadcastInDim S4x8192x3072 ![0, 1, 2] bcast_S1x1x3072_S4x8192x3072_0_1_2 (broadcastInDim S1x1x3072 ![2] bcast_S3072_S1x1x3072_2 (shapeCast _ (extractStridedSlice S1x3072 ![2, 0] cw slices_S3x3072_S1x3072_2_0) shapeCasts_S1x3072_S3072))) (extractStridedSlice S4x8192x3072 ![0, 2, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_2_0))) (broadcastInDim S4x8192x3072 ![0, 1, 2] bcast_S1x1x3072_S4x8192x3072_0_1_2 (broadcastInDim S1x1x3072 ![2] bcast_S3072_S1x1x3072_2 cb))) (mulf (broadcastInDim S4x8192x3072 ![] bcast_S_S4x8192x3072 (constant S_ .f32 0x3D372713#32)) (mulf (mulf (addf (addf (addf (addf (broadcastInDim S4x8192x3072 ![] bcast_S_S4x8192x3072 (constant S_ .f32 0x00000000#32)) (mulf (broadcastInDim S4x8192x3072 ![0, 1, 2] bcast_S1x1x3072_S4x8192x3072_0_1_2 (broadcastInDim S1x1x3072 ![2] bcast_S3072_S1x1x3072_2 (shapeCast _ (extractStridedSlice S1x3072 ![0, 0] cw slices_S3x3072_S1x3072_0_0) shapeCasts_S1x3072_S3072))) (extractStridedSlice S4x8192x3072 ![0, 0, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_0_0))) (mulf (broadcastInDim S4x8192x3072 ![0, 1, 2] bcast_S1x1x3072_S4x8192x3072_0_1_2 (broadcastInDim S1x1x3072 ![2] bcast_S3072_S1x1x3072_2 (shapeCast _ (extractStridedSlice S1x3072 ![1, 0] cw slices_S3x3072_S1x3072_1_0) shapeCasts_S1x3072_S3072))) (extractStridedSlice S4x8192x3072 ![0, 1, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_1_0))) (mulf (broadcastInDim S4x8192x3072 ![0, 1, 2] bcast_S1x1x3072_S4x8192x3072_0_1_2 (broadcastInDim S1x1x3072 ![2] bcast_S3072_S1x1x3072_2 (shapeCast _ (extractStridedSlice S1x3072 ![2, 0] cw slices_S3x3072_S1x3072_2_0) shapeCasts_S1x3072_S3072))) (extractStridedSlice S4x8192x3072 ![0, 2, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_2_0))) (broadcastInDim S4x8192x3072 ![0, 1, 2] bcast_S1x1x3072_S4x8192x3072_0_1_2 (broadcastInDim S1x1x3072 ![2] bcast_S3072_S1x1x3072_2 cb))) (addf (addf (addf (addf (broadcastInDim S4x8192x3072 ![] bcast_S_S4x8192x3072 (constant S_ .f32 0x00000000#32)) (mulf (broadcastInDim S4x8192x3072 ![0, 1, 2] bcast_S1x1x3072_S4x8192x3072_0_1_2 (broadcastInDim S1x1x3072 ![2] bcast_S3072_S1x1x3072_2 (shapeCast _ (extractStridedSlice S1x3072 ![0, 0] cw slices_S3x3072_S1x3072_0_0) shapeCasts_S1x3072_S3072))) (extractStridedSlice S4x8192x3072 ![0, 0, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_0_0))) (mulf (broadcastInDim S4x8192x3072 ![0, 1, 2] bcast_S1x1x3072_S4x8192x3072_0_1_2 (broadcastInDim S1x1x3072 ![2] bcast_S3072_S1x1x3072_2 (shapeCast _ (extractStridedSlice S1x3072 ![1, 0] cw slices_S3x3072_S1x3072_1_0) shapeCasts_S1x3072_S3072))) (extractStridedSlice S4x8192x3072 ![0, 1, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_1_0))) (mulf (broadcastInDim S4x8192x3072 ![0, 1, 2] bcast_S1x1x3072_S4x8192x3072_0_1_2 (broadcastInDim S1x1x3072 ![2] bcast_S3072_S1x1x3072_2 (shapeCast _ (extractStridedSlice S1x3072 ![2, 0] cw slices_S3x3072_S1x3072_2_0) shapeCasts_S1x3072_S3072))) (extractStridedSlice S4x8192x3072 ![0, 2, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_2_0))) (broadcastInDim S4x8192x3072 ![0, 1, 2] bcast_S1x1x3072_S4x8192x3072_0_1_2 (broadcastInDim S1x1x3072 ![2] bcast_S3072_S1x1x3072_2 cb)))) (addf (addf (addf (addf (broadcastInDim S4x8192x3072 ![] bcast_S_S4x8192x3072 (constant S_ .f32 0x00000000#32)) (mulf (broadcastInDim S4x8192x3072 ![0, 1, 2] bcast_S1x1x3072_S4x8192x3072_0_1_2 (broadcastInDim S1x1x3072 ![2] bcast_S3072_S1x1x3072_2 (shapeCast _ (extractStridedSlice S1x3072 ![0, 0] cw slices_S3x3072_S1x3072_0_0) shapeCasts_S1x3072_S3072))) (extractStridedSlice S4x8192x3072 ![0, 0, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_0_0))) (mulf (broadcastInDim S4x8192x3072 ![0, 1, 2] bcast_S1x1x3072_S4x8192x3072_0_1_2 (broadcastInDim S1x1x3072 ![2] bcast_S3072_S1x1x3072_2 (shapeCast _ (extractStridedSlice S1x3072 ![1, 0] cw slices_S3x3072_S1x3072_1_0) shapeCasts_S1x3072_S3072))) (extractStridedSlice S4x8192x3072 ![0, 1, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_1_0))) (mulf (broadcastInDim S4x8192x3072 ![0, 1, 2] bcast_S1x1x3072_S4x8192x3072_0_1_2 (broadcastInDim S1x1x3072 ![2] bcast_S3072_S1x1x3072_2 (shapeCast _ (extractStridedSlice S1x3072 ![2, 0] cw slices_S3x3072_S1x3072_2_0) shapeCasts_S1x3072_S3072))) (extractStridedSlice S4x8192x3072 ![0, 2, 0] (pad S4x8194x3072 ![0, 2, 0] ![0, 0, 0] ![0, 0, 0] (extractStridedSlice S4x8192x3072 ![0, 0, 0] (shapeCast _ (extf .f32 up bitsLt_bf16_f32) shapeCasts_S32768x6144_S4x8192x6144) slices_S4x8192x6144_S4x8192x3072_0_0_0) (sitofp .f32 (constantI S_ 32 0#32)) pads_S4x8192x3072_S4x8194x3072_000_200_000 h_S_) slices_S4x8194x3072_S4x8192x3072_0_2_0))) (broadcastInDim S4x8192x3072 ![0, 1, 2] bcast_S1x1x3072_S4x8192x3072_0_1_2 (broadcastInDim S1x1x3072 ![2] bcast_S3072_S1x1x3072_2 cb))))))))))) (extractStridedSlice S4x8192x3072 ![0, 0, 3072] (shapeCast _ (extf .f32 up bitsLt_bf16_f32) shapeCasts_S32768x6144_S4x8192x6144) slices_S4x8192x6144_S4x8192x3072_0_0_3072)) wd) shapeCasts_S4x8192x1024_S32768x1024) : FVec Ideal S32768x1024 .f32) = G up cw cb wd x := by
  funext i
  obtain ⟨R, l, rfl⟩ : ∃ (R : Fin 32768) (l : Fin 1024), i = ix2 R l := ⟨i 0, i 1, eq_ix2 i⟩
  pointwise
  show _ = x (ix2 R l) + ∑ k : Fin 3072, gelu (conv up cw cb R k) * up (ix2 R ⟨3072 + k.val, by omega⟩) * wd (ix2 k l)
  refine congrArg (x (ix2 R l) + ·) (Finset.sum_congr rfl fun k _ => ?_)
  rw [conv_ref]
  exact gelu_ref _ _ _

end Cert.Proof.FfnDown

end
-- ==== Proof.FfnDownValue.lean ====
module

public import proofs.«01_k».proof.Defs
public import proofs.«01_k».proof.Proof.Gen.FfnDownIdeal.Value
public import proofs.«01_k».proof.Proof.FfnDownRefValue
public import Idealize.ShloMosaic.Lib.Pointwise
public import Idealize.ShloMosaic.Lib.Pipeline.ValueKit
public import Idealize.ShloMosaic.Lib.Pipeline.ReadBack
public import Idealize.ShloMosaic.Lib.WritesUnit
public import Idealize.ShloMosaic.Lib.Quiescent

@[expose] public section

set_option maxRecDepth 16384

noncomputable section

namespace Cert.Proof.FfnDown

open Idealize.ShloMosaic Idealize.ShloMosaic.TcCoe Idealize.SL.Sem
open Idealize.ShloMosaic.Pipeline (Dat)
open Cert.FfnDownIdeal Cert.FfnDownIdeal.Gen

variable (m : (ℓ : Loc nD τ sig) → Buf (Elt Ideal) ℓ) (ρ : Dev nD → PrngReg)

theorem V_v0 (c : Dev nD) : V m c main_v0 = broadcastInDim S1x3072 ![1] bcast_S3072_S1x3072_1 (m ((c : Thread nD τ).loc main_arg2)) := by
  dsimp only [V, hostOps0]; after_results <;> rfl
theorem V_v1 (c : Dev nD) : V m c main_v1 = (Host.convertf (F := Ideal) (φ := .f32) (s := S3072x1024) .bf16 (m ((c : Thread nD τ).loc main_arg3)) : FVec Ideal S3072x1024 .bf16) := by
  dsimp only [V, hostOps0]; after_results <;> rfl

theorem idx_facts : ∀ t : Fin cfg0.N, win0_0.index t = ![t.val, 0] ∧ win0_1.index t = ![t.val, 1]
    ∧ win0_2.index t = ![0, 0] ∧ win0_3.index t = ![0, 0] ∧ win0_4.index t = ![0, 0] ∧ win0_5.index t = ![t.val, 0]
    ∧ win0_6.index t = ![t.val, 0] ∧ t.val < 128 :=
  (by decide +kernel : ∀ t : Fin grid0.N, _)

def row (t : Fin cfg0.N) (r : Fin 256) : Fin 32768 := ⟨t.val * 256 + r.val, by have := (idx_facts t).2.2.2.2.2.2.2; omega⟩

theorem iblk0_apply (c : Dev nD) (t : Fin cfg0.N) (r : Fin 256) (k : Fin 3072) :
    iblk m c 0 t (ix2 r k) = m ((c : Thread nD τ).loc main_arg0) (ix2 (row t r) ⟨k.val, by omega⟩) := by
  obtain ⟨e0, -⟩ := idx_facts t
  show V m c main_arg0 _ = _
  rw [V_main_arg0]
  blk_ext [iblk, e0, row]

theorem iblk1_apply (c : Dev nD) (t : Fin cfg0.N) (r : Fin 256) (k : Fin 3072) :
    iblk m c 1 t (ix2 r k) = m ((c : Thread nD τ).loc main_arg0) (ix2 (row t r) ⟨3072 + k.val, by omega⟩) := by
  obtain ⟨-, e1, -⟩ := idx_facts t
  show V m c main_arg0 _ = _
  rw [V_main_arg0]
  blk_ext [iblk, e1, row]

theorem iblk2_apply (c : Dev nD) (t : Fin cfg0.N) (r : Fin 3) (k : Fin 3072) :
    iblk m c 2 t (ix2 r k) = m ((c : Thread nD τ).loc main_arg1) (ix2 r k) := by
  obtain ⟨-, -, e2, -⟩ := idx_facts t
  show V m c main_arg1 _ = _
  rw [V_main_arg1]
  blk_ext [iblk, e2]

theorem iblk3_apply (c : Dev nD) (t : Fin cfg0.N) (r : Fin 1) (k : Fin 3072) :
    iblk m c 3 t (ix2 r k) = m ((c : Thread nD τ).loc main_arg2) (ix1 k) := by
  obtain ⟨-, -, -, e3, -⟩ := idx_facts t
  show V m c main_v0 (((cfg0.win 3).blk t).view.emb (ix2 r k)) = _
  have h : ((cfg0.win 3).blk t).view.emb (ix2 r k) = ix2 r k := by blk_ext [e3]
  rw [h, V_v0]
  pointwise

theorem iblk4_apply (c : Dev nD) (t : Fin cfg0.N) (k : Fin 3072) (l : Fin 1024) :
    iblk m c 4 t (ix2 k l) = m ((c : Thread nD τ).loc main_arg3) (ix2 k l) := by
  obtain ⟨-, -, -, -, e4, -⟩ := idx_facts t
  show V m c main_v1 (((cfg0.win 4).blk t).view.emb (ix2 k l)) = _
  have h : ((cfg0.win 4).blk t).view.emb (ix2 k l) = ix2 k l := by blk_ext [e4]
  rw [h, V_v1]
  pointwise

theorem iblk5_apply (c : Dev nD) (t : Fin cfg0.N) (r : Fin 256) (l : Fin 1024) :
    iblk m c 5 t (ix2 r l) = m ((c : Thread nD τ).loc main_arg4) (ix2 (row t r) l) := by
  obtain ⟨-, -, -, -, -, e5, -⟩ := idx_facts t
  show V m c main_arg4 _ = _
  rw [V_main_arg4]
  blk_ext [iblk, e5, row]

/-! ## Rows of the scratch -/

/-- Under the newest piece, whole rows from row `o`, the contents are its payload. -/
theorem canon_mem {o n : ℕ} (inb : ∀ a : Fin 2, (![o, 0] : Fin 2 → ℕ) a + (![n, 3072] : Fin 2 → ℕ) a ≤ S264x3072.size a)
    (w : Vec Ideal (⟨2, ![n, 3072]⟩ : Shape) .f32) (L : List (View.Piece (Elt Ideal) S264x3072 .f32)) (r : Fin 264) (r' : Fin n) (k : Fin 3072)
    (h : r.val = o + r'.val) :
    View.canon ((⟨Rect.unit (s := S264x3072) ![o, 0] ![n, 3072] inb, w⟩ : View.Piece (Elt Ideal) S264x3072 .f32) :: L) (ix2 r k) = w (ix2 r' k) := by
  have e : ix2 r k = (Rect.unit (s := S264x3072) ![o, 0] ![n, 3072] inb).emb (ix2 r' k) := by
    funext a; apply Fin.ext
    fin_cases a
    · show r.val = o + 1 * r'.val; omega
    · show k.val = 0 + 1 * k.val; omega
  rw [e]
  exact View.canon_cons_emb (Rect.unit (s := S264x3072) ![o, 0] ![n, 3072] inb) w L (ix2 r' k)

/-- At a row the newest piece does not hold, the contents are those the older pieces leave. -/
theorem canon_not_mem {o n : ℕ} (inb : ∀ a : Fin 2, (![o, 0] : Fin 2 → ℕ) a + (![n, 3072] : Fin 2 → ℕ) a ≤ S264x3072.size a)
    (w : Vec Ideal (⟨2, ![n, 3072]⟩ : Shape) .f32) (L : List (View.Piece (Elt Ideal) S264x3072 .f32)) (r : Fin 264) (k : Fin 3072)
    (h : r.val < o ∨ o + n ≤ r.val) :
    View.canon ((⟨Rect.unit (s := S264x3072) ![o, 0] ![n, 3072] inb, w⟩ : View.Piece (Elt Ideal) S264x3072 .f32) :: L) (ix2 r k) = View.canon L (ix2 r k) := by
  refine View.canon_cons_of_not_mem _ L fun hm => ?_
  have := (Rect.mem_set_unit (inb := inb)).mp hm 0
  have h1 : o ≤ r.val ∧ r.val < o + n := this
  omega

/-- The same of contents written over earlier ones. -/
theorem read_mem {o n : ℕ} (f : (View.whole cc0_scratch0).ty.Contents (Elt Ideal))
    (inb : ∀ a : Fin 2, (![o, 0] : Fin 2 → ℕ) a + (![n, 3072] : Fin 2 → ℕ) a ≤ S264x3072.size a)
    (w : Vec Ideal (⟨2, ![n, 3072]⟩ : Shape) .f32) (L : List (View.Piece (Elt Ideal) S264x3072 .f32)) (r : Fin 264) (r' : Fin n) (k : Fin 3072)
    (h : r.val = o + r'.val) :
    View.read (Elt Ideal) (View.whole cc0_scratch0) ((View.whole cc0_scratch0).writes (Elt Ideal) f
      ((⟨Rect.unit (s := S264x3072) ![o, 0] ![n, 3072] inb, w⟩ : View.Piece (Elt Ideal) S264x3072 .f32) :: L)) (ix2 r k) = w (ix2 r' k) := by
  have e : ix2 r k = (Rect.unit (s := S264x3072) ![o, 0] ![n, 3072] inb).emb (ix2 r' k) := by
    funext a; apply Fin.ext
    fin_cases a
    · show r.val = o + 1 * r'.val; omega
    · show k.val = 0 + 1 * k.val; omega
  rw [e]
  exact View.read_writes_cons_emb (View.whole cc0_scratch0) f (Rect.unit (s := S264x3072) ![o, 0] ![n, 3072] inb) w L (ix2 r' k)

/-- A covered load of `n` rows from row `o` reads the contents those rows further. -/
theorem readCov_rows {o n : ℕ} (inb : ∀ a : Fin 2, (![o, 0] : Fin 2 → ℕ) a + (![n, 3072] : Fin 2 → ℕ) a ≤ S264x3072.size a)
    (L : List (View.Piece (Elt Ideal) S264x3072 .f32)) (r : Fin 264) (r' : Fin n) (k : Fin 3072) (h : r.val = o + r'.val) :
    ((View.whole cc0_scratch0).readCov L (Rect.unit (s := S264x3072) ![o, 0] ![n, 3072] inb).toLoadRect : Vec Ideal (⟨2, ![n, 3072]⟩ : Shape) .f32) (ix2 r' k)
      = View.canon L (ix2 r k) := by
  rw [View.readCov_eq_canon']
  refine congrArg (View.canon L) ?_
  funext a; apply Fin.ext
  fin_cases a
  · show o + 1 * r'.val = r.val; omega
  · show 0 + 1 * k.val = k.val; omega

theorem pay3_apply (r : Fin 8) (k : Fin 3072) : k0_pay3 (F := Ideal) (ix2 r k) = 0 := by
  pointwise [k0_pay3]
theorem pay4_apply (x : Vec Ideal S256x3072 .bf16) (r : Fin 256) (k : Fin 3072) : k0_pay4 x (ix2 r k) = x (ix2 r k) := by
  pointwise [k0_pay4, k0_pay2]
theorem pay6_apply (x : Vec Ideal S8x3072 .f32) (r : Fin 8) (k : Fin 3072) : k0_pay6 x (ix2 r k) = x (ix2 r k) := by
  pointwise [k0_pay6]

/-- After any point the first eight rows of the scratch are the last eight of the point's gate rows. -/
theorem scratch (c : Dev nD) (t : Fin cfg0.N) (r : Fin 8) (k : Fin 3072) :
    (outsAt0 m c t.val t.isLt).2 (ix2 ⟨r.val, by omega⟩ k) = iblk m c 0 t (ix2 ⟨248 + r.val, by omega⟩ k) := by
  by_cases h0 : t.val % 32 = 0
  · rw [outsAt0_A m c t h0]
    frame_out
    refine (canon_mem _ _ _ _ r k (Nat.zero_add _).symm).trans ?_
    rw [pay6_apply]
    refine (readCov_rows _ _ ⟨256 + r.val, by omega⟩ r k rfl).trans ?_
    refine (canon_mem _ _ _ _ ⟨248 + r.val, by omega⟩ k (by show 256 + r.val = 8 + (248 + r.val); omega)).trans ?_
    rw [pay4_apply]
  · rw [outsAt0_B m c t h0]
    frame_out
    refine (canon_mem _ _ _ _ r k (Nat.zero_add _).symm).trans ?_
    rw [pay6_apply]
    refine (readCov_rows _ _ ⟨256 + r.val, by omega⟩ r k rfl).trans ?_
    refine (canon_mem _ _ _ _ ⟨248 + r.val, by omega⟩ k (by show 256 + r.val = 8 + (248 + r.val); omega)).trans ?_
    rw [pay4_apply]

/-- The window `d` tokens back, as a point that begins a sequence reads it. -/
theorem back_A (c : Dev nD) (t : Fin cfg0.N) (h0 : t.val % 32 = 0) (d o : ℕ) (hd : d + o = 8) (r : Fin 256) (k : Fin 3072)
    (inb : ∀ a : Fin 2, (![o, 0] : Fin 2 → ℕ) a + (![256, 3072] : Fin 2 → ℕ) a ≤ S264x3072.size a) :
    ((View.whole cc0_scratch0).readCov [⟨Rect.unit (s := S264x3072) ![8, 0] ![256, 3072] inb_S264x3072_S256x3072_8_0, k0_pay4 (iblk m c 0 t)⟩,
        ⟨Rect.unit (s := S264x3072) ![0, 0] ![8, 3072] inb_S264x3072_S8x3072_0_0, k0_pay3 (F := Ideal)⟩]
      (Rect.unit (s := S264x3072) ![o, 0] ![256, 3072] inb).toLoadRect : Vec Ideal S256x3072 .f32) (ix2 r k)
      = back (m ((c : Thread nD τ).loc main_arg0)) d (row t r) k := by
  refine (readCov_rows inb _ ⟨o + r.val, by omega⟩ r k rfl).trans ?_
  unfold back
  have hr : (row t r).val = t.val * 256 + r.val := rfl
  by_cases h : r.val < d
  · rw [if_pos (by omega)]
    refine (canon_not_mem _ _ _ _ _ (by left; show o + r.val < 8; omega)).trans ?_
    refine (canon_mem (o := 0) (n := 8) inb_S264x3072_S8x3072_0_0 (k0_pay3 (F := Ideal)) [] ⟨o + r.val, by omega⟩ (⟨o + r.val, by omega⟩ : Fin 8) k (Nat.zero_add _).symm).trans ?_
    exact pay3_apply ⟨o + r.val, by omega⟩ k
  · rw [if_neg (by omega)]
    refine (canon_mem _ _ _ _ ⟨r.val - d, by omega⟩ k (by show o + r.val = 8 + (r.val - d); omega)).trans ?_
    rw [pay4_apply, iblk0_apply]
    exact congrArg (fun q : Fin 32768 => m ((c : Thread nD τ).loc main_arg0) (ix2 q ⟨k.val, by omega⟩)) (Fin.ext (by simp only [row]; omega))

/-- The window `d` tokens back, as the other points read it. -/
theorem back_B (c : Dev nD) (t : Fin cfg0.N) (h0 : ¬t.val % 32 = 0) (d o : ℕ) (hd : d + o = 8) (r : Fin 256) (k : Fin 3072)
    (hw : (Memref.whole cc0_scratch0).IsWhole)
    (inb : ∀ a : Fin 2, (![o, 0] : Fin 2 → ℕ) a + (![256, 3072] : Fin 2 → ℕ) a ≤ S264x3072.size a) :
    (View.ld (View.read (Elt Ideal) (View.whole cc0_scratch0) ((View.whole cc0_scratch0).writes (Elt Ideal)
        (hw.unread (outsAt0 m c (t.val - 1) (Nat.lt_of_le_of_lt (Nat.sub_le _ _) t.isLt)).2)
        [⟨Rect.unit (s := S264x3072) ![8, 0] ![256, 3072] inb_S264x3072_S256x3072_8_0, k0_pay4 (iblk m c 0 t)⟩]))
      (Rect.unit (s := S264x3072) ![o, 0] ![256, 3072] inb) : Vec Ideal S256x3072 .f32) (ix2 r k)
      = back (m ((c : Thread nD τ).loc main_arg0)) d (row t r) k := by
  refine (View.ld_unit_apply_of _ _ _ inb _ (ix2 ⟨o + r.val, by omega⟩ k) fun a => ?_).trans ?_
  · fin_cases a
    · rfl
    · exact (Nat.zero_add _).symm
  unfold back
  have hr : (row t r).val = t.val * 256 + r.val := rfl
  rw [if_neg (by omega)]
  by_cases h : r.val < d
  · refine (View.read_writes_cons_rows_of_not_mem _ _ _ _ _ _ rfl rfl (by left; show o + r.val < 8; omega)).trans ?_
    rw [View.writes_nil]
    simp only [read_unread_whole]
    refine (scratch m c ⟨t.val - 1, Nat.lt_of_le_of_lt (Nat.sub_le _ _) t.isLt⟩ ⟨o + r.val, by omega⟩ k).trans ?_
    rw [iblk0_apply]
    exact congrArg (fun q : Fin 32768 => m ((c : Thread nD τ).loc main_arg0) (ix2 q ⟨k.val, by omega⟩)) (Fin.ext (by simp only [row]; omega))
  · refine (read_mem _ _ _ _ _ ⟨r.val - d, by omega⟩ k (by show o + r.val = 8 + (r.val - d); omega)).trans ?_
    rw [pay4_apply, iblk0_apply]
    exact congrArg (fun q : Fin 32768 => m ((c : Thread nD τ).loc main_arg0) (ix2 q ⟨k.val, by omega⟩)) (Fin.ext (by simp only [row]; omega))

/-- The payload stored to the output: the convolution, the unit, the gate and the down projection. -/
theorem pay_apply (x0 x1 : Vec Ideal S256x3072 .bf16) (b w2 w0 w1 : Vec Ideal S1x3072 .f32) (A6 A7 : Vec Ideal S256x3072 .f32)
    (x5 : Vec Ideal S256x1024 .f32) (x4 : Vec Ideal S3072x1024 .bf16) (r : Fin 256) (l : Fin 1024) :
    k0_pay1 (k0_pay5 x0 b w2 w0 A6 w1 A7) (k0_pay7 x0 b w2 w0 A6 w1 A7) (k0_pay8 x0 b w2 w0 A6 w1 A7) x1 x5 x4 (ix2 r l)
      = x5 (ix2 r l) + ∑ k : Fin 3072, gelu (b (ix2 0 k) + w2 (ix2 0 k) * x0 (ix2 r k) + w0 (ix2 0 k) * A6 (ix2 r k) + w1 (ix2 0 k) * A7 (ix2 r k))
          * x1 (ix2 r k) * x4 (ix2 k l) := by
  pointwise [k0_pay1, k0_pay5, k0_pay7, k0_pay8, k0_pay2, gelu]

theorem w_apply (c : Dev nD) (t : Fin cfg0.N) (o : ℕ) (j : Fin 3) (hj : j.val = o) (k : Fin 3072)
    (inb : ∀ a : Fin 2, (![o, 0] : Fin 2 → ℕ) a + (![1, 3072] : Fin 2 → ℕ) a ≤ S3x3072.size a) :
    (View.ld (iblk m c 2 t) (Rect.unit (s := S3x3072) ![o, 0] ![1, 3072] inb) : Vec Ideal S1x3072 .f32) (ix2 0 k)
      = m ((c : Thread nD τ).loc main_arg1) (ix2 j k) := by
  refine (View.ld_unit_apply_of _ _ _ inb _ (ix2 j k) fun a => ?_).trans (iblk2_apply m c t j k)
  fin_cases a
  · exact hj
  · exact (Nat.zero_add _).symm

theorem add_right_congr (a b b' : EReal) (h : b = b') : a + b = a + b' := by rw [h]

theorem final6 (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  obtain ⟨-, -, -, -, -, -, e6, -⟩ := idx_facts t
  obtain ⟨r, l, rfl⟩ : ∃ (r : Fin 256) (l : Fin 1024), y = ix2 r l := ⟨y 0, y 1, eq_ix2 y⟩
  have h : ((cfg0.win 6).blk t).view.emb (ix2 r l) = ix2 (row t r) l := by blk_ext [e6, row]
  rw [h]
  blk_simp
  rw [after0_6]
  rw [G_apply]
  by_cases h0 : t.val % 32 = 0
  · rw [outsAt0_A m c t h0]
    frame_out
    rw [pay_apply, iblk5_apply]
    refine add_right_congr _ _ _ (Fin.sum_fin_congr fun k => ?_)
    rw [back_A m c t h0 2 6 rfl, back_A m c t h0 1 7 rfl, iblk0_apply, iblk1_apply, iblk3_apply, iblk4_apply]
    rw [w_apply m c t 0 0 rfl, w_apply m c t 1 1 rfl, w_apply m c t 2 2 rfl]
    rfl
  · rw [outsAt0_B m c t h0]
    frame_out
    rw [pay_apply, iblk5_apply]
    refine add_right_congr _ _ _ (Fin.sum_fin_congr fun k => ?_)
    rw [back_B m c t h0 2 6 rfl, back_B m c t h0 1 7 rfl, iblk0_apply, iblk1_apply, iblk3_apply, iblk4_apply]
    rw [w_apply m c t 0 0 rfl, w_apply m c t 1 1 rfl, w_apply m c t 2 2 rfl]
    rfl

/-- The two programs end with equal results over the extended reals. -/
theorem algebraic : Cert.algebraic_FfnDownIdeal_FfnDownRefIdeal := by
  intro m g m' g' _ hm
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)),
    (θ_run _ _ _).mono (fun r h c => ⟨(h c).1.trans (final6 m c), (h c).2⟩) (Value.run_blocks m g),
    (θ_run _ _ _).mono (fun r h c => ⟨(h c).1.trans ?_, (h c).2⟩) (Cert.FfnDownRefIdeal.Value.run m' g')⟩
  unfold Cert.FfnDownRefIdeal.Value.res_main_v46
  rw [(hm c).1, (hm c).2.1, (hm c).2.2.1, (hm c).2.2.2.1, (hm c).2.2.2.2]
  exact ref_eq _ _ _ _ _

end Cert.Proof.FfnDown

end
-- ==== Proof.FinalNormValue.lean ====
module

public import proofs.«01_k».proof.Defs
public import proofs.«01_k».proof.Proof.Gen.FinalNormIdeal.Value
public import proofs.«01_k».proof.Proof.Gen.FinalNormRefIdeal.Run
public import Idealize.ShloMosaic.Lib.Pointwise
public import Idealize.ShloMosaic.Lib.Pipeline.Value
public import Idealize.ShloMosaic.Lib.Quiescent

/-! # The final norm: the blocked kernel computes the reference's root-mean-square norm

Each grid point norms 1024 rows. Over the extended reals its block is the same rows of the reference's result, and the 32
blocks fill the array. -/

@[expose] public section

set_option maxRecDepth 16384

noncomputable section

namespace Cert.Proof.FinalNorm

open Idealize.ShloMosaic Idealize.ShloMosaic.TcCoe Idealize.SL.Sem
open Idealize.ShloMosaic.Pipeline (Dat)
open Cert.FinalNormIdeal Cert.FinalNormIdeal.Gen

variable (m : (ℓ : Loc nD τ sig) → Buf (Elt Ideal) ℓ) (ρ : Dev nD → PrngReg)

/-- The norm of row `i` at lane `l`: the entry over the root of the row's mean square, scaled. -/
def G (x : Vec Ideal S4x8192x1024 .f32) (g : Vec Ideal S1024 .f32) : Vec Ideal S32768x1024 .f32 := fun i =>
  x (ix3 ⟨(i 0).val / 8192, by have : (i 0).val < 32768 := (i 0).isLt; omega⟩ ⟨(i 0).val % 8192, by omega⟩ (i 1))
    * Ideal.rsqrt (Ideal.div (∑ k : Fin 1024, x (ix3 ⟨(i 0).val / 8192, by have : (i 0).val < 32768 := (i 0).isLt; omega⟩ ⟨(i 0).val % 8192, by omega⟩ k)
        * x (ix3 ⟨(i 0).val / 8192, by have : (i 0).val < 32768 := (i 0).isLt; omega⟩ ⟨(i 0).val % 8192, by omega⟩ k)) (Ideal.ofBits .f32 0x44800000#32)
        + Ideal.ofBits .f32 0x358637BD#32) * g (ix1 (i 1))

theorem hz : (![0, 0] : Fin 2 → Nat) = fun _ => 0 := funext fun a => by fin_cases a <;> rfl

theorem V_v0 (c : Dev nD) : V m c main_v0 = shapeCast _ (m ((c : Thread nD τ).loc main_arg0)) shapeCasts_S4x8192x1024_S32768x1024 := by
  dsimp only [V, hostOps0]; after_results <;> rfl
theorem V_v1 (c : Dev nD) : V m c main_v1 = broadcastInDim S1x1024 ![1] bcast_S1024_S1x1024_1 (m ((c : Thread nD τ).loc main_arg1)) := by
  dsimp only [V, hostOps0]; after_results <;> rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 32 :=
  (by decide +kernel : ∀ t : Fin grid0.N, _)

/-- Row `r` of point `t`'s block is row `1024 t + r` of the array. -/
def row (t : Fin cfg0.N) (r : Fin 1024) : Fin 32768 := ⟨t.val * 1024 + r.val, by have := (idx_facts t).2.2.2.2.2.2; omega⟩

theorem emb0 (t : Fin cfg0.N) (r l : Fin 1024) : ((cfg0.win 0).blk t).view.emb (ix2 r l) = ix2 (row t r) l := by
  obtain ⟨e0, e1, -⟩ := idx_facts t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * l.val = l.val; omega

theorem emb1 (t : Fin cfg0.N) (r : Fin 1) (l : Fin 1024) : ((cfg0.win 1).blk t).view.emb (ix2 r l) = ix2 r l := by
  obtain ⟨-, -, e0, e1, -⟩ := idx_facts t
  funext a; apply Fin.ext
  match a with
  | ⟨0, _⟩ => show win0_1.index t (0 : Fin 2) * 1 + 1 * r.val = r.val; omega
  | ⟨1, _⟩ => show win0_1.index t (1 : Fin 2) * 1024 + 1 * l.val = l.val; omega

theorem emb2 (t : Fin cfg0.N) (r l : Fin 1024) : ((cfg0.win 2).blk t).view.emb (ix2 r l) = ix2 (row t r) l := by
  obtain ⟨-, -, -, -, e0, e1, -⟩ := idx_facts t
  funext a; apply Fin.ext
  match a with
  | ⟨0, _⟩ => show win0_2.index t (0 : Fin 2) * 1024 + 1 * r.val = t.val * 1024 + r.val; omega
  | ⟨1, _⟩ => show win0_2.index t (1 : Fin 2) * 1024 + 1 * l.val = l.val; omega

theorem cast_apply (x : Vec Ideal S4x8192x1024 .f32) (R : Fin 32768) (l : Fin 1024) :
    shapeCast S32768x1024 x shapeCasts_S4x8192x1024_S32768x1024 (ix2 R l)
      = x (ix3 ⟨R.val / 8192, by omega⟩ ⟨R.val % 8192, by omega⟩ l) := by
  pointwise

theorem iblk0_apply (c : Dev nD) (t : Fin cfg0.N) (r l : Fin 1024) :
    iblk m c 0 t (ix2 r l) = m ((c : Thread nD τ).loc main_arg0)
      (ix3 ⟨(t.val * 1024 + r.val) / 8192, by have := (idx_facts t).2.2.2.2.2.2; omega⟩ ⟨(t.val * 1024 + r.val) % 8192, by omega⟩ l) := by
  show V m c main_v0 (((cfg0.win 0).blk t).view.emb (ix2 r l)) = _
  rw [emb0, V_v0]
  exact cast_apply _ _ _

theorem iblk1_apply (c : Dev nD) (t : Fin cfg0.N) (r : Fin 1) (l : Fin 1024) :
    iblk m c 1 t (ix2 r l) = m ((c : Thread nD τ).loc main_arg1) (ix1 l) := by
  show V m c main_v1 (((cfg0.win 1).blk t).view.emb (ix2 r l)) = _
  rw [emb1, V_v1]
  pointwise

/-- The block a point writes, over the extended reals. -/
theorem out_apply (x0 : Vec Ideal S1024x1024 .f32) (x1 : Vec Ideal S1x1024 .f32) (r l : Fin 1024) :
    out0_2 x0 x1 (ix2 r l) = x0 (ix2 r l)
      * Ideal.rsqrt (Ideal.div (∑ k : Fin 1024, x0 (ix2 r k) * x0 (ix2 r k)) (Ideal.ofBits .f32 0x44800000#32)
        + Ideal.ofBits .f32 0x358637BD#32) * x1 (ix2 0 l) := by
  unfold out0_2
  rw [View.canon_unit_zero hz, View.ld_unit_zero hz, View.ld_unit_zero hz]
  pointwise [k0_pay1]

theorem flushed2_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  funext j
  obtain ⟨r, l, rfl⟩ : ∃ (r l : Fin 1024), j = ix2 r l := ⟨j 0, j 1, eq_ix2 j⟩
  show out0_2 (iblk m c 0 t) (iblk m c 1 t) (ix2 r l) = G _ _ (((cfg0.win 2).blk t).view.emb (ix2 r l))
  rw [emb2, out_apply]
  simp only [iblk0_apply, iblk1_apply]
  rfl

theorem covered2 (i : S32768x1024.Idx) :
    ∃ t : Fin cfg0.N, (cfg0.win 2).flush t = true ∧ i ∈ ((cfg0.win 2).blk t).view.set := by
  obtain ⟨R, l, rfl⟩ : ∃ (R : Fin 32768) (l : Fin 1024), i = ix2 R l := ⟨i 0, i 1, eq_ix2 i⟩
  let t : Fin cfg0.N := ⟨R.val / 1024, by have : cfg0.N = 32 := N_0; omega⟩
  refine ⟨t, flush0_2 _, ?_⟩
  have h := ((cfg0.win 2).blk t).view.emb_mem_set (ix2 (⟨R.val % 1024, by omega⟩ : Fin 1024) l)
  have e : row t ⟨R.val % 1024, by omega⟩ = R := Fin.ext (Nat.div_add_mod' _ _)
  have h2 := emb2 t ⟨R.val % 1024, by omega⟩ l
  rw [e] at h2
  exact h2 ▸ h

theorem final2 (c : Dev nD) : (dats m 0 c).arrAt 2 cfg0.N
    = G (m ((c : Thread nD τ).loc main_arg0)) (m ((c : Thread nD τ).loc main_arg1)) :=
  (dats m 0 c).arrAt_eq_of_cover 2 _ (fun t _ => flushed2_eq m c t) covered2

section Ref
open Cert.FinalNormRefIdeal Cert.FinalNormRefIdeal.Gen

/-- The reference's operations, composed, are the same norm. -/
theorem ref_eq (x : FVec Ideal Cert.FinalNormRefIdeal.S4x8192x1024 .f32) (g : FVec Ideal Cert.FinalNormRefIdeal.S1024 .f32) :
    (shapeCast Cert.FinalNormRefIdeal.S32768x1024 (mulf (mulf x (broadcastInDim Cert.FinalNormRefIdeal.S4x8192x1024 ![0, 1, 2] bcast_S4x8192x1_S4x8192x1024_0_1_2 (Host.rsqrt (addf (Host.divf (broadcastInDim Cert.FinalNormRefIdeal.S4x8192x1 ![0, 1] bcast_S4x8192_S4x8192x1_0_1 (Host.reduceAdd (mulf x x) (constant Cert.FinalNormRefIdeal.S_ .f32 0x00000000#32) reducesTo_S4x8192x1024_S4x8192_d2 h_S_)) (broadcastInDim Cert.FinalNormRefIdeal.S4x8192x1 ![] bcast_S_S4x8192x1 (constant Cert.FinalNormRefIdeal.S_ .f32 0x44800000#32))) (broadcastInDim Cert.FinalNormRefIdeal.S4x8192x1 ![] bcast_S_S4x8192x1 (constant Cert.FinalNormRefIdeal.S_ .f32 0x358637BD#32)))))) (broadcastInDim Cert.FinalNormRefIdeal.S4x8192x1024 ![0, 1, 2] bcast_S1x1x1024_S4x8192x1024_0_1_2 (broadcastInDim Cert.FinalNormRefIdeal.S1x1x1024 ![2] bcast_S1024_S1x1x1024_2 g))) Cert.FinalNormRefIdeal.Gen.shapeCasts_S4x8192x1024_S32768x1024 : FVec Ideal Cert.FinalNormRefIdeal.S32768x1024 .f32) = G x g := by
  funext i
  obtain ⟨R, l, rfl⟩ : ∃ (R : Fin 32768) (l : Fin 1024), i = ix2 R l := ⟨i 0, i 1, eq_ix2 i⟩
  pointwise [G]

end Ref

/-- The two programs end with equal results over the extended reals. -/
theorem algebraic : Cert.algebraic_FinalNormIdeal_FinalNormRefIdeal := by
  intro m g m' g' _ hm
  refine ⟨fun c => G (m ((c : Thread nD τ).loc main_arg0)) (m ((c : Thread nD τ).loc main_arg1)),
    (θ_run _ _ _).mono (fun r h c => ⟨(h c).1.trans (final2 m c), (h c).2⟩) (Value.run_blocks m g),
    (θ_run _ _ _).mono (fun r h c => ⟨(h c).1.trans ?_, (h c).2⟩) (Cert.FinalNormRefIdeal.Value.run m' g')⟩
  rw [(hm c).1, (hm c).2]
  exact ref_eq _ _

end Cert.Proof.FinalNorm

end
-- ==== Proof.RopeValue.lean ====
module

public import proofs.«01_k».proof.Defs
public import proofs.«01_k».proof.Proof.Gen.RopeIdeal.Value
public import proofs.«01_k».proof.Proof.Gen.RopeRefIdeal.Run
public import Idealize.ShloMosaic.Lib.Pointwise
public import Idealize.ShloMosaic.Lib.Pipeline.Value
public import Idealize.ShloMosaic.Lib.Quiescent

/-! # The rotary tables: cosines and signed sines of every position's 32 angles, over 128 lanes

Each grid point fills 1024 rows. The kernel is given the frequencies and the signs as rows of 128 lanes, gathered before the
call; the reference computes 32 cosines and sines and lays them side by side. Lane `l` holds angle `l % 32` either way. -/

@[expose] public section

set_option maxRecDepth 16384

noncomputable section

namespace Cert.Proof.Rope

open Idealize.ShloMosaic Idealize.ShloMosaic.TcCoe Idealize.SL.Sem
open Idealize.ShloMosaic.Pipeline (Dat)
open Cert.RopeIdeal Cert.RopeIdeal.Gen

variable (m : (ℓ : Loc nD τ sig) → Buf (Elt Ideal) ℓ) (ρ : Dev nD → PrngReg)

/-- The 32 frequencies, as both programs compute them. -/
def inv : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angle of row `R` at lane `l`. -/
def ang (p : IVec S4x8192 32) (R : Fin 32768) (l : Fin 128) : EReal :=
  FloatOps.mulf (F := Ideal) (φ := .f32) (FloatOps.sitofp .f32 (p (ix2 ⟨R.val / 8192, by omega⟩ ⟨R.val % 8192, by omega⟩))) (inv (ix1 ⟨l.val % 32, by omega⟩))

def G3 (p : IVec S4x8192 32) : Vec Ideal S32768x128 .f32 := fun i => FloatOps.cos (F := Ideal) (φ := .f32) (ang p (i 0) (i 1))

def G4 (p : IVec S4x8192 32) : Vec Ideal S32768x128 .f32 := fun i =>
  if (i 1).val % 64 < 32 then -(FloatOps.sin (F := Ideal) (φ := .f32) (ang p (i 0) (i 1)) : EReal) else FloatOps.sin (F := Ideal) (φ := .f32) (ang p (i 0) (i 1))

theorem V_v18 (c : Dev nD) : V m c main_v18 = (sitofp .f32 (shapeCast _ (m ((c : Thread nD τ).loc main_arg0)) shapeCasts_S4x8192_S32768x1) : FVec Ideal S32768x1 .f32) := by
  dsimp only [V, hostOps0]; after_results <;> rfl
theorem V_v15 (c : Dev nD) : V m c main_v15 = broadcastInDim S1x128 ![1] bcast_S128_S1x128_1
    (Host.gather gather_S32_S128x1_S128_n_0_n_n_0_1_1 inv (broadcastInDim S128x1 ![0] bcast_S128_S128x1_0
      (select (constantI S128 1 0#1) (addi (fun i => lit0 (S128.rowMajor i)) (broadcastInDim S128 ![] bcast_S_S128 (constantI S_ 32 32#32))) (fun i => lit0 (S128.rowMajor i))))) := by
  dsimp only [V, hostOps0]; after_results <;> rfl
theorem V_v16 (c : Dev nD) : V m c main_v16 = (broadcastInDim S1x128 ![1] bcast_S128_S1x128_1 (fun i => FloatOps.ofBits .f32 (lit1 (S128.rowMajor i))) : FVec Ideal S1x128 .f32) := by
  dsimp only [V, hostOps0]; after_results <;> rfl

theorem lit0_eq : ∀ l : Fin 128, min (lit0 l).toInt.toNat 31 = l.val % 32 := by decide +kernel
theorem lit1_eq : ∀ l : Fin 128, lit1 l = if l.val % 64 < 32 then 0xBF800000#32 else 0x3F800000#32 := by decide +kernel

theorem rowMajor_lane (l : Fin 128) : S128.rowMajor (ix1 l) = l := Fin.ext (rowMajor_val1 _)

/-- The gathered row of frequencies, at a lane. -/
theorem inv_row (l : Fin 128) :
    Host.gather gather_S32_S128x1_S128_n_0_n_n_0_1_1 inv (broadcastInDim S128x1 ![0] bcast_S128_S128x1_0
      (select (constantI S128 1 0#1) (addi (fun i => lit0 (S128.rowMajor i)) (broadcastInDim S128 ![] bcast_S_S128 (constantI S_ 32 32#32))) (fun i => lit0 (S128.rowMajor i)))) (ix1 l)
      = inv (ix1 ⟨l.val % 32, by omega⟩) := by
  unfold Host.gather
  congr 1
  funext a
  obtain rfl : a = 0 := Subsingleton.elim _ _
  refine Fin.ext ?_
  show GatherDims.start _ (ix1 l) _ 0 + GatherDims.batchCoord _ (ix1 l) 0 + GatherDims.offCoord _ (ix1 l) 0 = l.val % 32
  rw [GatherDims.batchCoord_eq_zero _ _ _ List.not_mem_nil,
    GatherDims.offCoord_eq_zero _ _ _ (fun h => ((GatherDims.mem_sKept _ _).mp h).1 (List.mem_singleton.mpr rfl)), ← lit0_eq l]
  simp only [Nat.add_zero]
  unfold GatherDims.start
  rw [dif_pos (show (0 : Fin 1) ∈ gather_S32_S128x1_S128_n_0_n_n_0_1_1.startIndexMap from List.mem_singleton.mpr rfl)]
  have hsi : gather_S32_S128x1_S128_n_0_n_n_0_1_1.siIdx (ix1 l) ⟨List.idxOf (0 : Fin 1) gather_S32_S128x1_S128_n_0_n_n_0_1_1.startIndexMap,
      List.idxOf_lt_length_iff.2 (List.mem_singleton.mpr rfl)⟩ = ix2 l 0 := by
    funext b; refine Fin.ext ?_
    match b with
    | ⟨0, _⟩ => rfl
    | ⟨1, _⟩ => rfl
  rw [hsi]
  pointwise
  rw [rowMajor_lane]
  rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 ∧ t.val < 32 :=
  (by decide +kernel : ∀ t : Fin grid0.N, _)

/-- Row `r` of point `t`'s block is row `1024 t + r` of the array. -/
def row (t : Fin cfg0.N) (r : Fin 1024) : Fin 32768 := ⟨t.val * 1024 + r.val, by have := (idx_facts t).2.2.2.2.2.2.2.2.2.2; omega⟩

theorem emb0 (t : Fin cfg0.N) (r : Fin 1024) : ((cfg0.win 0).blk t).view.emb (ix2 r 0) = ix2 (row t r) 0 := by
  obtain ⟨e0, e1, -⟩ := idx_facts t
  funext a; apply Fin.ext
  match a with
  | ⟨0, _⟩ => show win0_0.index t (0 : Fin 2) * 1024 + 1 * r.val = t.val * 1024 + r.val; omega
  | ⟨1, _⟩ => show win0_0.index t (1 : Fin 2) * 1 + 1 * 0 = 0; omega

theorem emb1 (t : Fin cfg0.N) (l : Fin 128) : ((cfg0.win 1).blk t).view.emb (ix2 0 l) = ix2 0 l := by
  obtain ⟨-, -, e0, e1, -⟩ := idx_facts t
  funext a; apply Fin.ext
  match a with
  | ⟨0, _⟩ => show win0_1.index t (0 : Fin 2) * 1 + 1 * 0 = 0; omega
  | ⟨1, _⟩ => show win0_1.index t (1 : Fin 2) * 128 + 1 * l.val = l.val; omega

theorem emb2 (t : Fin cfg0.N) (l : Fin 128) : ((cfg0.win 2).blk t).view.emb (ix2 0 l) = ix2 0 l := by
  obtain ⟨-, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 128 + 1 * l.val = l.val; omega

theorem emb3 (t : Fin cfg0.N) (r : Fin 1024) (l : Fin 128) : ((cfg0.win 3).blk t).view.emb (ix2 r l) = ix2 (row t r) l := by
  obtain ⟨-, -, -, -, -, -, e0, e1, -⟩ := idx_facts t
  funext a; apply Fin.ext
  match a with
  | ⟨0, _⟩ => show win0_3.index t (0 : Fin 2) * 1024 + 1 * r.val = t.val * 1024 + r.val; omega
  | ⟨1, _⟩ => show win0_3.index t (1 : Fin 2) * 128 + 1 * l.val = l.val; omega

theorem emb4 (t : Fin cfg0.N) (r : Fin 1024) (l : Fin 128) : ((cfg0.win 4).blk t).view.emb (ix2 r l) = ix2 (row t r) l := by
  obtain ⟨-, -, -, -, -, -, -, -, e0, e1, -⟩ := idx_facts t
  funext a; apply Fin.ext
  match a with
  | ⟨0, _⟩ => show win0_4.index t (0 : Fin 2) * 1024 + 1 * r.val = t.val * 1024 + r.val; omega
  | ⟨1, _⟩ => show win0_4.index t (1 : Fin 2) * 128 + 1 * l.val = l.val; omega

theorem cast_apply (x : IVec S4x8192 32) (R : Fin 32768) :
    shapeCast S32768x1 x shapeCasts_S4x8192_S32768x1 (ix2 R 0)
      = x (ix2 ⟨R.val / 8192, by omega⟩ ⟨R.val % 8192, by omega⟩) := by
  pointwise

theorem iblk0_apply (c : Dev nD) (t : Fin cfg0.N) (r : Fin 1024) :
    iblk m c 0 t (ix2 r 0) = FloatOps.sitofp (F := Ideal) .f32 (m ((c : Thread nD τ).loc main_arg0)
      (ix2 ⟨(row t r).val / 8192, by omega⟩ ⟨(row t r).val % 8192, by omega⟩)) := by
  show V m c main_v18 (((cfg0.win 0).blk t).view.emb (ix2 r 0)) = _
  rw [emb0, V_v18]
  exact congrArg (FloatOps.sitofp (F := Ideal) .f32) (cast_apply _ _)

theorem iblk1_apply (c : Dev nD) (t : Fin cfg0.N) (l : Fin 128) :
    iblk m c 1 t (ix2 0 l) = inv (ix1 ⟨l.val % 32, by omega⟩) := by
  show V m c main_v15 (((cfg0.win 1).blk t).view.emb (ix2 0 l)) = _
  rw [emb1, V_v15, ← inv_row l]
  pointwise

theorem iblk2_apply (c : Dev nD) (t : Fin cfg0.N) (l : Fin 128) :
    iblk m c 2 t (ix2 0 l) = Ideal.ofBits .f32 (if l.val % 64 < 32 then 0xBF800000#32 else 0x3F800000#32) := by
  show V m c main_v16 (((cfg0.win 2).blk t).view.emb (ix2 0 l)) = _
  rw [emb2, V_v16, ← lit1_eq l]
  pointwise
  rw [rowMajor_lane]

theorem hz : (![0, 0] : Fin 2 → Nat) = fun _ => 0 := funext fun a => by fin_cases a <;> rfl

theorem flushed3_eq (c : Dev nD) (t : Fin cfg0.N) :
    (dats m 0 c).flushed 3 t = ((cfg0.win 3).blk t).view.read (Elt Ideal) (G3 (m ((c : Thread nD τ).loc main_arg0))) := by
  rw [Value.flushed3]
  funext j
  obtain ⟨r, l, rfl⟩ : ∃ (r : Fin 1024) (l : Fin 128), j = ix2 r l := ⟨j 0, j 1, eq_ix2 j⟩
  show out0_3 (iblk m c 0 t) (iblk m c 1 t) (iblk m c 2 t) (ix2 r l) = G3 _ (((cfg0.win 3).blk t).view.emb (ix2 r l))
  rw [emb3]
  unfold out0_3
  rw [Value.canon3_eq, View.ld_unit_zero hz, View.ld_unit_zero hz]
  have e0 : Value.ix3_0 (ix2 r l) = ix2 r 0 := by funext a; match a with | ⟨0, _⟩ => rfl | ⟨1, _⟩ => rfl
  have e1 : Value.ix3_1 (ix2 r l) = ix2 0 l := by funext a; match a with | ⟨0, _⟩ => rfl | ⟨1, _⟩ => rfl
  dsimp only [Value.E3]
  rw [e0, e1, iblk0_apply, iblk1_apply]
  rfl

theorem neg_one : Ideal.ofBits .f32 0xBF800000#32 = -1 := IdealRules.sign_bit.ideal_negOnePat .f32

theorem one : Ideal.ofBits .f32 0x3F800000#32 = 1 := IdealRules.sign_bit.ideal_onePat .f32

theorem flushed4_eq (c : Dev nD) (t : Fin cfg0.N) :
    (dats m 0 c).flushed 4 t = ((cfg0.win 4).blk t).view.read (Elt Ideal) (G4 (m ((c : Thread nD τ).loc main_arg0))) := by
  rw [Value.flushed4]
  funext j
  obtain ⟨r, l, rfl⟩ : ∃ (r : Fin 1024) (l : Fin 128), j = ix2 r l := ⟨j 0, j 1, eq_ix2 j⟩
  show out0_4 (iblk m c 0 t) (iblk m c 1 t) (iblk m c 2 t) (ix2 r l) = G4 _ (((cfg0.win 4).blk t).view.emb (ix2 r l))
  rw [emb4]
  unfold out0_4
  rw [Value.canon4_eq, View.ld_unit_zero hz, View.ld_unit_zero hz, View.ld_unit_zero hz]
  have e0 : Value.ix4_0 (ix2 r l) = ix2 r 0 := by funext a; match a with | ⟨0, _⟩ => rfl | ⟨1, _⟩ => rfl
  have e1 : Value.ix4_1 (ix2 r l) = ix2 0 l := by funext a; match a with | ⟨0, _⟩ => rfl | ⟨1, _⟩ => rfl
  have e2 : Value.ix4_2 (ix2 r l) = ix2 0 l := by funext a; match a with | ⟨0, _⟩ => rfl | ⟨1, _⟩ => rfl
  dsimp only [Value.E4]
  rw [e0, e1, e2, iblk0_apply, iblk1_apply, iblk2_apply]
  show (FloatOps.sin (F := Ideal) (φ := .f32) (ang (m ((c : Thread nD τ).loc main_arg0)) (row t r) l) : EReal) * _
    = if l.val % 64 < 32 then -(FloatOps.sin (F := Ideal) (φ := .f32) (ang (m ((c : Thread nD τ).loc main_arg0)) (row t r) l) : EReal) else FloatOps.sin (F := Ideal) (φ := .f32) (ang (m ((c : Thread nD τ).loc main_arg0)) (row t r) l)
  by_cases h : l.val % 64 < 32
  · rw [if_pos h, if_pos h, neg_one, mul_neg, mul_one]
  · rw [if_neg h, if_neg h, one, mul_one]

theorem covered3 (i : S32768x128.Idx) :
    ∃ t : Fin cfg0.N, (cfg0.win 3).flush t = true ∧ i ∈ ((cfg0.win 3).blk t).view.set := by
  obtain ⟨R, l, rfl⟩ : ∃ (R : Fin 32768) (l : Fin 128), i = ix2 R l := ⟨i 0, i 1, eq_ix2 i⟩
  let t : Fin cfg0.N := ⟨R.val / 1024, by have : cfg0.N = 32 := N_0; omega⟩
  refine ⟨t, flush0_3 _, ?_⟩
  have h := ((cfg0.win 3).blk t).view.emb_mem_set (ix2 (⟨R.val % 1024, by omega⟩ : Fin 1024) l)
  have e : row t ⟨R.val % 1024, by omega⟩ = R := Fin.ext (Nat.div_add_mod' _ _)
  have h2 := emb3 t ⟨R.val % 1024, by omega⟩ l
  rw [e] at h2
  exact h2 ▸ h

theorem covered4 (i : S32768x128.Idx) :
    ∃ t : Fin cfg0.N, (cfg0.win 4).flush t = true ∧ i ∈ ((cfg0.win 4).blk t).view.set := by
  obtain ⟨t, -, ht⟩ := covered3 i
  exact ⟨t, flush0_4 _, ht⟩

theorem final3 (c : Dev nD) : (dats m 0 c).arrAt 3 cfg0.N = G3 (m ((c : Thread nD τ).loc main_arg0)) :=
  (dats m 0 c).arrAt_eq_of_cover 3 _ (fun t _ => flushed3_eq m c t) covered3

theorem final4 (c : Dev nD) : (dats m 0 c).arrAt 4 cfg0.N = G4 (m ((c : Thread nD τ).loc main_arg0)) :=
  (dats m 0 c).arrAt_eq_of_cover 4 _ (fun t _ => flushed4_eq m c t) covered4

section Ref
open Cert.RopeRefIdeal Cert.RopeRefIdeal.Gen

/-- The reference's cosines are the same. -/
theorem ref_cos (p : IVec Cert.RopeRefIdeal.S4x8192 32) :
    (concatenate Cert.RopeRefIdeal.S32768x128 1 [⟨Cert.RopeRefIdeal.S32768x32, ((Host.cos (mulf (broadcastInDim Cert.RopeRefIdeal.S32768x32 ![0, 1] Cert.RopeRefIdeal.Gen.bcast_S32768x1_S32768x32_0_1 (broadcastInDim Cert.RopeRefIdeal.S32768x1 ![0] Cert.RopeRefIdeal.Gen.bcast_S32768_S32768x1_0 (sitofp .f32 (shapeCast _ p Cert.RopeRefIdeal.Gen.shapeCasts_S4x8192_S32768)))) (broadcastInDim Cert.RopeRefIdeal.S32768x32 ![0, 1] Cert.RopeRefIdeal.Gen.bcast_S1x32_S32768x32_0_1 (broadcastInDim Cert.RopeRefIdeal.S1x32 ![1] Cert.RopeRefIdeal.Gen.bcast_S32_S1x32_1 (Host.powf (broadcastInDim Cert.RopeRefIdeal.S32 ![] Cert.RopeRefIdeal.Gen.bcast_S_S32 (constant Cert.RopeRefIdeal.S_ .f32 0x461C4000#32)) (Host.divf (Host.negf (addf (broadcastInDim Cert.RopeRefIdeal.S32 ![] Cert.RopeRefIdeal.Gen.bcast_S_S32 (constant Cert.RopeRefIdeal.S_ .f32 0x00000000#32)) (mulf (broadcastInDim Cert.RopeRefIdeal.S32 ![] Cert.RopeRefIdeal.Gen.bcast_S_S32 (constant Cert.RopeRefIdeal.S_ .f32 0x40000000#32)) (sitofp .f32 (iotaInDim Cert.RopeRefIdeal.S32 32 0))))) (broadcastInDim Cert.RopeRefIdeal.S32 ![] Cert.RopeRefIdeal.Gen.bcast_S_S32 (constant Cert.RopeRefIdeal.S_ .f32 0x42800000#32)))))))) : FVec Ideal Cert.RopeRefIdeal.S32768x32 .f32)⟩, ⟨Cert.RopeRefIdeal.S32768x32, ((Host.cos (mulf (broadcastInDim Cert.RopeRefIdeal.S32768x32 ![0, 1] Cert.RopeRefIdeal.Gen.bcast_S32768x1_S32768x32_0_1 (broadcastInDim Cert.RopeRefIdeal.S32768x1 ![0] Cert.RopeRefIdeal.Gen.bcast_S32768_S32768x1_0 (sitofp .f32 (shapeCast _ p Cert.RopeRefIdeal.Gen.shapeCasts_S4x8192_S32768)))) (broadcastInDim Cert.RopeRefIdeal.S32768x32 ![0, 1] Cert.RopeRefIdeal.Gen.bcast_S1x32_S32768x32_0_1 (broadcastInDim Cert.RopeRefIdeal.S1x32 ![1] Cert.RopeRefIdeal.Gen.bcast_S32_S1x32_1 (Host.powf (broadcastInDim Cert.RopeRefIdeal.S32 ![] Cert.RopeRefIdeal.Gen.bcast_S_S32 (constant Cert.RopeRefIdeal.S_ .f32 0x461C4000#32)) (Host.divf (Host.negf (addf (broadcastInDim Cert.RopeRefIdeal.S32 ![] Cert.RopeRefIdeal.Gen.bcast_S_S32 (constant Cert.RopeRefIdeal.S_ .f32 0x00000000#32)) (mulf (broadcastInDim Cert.RopeRefIdeal.S32 ![] Cert.RopeRefIdeal.Gen.bcast_S_S32 (constant Cert.RopeRefIdeal.S_ .f32 0x40000000#32)) (sitofp .f32 (iotaInDim Cert.RopeRefIdeal.S32 32 0))))) (broadcastInDim Cert.RopeRefIdeal.S32 ![] Cert.RopeRefIdeal.Gen.bcast_S_S32 (constant Cert.RopeRefIdeal.S_ .f32 0x42800000#32)))))))) : FVec Ideal Cert.RopeRefIdeal.S32768x32 .f32)⟩, ⟨Cert.RopeRefIdeal.S32768x32, ((Host.cos (mulf (broadcastInDim Cert.RopeRefIdeal.S32768x32 ![0, 1] Cert.RopeRefIdeal.Gen.bcast_S32768x1_S32768x32_0_1 (broadcastInDim Cert.RopeRefIdeal.S32768x1 ![0] Cert.RopeRefIdeal.Gen.bcast_S32768_S32768x1_0 (sitofp .f32 (shapeCast _ p Cert.RopeRefIdeal.Gen.shapeCasts_S4x8192_S32768)))) (broadcastInDim Cert.RopeRefIdeal.S32768x32 ![0, 1] Cert.RopeRefIdeal.Gen.bcast_S1x32_S32768x32_0_1 (broadcastInDim Cert.RopeRefIdeal.S1x32 ![1] Cert.RopeRefIdeal.Gen.bcast_S32_S1x32_1 (Host.powf (broadcastInDim Cert.RopeRefIdeal.S32 ![] Cert.RopeRefIdeal.Gen.bcast_S_S32 (constant Cert.RopeRefIdeal.S_ .f32 0x461C4000#32)) (Host.divf (Host.negf (addf (broadcastInDim Cert.RopeRefIdeal.S32 ![] Cert.RopeRefIdeal.Gen.bcast_S_S32 (constant Cert.RopeRefIdeal.S_ .f32 0x00000000#32)) (mulf (broadcastInDim Cert.RopeRefIdeal.S32 ![] Cert.RopeRefIdeal.Gen.bcast_S_S32 (constant Cert.RopeRefIdeal.S_ .f32 0x40000000#32)) (sitofp .f32 (iotaInDim Cert.RopeRefIdeal.S32 32 0))))) (broadcastInDim Cert.RopeRefIdeal.S32 ![] Cert.RopeRefIdeal.Gen.bcast_S_S32 (constant Cert.RopeRefIdeal.S_ .f32 0x42800000#32)))))))) : FVec Ideal Cert.RopeRefIdeal.S32768x32 .f32)⟩, ⟨Cert.RopeRefIdeal.S32768x32, ((Host.cos (mulf (broadcastInDim Cert.RopeRefIdeal.S32768x32 ![0, 1] Cert.RopeRefIdeal.Gen.bcast_S32768x1_S32768x32_0_1 (broadcastInDim Cert.RopeRefIdeal.S32768x1 ![0] Cert.RopeRefIdeal.Gen.bcast_S32768_S32768x1_0 (sitofp .f32 (shapeCast _ p Cert.RopeRefIdeal.Gen.shapeCasts_S4x8192_S32768)))) (broadcastInDim Cert.RopeRefIdeal.S32768x32 ![0, 1] Cert.RopeRefIdeal.Gen.bcast_S1x32_S32768x32_0_1 (broadcastInDim Cert.RopeRefIdeal.S1x32 ![1] Cert.RopeRefIdeal.Gen.bcast_S32_S1x32_1 (Host.powf (broadcastInDim Cert.RopeRefIdeal.S32 ![] Cert.RopeRefIdeal.Gen.bcast_S_S32 (constant Cert.RopeRefIdeal.S_ .f32 0x461C4000#32)) (Host.divf (Host.negf (addf (broadcastInDim Cert.RopeRefIdeal.S32 ![] Cert.RopeRefIdeal.Gen.bcast_S_S32 (constant Cert.RopeRefIdeal.S_ .f32 0x00000000#32)) (mulf (broadcastInDim Cert.RopeRefIdeal.S32 ![] Cert.RopeRefIdeal.Gen.bcast_S_S32 (constant Cert.RopeRefIdeal.S_ .f32 0x40000000#32)) (sitofp .f32 (iotaInDim Cert.RopeRefIdeal.S32 32 0))))) (broadcastInDim Cert.RopeRefIdeal.S32 ![] Cert.RopeRefIdeal.Gen.bcast_S_S32 (constant Cert.RopeRefIdeal.S_ .f32 0x42800000#32)))))))) : FVec Ideal Cert.RopeRefIdeal.S32768x32 .f32)⟩] Cert.RopeRefIdeal.Gen.concatenates_S32768x32_S32768x32_S32768x32_S32768x32_S32768x128_d1 : FVec Ideal Cert.RopeRefIdeal.S32768x128 .f32) = G3 p := by
  funext i
  obtain ⟨R, l, rfl⟩ : ∃ (R : Fin 32768) (l : Fin 128), i = ix2 R l := ⟨i 0, i 1, eq_ix2 i⟩
  pointwise [G3, ang, inv]
  by_cases h0 : l.val < 32
  · rw [dif_pos h0, show l.val % 32 = l.val by omega]
  rw [dif_neg h0]
  by_cases h1 : l.val - 32 < 32
  · rw [dif_pos h1, show l.val % 32 = l.val - 32 by omega]
  rw [dif_neg h1]
  by_cases h2 : l.val - 32 - 32 < 32
  · rw [dif_pos h2, show l.val % 32 = l.val - 32 - 32 by omega]
  rw [dif_neg h2, show l.val % 32 = l.val - 32 - 32 - 32 by omega]

/-- The reference's signed sines are the same. -/
theorem ref_sin (p : IVec Cert.RopeRefIdeal.S4x8192 32) :
    (concatenate Cert.RopeRefIdeal.S32768x128 1 [⟨Cert.RopeRefIdeal.S32768x32, ((Host.negf (Host.sin (mulf (broadcastInDim Cert.RopeRefIdeal.S32768x32 ![0, 1] Cert.RopeRefIdeal.Gen.bcast_S32768x1_S32768x32_0_1 (broadcastInDim Cert.RopeRefIdeal.S32768x1 ![0] Cert.RopeRefIdeal.Gen.bcast_S32768_S32768x1_0 (sitofp .f32 (shapeCast _ p Cert.RopeRefIdeal.Gen.shapeCasts_S4x8192_S32768)))) (broadcastInDim Cert.RopeRefIdeal.S32768x32 ![0, 1] Cert.RopeRefIdeal.Gen.bcast_S1x32_S32768x32_0_1 (broadcastInDim Cert.RopeRefIdeal.S1x32 ![1] Cert.RopeRefIdeal.Gen.bcast_S32_S1x32_1 (Host.powf (broadcastInDim Cert.RopeRefIdeal.S32 ![] Cert.RopeRefIdeal.Gen.bcast_S_S32 (constant Cert.RopeRefIdeal.S_ .f32 0x461C4000#32)) (Host.divf (Host.negf (addf (broadcastInDim Cert.RopeRefIdeal.S32 ![] Cert.RopeRefIdeal.Gen.bcast_S_S32 (constant Cert.RopeRefIdeal.S_ .f32 0x00000000#32)) (mulf (broadcastInDim Cert.RopeRefIdeal.S32 ![] Cert.RopeRefIdeal.Gen.bcast_S_S32 (constant Cert.RopeRefIdeal.S_ .f32 0x40000000#32)) (sitofp .f32 (iotaInDim Cert.RopeRefIdeal.S32 32 0))))) (broadcastInDim Cert.RopeRefIdeal.S32 ![] Cert.RopeRefIdeal.Gen.bcast_S_S32 (constant Cert.RopeRefIdeal.S_ .f32 0x42800000#32))))))))) : FVec Ideal Cert.RopeRefIdeal.S32768x32 .f32)⟩, ⟨Cert.RopeRefIdeal.S32768x32, ((Host.sin (mulf (broadcastInDim Cert.RopeRefIdeal.S32768x32 ![0, 1] Cert.RopeRefIdeal.Gen.bcast_S32768x1_S32768x32_0_1 (broadcastInDim Cert.RopeRefIdeal.S32768x1 ![0] Cert.RopeRefIdeal.Gen.bcast_S32768_S32768x1_0 (sitofp .f32 (shapeCast _ p Cert.RopeRefIdeal.Gen.shapeCasts_S4x8192_S32768)))) (broadcastInDim Cert.RopeRefIdeal.S32768x32 ![0, 1] Cert.RopeRefIdeal.Gen.bcast_S1x32_S32768x32_0_1 (broadcastInDim Cert.RopeRefIdeal.S1x32 ![1] Cert.RopeRefIdeal.Gen.bcast_S32_S1x32_1 (Host.powf (broadcastInDim Cert.RopeRefIdeal.S32 ![] Cert.RopeRefIdeal.Gen.bcast_S_S32 (constant Cert.RopeRefIdeal.S_ .f32 0x461C4000#32)) (Host.divf (Host.negf (addf (broadcastInDim Cert.RopeRefIdeal.S32 ![] Cert.RopeRefIdeal.Gen.bcast_S_S32 (constant Cert.RopeRefIdeal.S_ .f32 0x00000000#32)) (mulf (broadcastInDim Cert.RopeRefIdeal.S32 ![] Cert.RopeRefIdeal.Gen.bcast_S_S32 (constant Cert.RopeRefIdeal.S_ .f32 0x40000000#32)) (sitofp .f32 (iotaInDim Cert.RopeRefIdeal.S32 32 0))))) (broadcastInDim Cert.RopeRefIdeal.S32 ![] Cert.RopeRefIdeal.Gen.bcast_S_S32 (constant Cert.RopeRefIdeal.S_ .f32 0x42800000#32)))))))) : FVec Ideal Cert.RopeRefIdeal.S32768x32 .f32)⟩, ⟨Cert.RopeRefIdeal.S32768x32, ((Host.negf (Host.sin (mulf (broadcastInDim Cert.RopeRefIdeal.S32768x32 ![0, 1] Cert.RopeRefIdeal.Gen.bcast_S32768x1_S32768x32_0_1 (broadcastInDim Cert.RopeRefIdeal.S32768x1 ![0] Cert.RopeRefIdeal.Gen.bcast_S32768_S32768x1_0 (sitofp .f32 (shapeCast _ p Cert.RopeRefIdeal.Gen.shapeCasts_S4x8192_S32768)))) (broadcastInDim Cert.RopeRefIdeal.S32768x32 ![0, 1] Cert.RopeRefIdeal.Gen.bcast_S1x32_S32768x32_0_1 (broadcastInDim Cert.RopeRefIdeal.S1x32 ![1] Cert.RopeRefIdeal.Gen.bcast_S32_S1x32_1 (Host.powf (broadcastInDim Cert.RopeRefIdeal.S32 ![] Cert.RopeRefIdeal.Gen.bcast_S_S32 (constant Cert.RopeRefIdeal.S_ .f32 0x461C4000#32)) (Host.divf (Host.negf (addf (broadcastInDim Cert.RopeRefIdeal.S32 ![] Cert.RopeRefIdeal.Gen.bcast_S_S32 (constant Cert.RopeRefIdeal.S_ .f32 0x00000000#32)) (mulf (broadcastInDim Cert.RopeRefIdeal.S32 ![] Cert.RopeRefIdeal.Gen.bcast_S_S32 (constant Cert.RopeRefIdeal.S_ .f32 0x40000000#32)) (sitofp .f32 (iotaInDim Cert.RopeRefIdeal.S32 32 0))))) (broadcastInDim Cert.RopeRefIdeal.S32 ![] Cert.RopeRefIdeal.Gen.bcast_S_S32 (constant Cert.RopeRefIdeal.S_ .f32 0x42800000#32))))))))) : FVec Ideal Cert.RopeRefIdeal.S32768x32 .f32)⟩, ⟨Cert.RopeRefIdeal.S32768x32, ((Host.sin (mulf (broadcastInDim Cert.RopeRefIdeal.S32768x32 ![0, 1] Cert.RopeRefIdeal.Gen.bcast_S32768x1_S32768x32_0_1 (broadcastInDim Cert.RopeRefIdeal.S32768x1 ![0] Cert.RopeRefIdeal.Gen.bcast_S32768_S32768x1_0 (sitofp .f32 (shapeCast _ p Cert.RopeRefIdeal.Gen.shapeCasts_S4x8192_S32768)))) (broadcastInDim Cert.RopeRefIdeal.S32768x32 ![0, 1] Cert.RopeRefIdeal.Gen.bcast_S1x32_S32768x32_0_1 (broadcastInDim Cert.RopeRefIdeal.S1x32 ![1] Cert.RopeRefIdeal.Gen.bcast_S32_S1x32_1 (Host.powf (broadcastInDim Cert.RopeRefIdeal.S32 ![] Cert.RopeRefIdeal.Gen.bcast_S_S32 (constant Cert.RopeRefIdeal.S_ .f32 0x461C4000#32)) (Host.divf (Host.negf (addf (broadcastInDim Cert.RopeRefIdeal.S32 ![] Cert.RopeRefIdeal.Gen.bcast_S_S32 (constant Cert.RopeRefIdeal.S_ .f32 0x00000000#32)) (mulf (broadcastInDim Cert.RopeRefIdeal.S32 ![] Cert.RopeRefIdeal.Gen.bcast_S_S32 (constant Cert.RopeRefIdeal.S_ .f32 0x40000000#32)) (sitofp .f32 (iotaInDim Cert.RopeRefIdeal.S32 32 0))))) (broadcastInDim Cert.RopeRefIdeal.S32 ![] Cert.RopeRefIdeal.Gen.bcast_S_S32 (constant Cert.RopeRefIdeal.S_ .f32 0x42800000#32)))))))) : FVec Ideal Cert.RopeRefIdeal.S32768x32 .f32)⟩] Cert.RopeRefIdeal.Gen.concatenates_S32768x32_S32768x32_S32768x32_S32768x32_S32768x128_d1 : FVec Ideal Cert.RopeRefIdeal.S32768x128 .f32) = G4 p := by
  funext i
  obtain ⟨R, l, rfl⟩ : ∃ (R : Fin 32768) (l : Fin 128), i = ix2 R l := ⟨i 0, i 1, eq_ix2 i⟩
  pointwise [G4, ang, inv]
  by_cases h0 : l.val < 32
  · rw [dif_pos h0, if_pos (by omega), show l.val % 32 = l.val by omega]
  rw [dif_neg h0]
  by_cases h1 : l.val - 32 < 32
  · rw [dif_pos h1, if_neg (by omega), show l.val % 32 = l.val - 32 by omega]
  rw [dif_neg h1]
  by_cases h2 : l.val - 32 - 32 < 32
  · rw [dif_pos h2, if_pos (by omega), show l.val % 32 = l.val - 32 - 32 by omega]
  rw [dif_neg h2, if_neg (by omega), show l.val % 32 = l.val - 32 - 32 - 32 by omega]

end Ref

/-- The two programs end with equal results over the extended reals. -/
theorem algebraic : Cert.algebraic_RopeIdeal_RopeRefIdeal := by
  intro m g m' g' _ hm
  refine ⟨fun c => G3 (m ((c : Thread nD τ).loc main_arg0)), fun c => G4 (m ((c : Thread nD τ).loc main_arg0)),
    (θ_run _ _ _).mono (fun r h c => ⟨(h c).1.trans (final3 m c), (h c).2.1.trans (final4 m c), (h c).2.2⟩) (Value.run_blocks m g),
    (θ_run _ _ _).mono (fun r h c => ⟨(h c).1.trans ?_, (h c).2.1.trans ?_, (h c).2.2⟩) (Cert.RopeRefIdeal.Value.run m' g')⟩
  · rw [hm c]
    exact ref_cos _
  · rw [hm c]
    exact ref_sin _

end Cert.Proof.Rope

end
-- ==== Proof.PrepBlocks.lean ====
module

public import proofs.«01_k».proof.Defs
public import proofs.«01_k».proof.Proof.Gen.PrepIdeal.Value
public import Idealize.ShloMosaic.Lib.Pointwise
public import Idealize.ShloMosaic.Lib.Pipeline.ValueKit
public import Idealize.ShloMosaic.Lib.Pipeline.ReadBack
public import Idealize.ShloMosaic.Lib.Quiescent

/-! # The sparse attention's arguments: rotary embedding, scales and layout

Each grid point fills 1024 rows of five results. A result is one formula by index: the kernel writes it in slabs of 128 lanes
(two heads of 64), with the partner of a lane taken by turning the slab by 32 lanes one way or the other, and the values in
strips of rows, transposed by chunks of 256. -/

@[expose] public section

set_option maxRecDepth 16384

noncomputable section

namespace Cert.Proof.Prep

open Idealize.ShloMosaic Idealize.ShloMosaic.TcCoe Idealize.SL.Sem
open Idealize.ShloMosaic.Pipeline (Dat)
open Cert.PrepIdeal Cert.PrepIdeal.Gen

variable (m : (ℓ : Loc nD τ sig) → Buf (Elt Ideal) ℓ) (ρ : Dev nD → PrngReg)

/-- Entry `j` of row `R` of a table given by sequence and position. -/
def tab (c : Vec Ideal S4x8192x32 .f32) (R : Fin 32768) (j : Nat) : EReal :=
  c (ix3 ⟨R.val / 8192, by omega⟩ ⟨R.val % 8192, by omega⟩ ⟨j % 32, by omega⟩)

/-- The rotation of column `n` of a row: `x` is the row, a head's 64 columns pair `n` with `n + 32`. -/
def rope (cos sin : Vec Ideal S4x8192x32 .f32) (R : Fin 32768) (x : Nat → EReal) (n : Nat) : EReal :=
  if n % 64 < 32 then x n * tab cos R n + x (n + 32) * -tab sin R n
  else x n * tab cos R n + x (n - 32) * tab sin R n

/-- Column `n` of row `R`, of 8192 columns. -/
def col (p : Vec Ideal S32768x8192 .bf16) (R : Fin 32768) (n : Nat) : EReal := p (ix2 R ⟨n % 8192, by omega⟩)

/-- Column `n` of row `R`, of 128 columns. -/
def side (w : Vec Ideal S32768x128 .f32) (R : Fin 32768) (n : Nat) : EReal := w (ix2 R ⟨n % 128, by omega⟩)

def G7 (p : Vec Ideal S32768x8192 .bf16) (cos sin : Vec Ideal S4x8192x32 .f32) : Vec Ideal S32768x512 .bf16 :=
  fun i => rope cos sin (i 0) (fun n => col p (i 0) (3072 + n)) (i 1).val * Ideal.ofBits .f32 0x3E38AA3B#32

def G8 (p : Vec Ideal S32768x8192 .bf16) (cos sin : Vec Ideal S4x8192x32 .f32) : Vec Ideal S32768x512 .bf16 :=
  fun i => rope cos sin (i 0) (fun n => col p (i 0) (3584 + n)) (i 1).val

def G9 (p : Vec Ideal S32768x8192 .bf16) (w : Vec Ideal S32768x128 .f32) (cos sin : Vec Ideal S4x8192x32 .f32) : Vec Ideal S32768x512 .bf16 :=
  fun i => rope cos sin (i 0) (fun n => col p (i 0) (4608 + n)) (i 1).val
    * (FloatOps.absf (F := Ideal) (φ := .f32) (side w (i 0) (72 + (i 1).val / 64)) * Ideal.ofBits .f32 0x3D3504F3#32)

def G10 (w : Vec Ideal S32768x128 .f32) (cos sin : Vec Ideal S4x8192x32 .f32) : Vec Ideal S32768x256 .bf16 :=
  fun i => if (i 1).val < 64 then rope cos sin (i 0) (side w (i 0)) (i 1).val
    else if (i 1).val < 192 then Ideal.ofBits .f32 0x00000000#32 else rope cos sin (i 0) (side w (i 0)) ((i 1).val - 192)

def G11 (p : Vec Ideal S32768x8192 .bf16) : Vec Ideal S128x640x256 .bf16 :=
  fun i => if (i 1).val % 80 < 64 then col p ⟨(i 0).val * 256 + (i 2).val, by have := (i 0).isLt; have := (i 2).isLt; simp at *; omega⟩ (4096 + (i 1).val / 80 * 64 + (i 1).val % 80)
    else Ideal.ofBits .bf16 0x3F80#16

/-- Stores that are blocks of `G` leave `G` at every index one of them covers. -/
theorem of_pieces {S : Shape} {e : EltTy} (G : S.Idx → Elt Ideal e) (L : List (View.Piece (Elt Ideal) S e)) (y : S.Idx)
    (h : View.PiecesOf G L) (hc : ∃ p ∈ L, y ∈ p.1.set) : View.canon L y = G y :=
  View.canon_apply_of_pieces G L h.mem y hc

theorem mask_lane : ∀ l : Fin 128, IntOp.cmpi CmpIPredicate.slt
      (Scalar.select
        (IntOp.andi
          (IntOp.xori
            (IntOp.cmpi CmpIPredicate.slt
              (IntOp.remsi ArithUnit.vector (BitVec.ofNat 32 l.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 l.val)
              (Scalar.select (Scalar.cmpi CmpIPredicate.eq 64#32 0#32) 1#32 64#32))
            0#32))
        (IntOp.addi
          (IntOp.remsi ArithUnit.vector (BitVec.ofNat 32 l.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 l.val)
          (Scalar.select (Scalar.cmpi CmpIPredicate.eq 64#32 0#32) 1#32 64#32)))
      32#32 = if l.val % 64 < 32 then 1#1 else 0#1 := by decide +kernel

/-- The kernel's mask of the first half of each head. -/
theorem mask (r : Fin 1024) (l : Fin 128) : k0_pay79 k0_pay77 k0_pay78 (ix2 r l) = if l.val % 64 < 32 then 1#1 else 0#1 := by
  rw [← mask_lane l]
  pointwise [k0_pay79, k0_pay77, k0_pay78]

theorem left_lane : ∀ l : Fin 128, IntOp.cmpi CmpIPredicate.slt (BitVec.ofNat 32 l.val) 64#32 = if l.val < 64 then 1#1 else 0#1 := by
  decide +kernel

/-- The kernel's mask of the slab's first head. -/
theorem left (r : Fin 1024) (l : Fin 128) : k0_pay80 (iota .tc S1024x128 32 [1] iota_S1024x128_d1_w32) (ix2 r l) = if l.val < 64 then 1#1 else 0#1 := by
  rw [← left_lane l]
  pointwise [k0_pay80]

theorem sel {α : Type} (p : Prop) [Decidable p] (a b : α) : Scalar.select (if p then 1#1 else 0#1) a b = if p then a else b := by
  by_cases h : p <;> simp [h, Scalar.select]

/-- A slab of 128 lanes turned: each lane times its cosine, plus its partner times the signed sine. -/
def turn (c s x : S1024x128.Idx → EReal) (r : Fin 1024) (l : Fin 128) : EReal :=
  x (ix2 r l) * c (ix2 r l) + (if l.val % 64 < 32 then x (ix2 r ⟨(l.val + 128 - 96) % 128, by omega⟩) else x (ix2 r ⟨(l.val + 128 - 32) % 128, by omega⟩)) * s (ix2 r l)

theorem pay82_apply (c s : FVec Ideal S1024x128 .f32) (x : Vec Ideal S1024x128 .bf16) (r : Fin 1024) (l : Fin 128) :
    k0_pay82 c s k0_pay77 k0_pay78 x (ix2 r l) = turn c s x r l := by
  unfold k0_pay82; pointwise; rw [mask, sel]; rfl

theorem pay87_apply (c s : FVec Ideal S1024x128 .f32) (x : Vec Ideal S1024x128 .bf16) (r : Fin 1024) (l : Fin 128) :
    k0_pay87 c s (k0_pay79 k0_pay77 k0_pay78) x (ix2 r l) = turn c s x r l := by
  unfold k0_pay87; pointwise; rw [mask, sel]; rfl

/-- A turned slab is the rotation, when its lanes are columns `o`, `o + 1`, … of the row. -/
theorem turn_rope (cos sin : Vec Ideal S4x8192x32 .f32) (R : Fin 32768) (X : Nat → EReal) (o : Nat) (ho : o % 64 = 0)
    (c s x : S1024x128.Idx → EReal) (r : Fin 1024) (l : Fin 128) (hx : ∀ l : Fin 128, x (ix2 r l) = X (o + l.val))
    (hc : ∀ l : Fin 128, c (ix2 r l) = tab cos R l.val) (hs : ∀ l : Fin 128, s (ix2 r l) = if l.val % 64 < 32 then -tab sin R l.val else tab sin R l.val) :
    turn c s x r l = rope cos sin R X (o + l.val) := by
  have ht : ∀ u : Vec Ideal S4x8192x32 .f32, tab u R l.val = tab u R (o + l.val) := fun u => by
    unfold tab; congr 2; ext; simp only []; omega
  simp only [turn, rope, hx, hc, hs, ht]
  by_cases h : l.val % 64 < 32
  · rw [if_pos h, if_pos h, if_pos (by omega), show o + (l.val + 128 - 96) % 128 = o + l.val + 32 by omega]
  · rw [if_neg h, if_neg h, if_neg (by omega), show o + (l.val + 128 - 32) % 128 = o + l.val - 32 by omega]

theorem V_cos (c : Dev nD) : V m c main_v2 = (concatenate S32768x128 1 [⟨S32768x32, (shapeCast _ (m ((c : Thread nD τ).loc main_arg2)) shapeCasts_S4x8192x32_S32768x32 : (⟨S32768x32, .f32⟩ : BufTy).Contents (Elt Ideal))⟩, ⟨S32768x32, (shapeCast _ (m ((c : Thread nD τ).loc main_arg2)) shapeCasts_S4x8192x32_S32768x32 : (⟨S32768x32, .f32⟩ : BufTy).Contents (Elt Ideal))⟩, ⟨S32768x32, (shapeCast _ (m ((c : Thread nD τ).loc main_arg2)) shapeCasts_S4x8192x32_S32768x32 : (⟨S32768x32, .f32⟩ : BufTy).Contents (Elt Ideal))⟩, ⟨S32768x32, (shapeCast _ (m ((c : Thread nD τ).loc main_arg2)) shapeCasts_S4x8192x32_S32768x32 : (⟨S32768x32, .f32⟩ : BufTy).Contents (Elt Ideal))⟩] concatenates_S32768x32_S32768x32_S32768x32_S32768x32_S32768x128_d1 : (⟨S32768x128, .f32⟩ : BufTy).Contents (Elt Ideal)) := by
  dsimp only [V, hostOps0]; after_results <;> rfl

theorem V_sin (c : Dev nD) : V m c main_v5 = (concatenate S32768x128 1 [⟨S32768x32, (Host.negf (F := Ideal) (φ := .f32) (shapeCast S32768x32 (m ((c : Thread nD τ).loc main_arg3)) shapeCasts_S4x8192x32_S32768x32) : (⟨S32768x32, .f32⟩ : BufTy).Contents (Elt Ideal))⟩, ⟨S32768x32, (shapeCast _ (m ((c : Thread nD τ).loc main_arg3)) shapeCasts_S4x8192x32_S32768x32 : (⟨S32768x32, .f32⟩ : BufTy).Contents (Elt Ideal))⟩, ⟨S32768x32, (Host.negf (F := Ideal) (φ := .f32) (shapeCast S32768x32 (m ((c : Thread nD τ).loc main_arg3)) shapeCasts_S4x8192x32_S32768x32) : (⟨S32768x32, .f32⟩ : BufTy).Contents (Elt Ideal))⟩, ⟨S32768x32, (shapeCast _ (m ((c : Thread nD τ).loc main_arg3)) shapeCasts_S4x8192x32_S32768x32 : (⟨S32768x32, .f32⟩ : BufTy).Contents (Elt Ideal))⟩] concatenates_S32768x32_S32768x32_S32768x32_S32768x32_S32768x128_d1 : (⟨S32768x128, .f32⟩ : BufTy).Contents (Elt Ideal)) := by
  dsimp only [V, hostOps0]; after_results <;> rfl

/-- Four tables of 32 columns side by side, read at a column. -/
theorem cat_apply (a b : FVec Ideal S32768x32 .f32) (R : Fin 32768) (l : Fin 128) :
    (concatenate S32768x128 1 [⟨S32768x32, (a : (⟨S32768x32, .f32⟩ : BufTy).Contents (Elt Ideal))⟩, ⟨S32768x32, (b : (⟨S32768x32, .f32⟩ : BufTy).Contents (Elt Ideal))⟩, ⟨S32768x32, (a : (⟨S32768x32, .f32⟩ : BufTy).Contents (Elt Ideal))⟩, ⟨S32768x32, (b : (⟨S32768x32, .f32⟩ : BufTy).Contents (Elt Ideal))⟩] concatenates_S32768x32_S32768x32_S32768x32_S32768x32_S32768x128_d1 : FVec Ideal S32768x128 .f32) (ix2 R l)
      = if l.val % 64 < 32 then a (ix2 R ⟨l.val % 32, by omega⟩) else b (ix2 R ⟨l.val % 32, by omega⟩) := by
  have hc : ∀ (u : FVec Ideal S32768x32 .f32) (i j : Fin 32), i.val = j.val → u (ix2 R i) = u (ix2 R j) := fun u i j h => by rw [Fin.ext h]
  pointwise
  by_cases h0 : l.val < 32
  · rw [dif_pos h0]; exact (hc a ⟨l.val, by omega⟩ ⟨l.val % 32, by omega⟩ (show l.val = l.val % 32 by omega)).trans (if_pos (by omega)).symm
  rw [dif_neg h0]
  by_cases h1 : l.val - 32 < 32
  · rw [dif_pos h1]; exact (hc b ⟨l.val - 32, by omega⟩ ⟨l.val % 32, by omega⟩ (show l.val - 32 = l.val % 32 by omega)).trans (if_neg (by omega)).symm
  rw [dif_neg h1]
  by_cases h2 : l.val - 32 - 32 < 32
  · rw [dif_pos h2]; exact (hc a ⟨l.val - 32 - 32, by omega⟩ ⟨l.val % 32, by omega⟩ (show l.val - 32 - 32 = l.val % 32 by omega)).trans (if_pos (by omega)).symm
  rw [dif_neg h2]; exact (hc b ⟨l.val - 32 - 32 - 32, by omega⟩ ⟨l.val % 32, by omega⟩ (show l.val - 32 - 32 - 32 = l.val % 32 by omega)).trans (if_neg (by omega)).symm

/-- A table by sequence and position, laid out by row. -/
theorem flat_apply (u : FVec Ideal S4x8192x32 .f32) (R : Fin 32768) (j : Fin 32) :
    (shapeCast S32768x32 u shapeCasts_S4x8192x32_S32768x32 : FVec Ideal S32768x32 .f32) (ix2 R j) = tab u R j.val := by
  have hc : tab u R j.val = u (ix3 ⟨R.val / 8192, by omega⟩ ⟨R.val % 8192, by omega⟩ j) := by
    unfold tab; congr 2; ext; simp only []; omega
  rw [hc]
  pointwise

theorem neg_flat_apply (u : FVec Ideal S4x8192x32 .f32) (R : Fin 32768) (j : Fin 32) :
    (Host.negf (F := Ideal) (φ := .f32) (shapeCast S32768x32 u shapeCasts_S4x8192x32_S32768x32) : FVec Ideal S32768x32 .f32) (ix2 R j) = -tab u R j.val := by
  have hc : tab u R j.val = u (ix3 ⟨R.val / 8192, by omega⟩ ⟨R.val % 8192, by omega⟩ j) := by
    unfold tab; congr 2; ext; simp only []; omega
  rw [hc]
  pointwise

theorem tab_mod (u : FVec Ideal S4x8192x32 .f32) (R : Fin 32768) (n : Nat) : tab u R (n % 32) = tab u R n := by
  unfold tab; congr 2; ext; simp only []; omega

theorem cos_apply (c : Dev nD) (R : Fin 32768) (l : Fin 128) : V m c main_v2 (ix2 R l) = tab (m ((c : Thread nD τ).loc main_arg2)) R l.val := by
  rw [V_cos]
  refine (cat_apply _ _ R l).trans ?_
  rw [flat_apply, tab_mod, ite_self]

theorem sin_apply (c : Dev nD) (R : Fin 32768) (l : Fin 128) : V m c main_v5 (ix2 R l)
    = if l.val % 64 < 32 then -tab (m ((c : Thread nD τ).loc main_arg3)) R l.val else tab (m ((c : Thread nD τ).loc main_arg3)) R l.val := by
  rw [V_sin]
  refine (cat_apply _ _ R l).trans ?_
  rw [flat_apply, neg_flat_apply, tab_mod]

theorem idx_facts : ∀ t : Fin cfg0.N, (win0_0.index t = ![t.val, 6] ∧ win0_1.index t = ![t.val, 7] ∧ win0_2.index t = ![t.val, 9] ∧ win0_3.index t = ![t.val, 8])
    ∧ (win0_4.index t = ![t.val, 0] ∧ win0_5.index t = ![t.val, 0] ∧ win0_6.index t = ![t.val, 0])
    ∧ (win0_7.index t = ![t.val, 0] ∧ win0_8.index t = ![t.val, 0] ∧ win0_9.index t = ![t.val, 0] ∧ win0_10.index t = ![t.val, 0] ∧ win0_11.index t = ![t.val, 0, 0]) ∧ t.val < 32 :=
  (by decide +kernel : ∀ t : Fin grid0.N, _)

/-- Row `r` of point `t`'s block is row `1024 t + r` of the array. -/
def row (t : Fin cfg0.N) (r : Fin 1024) : Fin 32768 := ⟨t.val * 1024 + r.val, by have := (idx_facts t).2.2.2; omega⟩

theorem iblk0_apply (c : Dev nD) (t : Fin cfg0.N) (r : Fin 1024) (l : Fin 512) :
    iblk m c 0 t (ix2 r l) = col (m ((c : Thread nD τ).loc main_arg0)) (row t r) (3072 + l.val) := by
  obtain ⟨⟨e, -, -, -⟩, -⟩ := idx_facts t
  have h : col (m ((c : Thread nD τ).loc main_arg0)) (row t r) (3072 + l.val) = m ((c : Thread nD τ).loc main_arg0) (ix2 (row t r) ⟨3072 + l.val, by omega⟩) := by
    unfold col; congr 2; ext; simp only []; omega
  rw [h]
  show V m c main_arg0 _ = _
  rw [V_main_arg0]
  blk_ext [iblk, e, row]

theorem iblk1_apply (c : Dev nD) (t : Fin cfg0.N) (r : Fin 1024) (l : Fin 512) :
    iblk m c 1 t (ix2 r l) = col (m ((c : Thread nD τ).loc main_arg0)) (row t r) (3584 + l.val) := by
  obtain ⟨⟨-, e, -, -⟩, -⟩ := idx_facts t
  have h : col (m ((c : Thread nD τ).loc main_arg0)) (row t r) (3584 + l.val) = m ((c : Thread nD τ).loc main_arg0) (ix2 (row t r) ⟨3584 + l.val, by omega⟩) := by
    unfold col; congr 2; ext; simp only []; omega
  rw [h]
  show V m c main_arg0 _ = _
  rw [V_main_arg0]
  blk_ext [iblk, e, row]

theorem iblk2_apply (c : Dev nD) (t : Fin cfg0.N) (r : Fin 1024) (l : Fin 512) :
    iblk m c 2 t (ix2 r l) = col (m ((c : Thread nD τ).loc main_arg0)) (row t r) (4608 + l.val) := by
  obtain ⟨⟨-, -, e, -⟩, -⟩ := idx_facts t
  have h : col (m ((c : Thread nD τ).loc main_arg0)) (row t r) (4608 + l.val) = m ((c : Thread nD τ).loc main_arg0) (ix2 (row t r) ⟨4608 + l.val, by omega⟩) := by
    unfold col; congr 2; ext; simp only []; omega
  rw [h]
  show V m c main_arg0 _ = _
  rw [V_main_arg0]
  blk_ext [iblk, e, row]

theorem iblk3_apply (c : Dev nD) (t : Fin cfg0.N) (r : Fin 1024) (l : Fin 512) :
    iblk m c 3 t (ix2 r l) = col (m ((c : Thread nD τ).loc main_arg0)) (row t r) (4096 + l.val) := by
  obtain ⟨⟨-, -, -, e⟩, -⟩ := idx_facts t
  have h : col (m ((c : Thread nD τ).loc main_arg0)) (row t r) (4096 + l.val) = m ((c : Thread nD τ).loc main_arg0) (ix2 (row t r) ⟨4096 + l.val, by omega⟩) := by
    unfold col; congr 2; ext; simp only []; omega
  rw [h]
  show V m c main_arg0 _ = _
  rw [V_main_arg0]
  blk_ext [iblk, e, row]

theorem iblk4_apply (c : Dev nD) (t : Fin cfg0.N) (r : Fin 1024) (l : Fin 128) :
    iblk m c 4 t (ix2 r l) = side (m ((c : Thread nD τ).loc main_arg1)) (row t r) l.val := by
  obtain ⟨-, ⟨e, -, -⟩, -⟩ := idx_facts t
  have h : side (m ((c : Thread nD τ).loc main_arg1)) (row t r) l.val = m ((c : Thread nD τ).loc main_arg1) (ix2 (row t r) l) := by
    unfold side; congr 2; ext; simp only []; omega
  rw [h]
  show V m c main_arg1 _ = _
  rw [V_main_arg1]
  blk_ext [iblk, e, row]

theorem iblk5_apply (c : Dev nD) (t : Fin cfg0.N) (r : Fin 1024) (l : Fin 128) :
    iblk m c 5 t (ix2 r l) = tab (m ((c : Thread nD τ).loc main_arg2)) (row t r) l.val := by
  obtain ⟨-, ⟨-, e, -⟩, -⟩ := idx_facts t
  rw [← cos_apply m c]
  show V m c main_v2 _ = _
  blk_ext [iblk, e, row]

theorem iblk6_apply (c : Dev nD) (t : Fin cfg0.N) (r : Fin 1024) (l : Fin 128) :
    iblk m c 6 t (ix2 r l) = if l.val % 64 < 32 then -tab (m ((c : Thread nD τ).loc main_arg3)) (row t r) l.val else tab (m ((c : Thread nD τ).loc main_arg3)) (row t r) l.val := by
  obtain ⟨-, ⟨-, -, e⟩, -⟩ := idx_facts t
  rw [← sin_apply m c]
  show V m c main_v5 _ = _
  blk_ext [iblk, e, row]

/-- The tables' blocks, read back whole. -/
theorem cosB (c : Dev nD) (t : Fin cfg0.N) (h) (r : Fin 1024) (l : Fin 128) :
    shapeCast S1024x128 (iblk m c 5 t) h (ix2 r l) = tab (m ((c : Thread nD τ).loc main_arg2)) (row t r) l.val := by
  rw [← iblk5_apply]; pointwise
theorem sinB (c : Dev nD) (t : Fin cfg0.N) (h) (r : Fin 1024) (l : Fin 128) :
    shapeCast S1024x128 (iblk m c 6 t) h (ix2 r l) = if l.val % 64 < 32 then -tab (m ((c : Thread nD τ).loc main_arg3)) (row t r) l.val else tab (m ((c : Thread nD τ).loc main_arg3)) (row t r) l.val := by
  rw [← iblk6_apply]; pointwise

end Cert.Proof.Prep

end
-- ==== Proof.PrepV.lean ====
module

public import proofs.«01_k».proof.Defs
public import proofs.«01_k».proof.Proof.Gen.PrepIdeal.Value
public import proofs.«01_k».proof.Proof.PrepBlocks
public import Idealize.ShloMosaic.Lib.Pointwise
public import Idealize.ShloMosaic.Lib.Pipeline.ValueKit
public import Idealize.ShloMosaic.Lib.Pipeline.ReadBack
public import Idealize.ShloMosaic.Lib.Quiescent

/-! # The sparse attention's arguments: queries, keys, the indexer's -/

@[expose] public section

set_option maxRecDepth 16384

noncomputable section

namespace Cert.Proof.Prep

open Idealize.ShloMosaic Idealize.ShloMosaic.TcCoe Idealize.SL.Sem
open Idealize.ShloMosaic.Pipeline (Dat)
open Cert.PrepIdeal Cert.PrepIdeal.Gen

variable (m : (ℓ : Loc nD τ sig) → Buf (Elt Ideal) ℓ) (ρ : Dev nD → PrngReg)

/-- The payloads, read at an index: queries, keys. -/
theorem pay81_apply (c s : FVec Ideal S1024x128 .f32) (x : Vec Ideal S1024x128 .bf16) (r : Fin 1024) (l : Fin 128) :
    k0_pay81 c s k0_pay77 k0_pay78 x (ix2 r l) = turn c s x r l * Ideal.ofBits .f32 0x3E38AA3B#32 := by
  unfold k0_pay81; pointwise; rw [mask, sel]; rfl

theorem pay86_apply (c s : FVec Ideal S1024x128 .f32) (x : Vec Ideal S1024x128 .bf16) (r : Fin 1024) (l : Fin 128) :
    k0_pay86 c s (k0_pay79 k0_pay77 k0_pay78) x (ix2 r l) = turn c s x r l * Ideal.ofBits .f32 0x3E38AA3B#32 := by
  unfold k0_pay86; pointwise; rw [mask, sel]; rfl

theorem pay90_apply (c s : FVec Ideal S1024x128 .f32) (x : Vec Ideal S1024x128 .bf16) (r : Fin 1024) (l : Fin 128) :
    k0_pay90 c s (k0_pay79 k0_pay77 k0_pay78) x (ix2 r l) = turn c s x r l * Ideal.ofBits .f32 0x3E38AA3B#32 := by
  unfold k0_pay90; pointwise; rw [mask, sel]; rfl

theorem pay94_apply (c s : FVec Ideal S1024x128 .f32) (x : Vec Ideal S1024x128 .bf16) (r : Fin 1024) (l : Fin 128) :
    k0_pay94 c s (k0_pay79 k0_pay77 k0_pay78) x (ix2 r l) = turn c s x r l * Ideal.ofBits .f32 0x3E38AA3B#32 := by
  unfold k0_pay94; pointwise; rw [mask, sel]; rfl

theorem pay91_apply (c s : FVec Ideal S1024x128 .f32) (x : Vec Ideal S1024x128 .bf16) (r : Fin 1024) (l : Fin 128) :
    k0_pay91 c s (k0_pay79 k0_pay77 k0_pay78) x (ix2 r l) = turn c s x r l := by
  unfold k0_pay91; pointwise; rw [mask, sel]; rfl

theorem pay96_apply (c s : FVec Ideal S1024x128 .f32) (x : Vec Ideal S1024x128 .bf16) (r : Fin 1024) (l : Fin 128) :
    k0_pay96 (k0_pay95 c s (k0_pay79 k0_pay77 k0_pay78) x) (ix2 r l) = turn c s x r l := by
  unfold k0_pay96 k0_pay95; pointwise; rw [mask, sel]; rfl

/-- The weight of a lane's head: the magnitude of one of two columns of `w`, scaled. -/
def weight (w : Vec Ideal S1024x128 .f32) (j : Nat) (r : Fin 1024) (l : Fin 128) : EReal :=
  FloatOps.absf (F := Ideal) (φ := .f32) (w (ix2 r ⟨(j + l.val / 64) % 128, by omega⟩)) * Ideal.ofBits .f32 0x3D3504F3#32

theorem weight_eq (w : Vec Ideal S1024x128 .f32) (j : Nat) (hj : j + 1 < 128) (r : Fin 1024) (l : Fin 128) :
    (if l.val < 64 then FloatOps.absf (F := Ideal) (φ := .f32) (w (ix2 r ⟨j, by omega⟩)) else FloatOps.absf (F := Ideal) (φ := .f32) (w (ix2 r ⟨j + 1, hj⟩)))
      * Ideal.ofBits .f32 0x3D3504F3#32 = weight w j r l := by
  have hc : ∀ a b : Fin 128, a.val = b.val → w (ix2 r a) = w (ix2 r b) := fun a b h => by rw [Fin.ext h]
  unfold weight
  by_cases h : l.val < 64
  · rw [if_pos h, hc ⟨j, by omega⟩ ⟨(j + l.val / 64) % 128, by omega⟩ (show j = (j + l.val / 64) % 128 by omega)]
  · rw [if_neg h, hc ⟨j + 1, hj⟩ ⟨(j + l.val / 64) % 128, by omega⟩ (show j + 1 = (j + l.val / 64) % 128 by omega)]

theorem pay85_apply (c s : FVec Ideal S1024x128 .f32) (w : Vec Ideal S1024x128 .f32) (x : Vec Ideal S1024x128 .bf16) (r : Fin 1024) (l : Fin 128) :
    k0_pay85 c s (k0_pay79 k0_pay77 k0_pay78) (k0_pay83 (iota .tc S1024x128 32 [1] iota_S1024x128_d1_w32) w) (k0_pay84 x) (ix2 r l) = turn c s x r l * weight w 72 r l := by
  rw [← weight_eq w 72 (by decide)]
  unfold k0_pay85 k0_pay83 k0_pay84; pointwise; rw [mask, sel, left, sel]; rfl

theorem pay89_apply (c s : FVec Ideal S1024x128 .f32) (w : Vec Ideal S1024x128 .f32) (x : Vec Ideal S1024x128 .bf16) (r : Fin 1024) (l : Fin 128) :
    k0_pay89 c s (k0_pay79 k0_pay77 k0_pay78) (k0_pay88 (k0_pay80 (iota .tc S1024x128 32 [1] iota_S1024x128_d1_w32)) w) x (ix2 r l) = turn c s x r l * weight w 74 r l := by
  rw [← weight_eq w 74 (by decide)]
  unfold k0_pay89 k0_pay88; pointwise; rw [mask, sel, left, sel]; rfl

theorem pay93_apply (c s : FVec Ideal S1024x128 .f32) (w : Vec Ideal S1024x128 .f32) (x : Vec Ideal S1024x128 .bf16) (r : Fin 1024) (l : Fin 128) :
    k0_pay93 c s (k0_pay79 k0_pay77 k0_pay78) (k0_pay80 (iota .tc S1024x128 32 [1] iota_S1024x128_d1_w32)) w (k0_pay92 w) x (ix2 r l) = turn c s x r l * weight w 76 r l := by
  rw [← weight_eq w 76 (by decide)]
  unfold k0_pay93 k0_pay92; pointwise; rw [mask, sel, left, sel]; rfl

theorem pay97_apply (c s : FVec Ideal S1024x128 .f32) (w : Vec Ideal S1024x128 .f32) (x : Vec Ideal S1024x128 .bf16) (r : Fin 1024) (l : Fin 128) :
    k0_pay97 c s (k0_pay79 k0_pay77 k0_pay78) (k0_pay80 (iota .tc S1024x128 32 [1] iota_S1024x128_d1_w32)) w x (ix2 r l) = turn c s x r l * weight w 78 r l := by
  rw [← weight_eq w 78 (by decide)]
  unfold k0_pay97; pointwise; rw [mask, sel, left, sel]; rfl

theorem pay98_apply (c s : FVec Ideal S1024x128 .f32) (w : Vec Ideal S1024x128 .f32) (r : Fin 1024) (l : Fin 128) :
    k0_pay98 c s (k0_pay79 k0_pay77 k0_pay78) (k0_pay80 (iota .tc S1024x128 32 [1] iota_S1024x128_d1_w32)) w (ix2 r l) = if l.val < 64 then turn c s w r l else Ideal.ofBits .f32 0x00000000#32 := by
  unfold k0_pay98; pointwise; rw [mask, sel, left, sel]; rfl
theorem pay99_apply (c s : FVec Ideal S1024x128 .f32) (w : Vec Ideal S1024x128 .f32) (r : Fin 1024) (l : Fin 128) :
    k0_pay99 c s (k0_pay79 k0_pay77 k0_pay78) (k0_pay80 (iota .tc S1024x128 32 [1] iota_S1024x128_d1_w32)) w (ix2 r l) = if l.val < 64 then turn c s w r l else Ideal.ofBits .f32 0x00000000#32 := by
  rw [← pay98_apply]; unfold k0_pay99; pointwise
theorem pay1_apply (v : FVec Ideal S1024x128 .f32) (r : Fin 1024) (l : Fin 128) :
    k0_pay1 v (ix2 r l) = v (ix2 r ⟨(l.val + 128 - 64) % 128, by omega⟩) := by
  unfold k0_pay1; pointwise

/-- The weights taken from the side projection's block. -/
theorem weightB (c : Dev nD) (t : Fin cfg0.N) (o j : Nat) (hj : j = 72 + o / 64 ∧ o % 64 = 0 ∧ j + 1 < 128) (r : Fin 1024) (l : Fin 128) :
    weight (iblk m c 4 t) j r l
      = FloatOps.absf (F := Ideal) (φ := .f32) (side (m ((c : Thread nD τ).loc main_arg1)) (row t r) (72 + (o + l.val) / 64)) * Ideal.ofBits .f32 0x3D3504F3#32 := by
  unfold weight
  rw [iblk4_apply]
  simp only []
  rw [show (j + l.val / 64) % 128 = 72 + (o + l.val) / 64 by omega]

theorem final7 (c : Dev nD) : (dats m 0 c).arrAt 7 cfg0.N = G7 (m ((c : Thread nD τ).loc main_arg0)) (m ((c : Thread nD τ).loc main_arg2)) (m ((c : Thread nD τ).loc main_arg3)) := by
  refine (dats m 0 c).arrAt_eq_of_covers 7 _ (by decide +kernel) fun t hf y => ?_
  obtain ⟨-, -, ⟨e, -, -, -, -⟩, -⟩ := idx_facts t
  blk_simp
  rw [after0_7]
  unfold outsAt0
  frame_out
  refine of_pieces (fun y => G7 (m ((c : Thread nD τ).loc main_arg0)) (m ((c : Thread nD τ).loc main_arg2)) (m ((c : Thread nD τ).loc main_arg3)) (((View.whole main_v6_0).slice (win0_7.rect t)).emb y)) _ y ?_ (View.cover_of_tiledBy _ ![1024, 128] (by sl_kernel_rfl) y)
  refine ⟨fun x => ?_, fun x => ?_, fun x => ?_, fun x => ?_, trivial⟩
  all_goals obtain ⟨r, l, rfl⟩ : ∃ (r : Fin 1024) (l : Fin 128), x = ix2 r l := ⟨x 0, x 1, eq_ix2 x⟩
  · refine Eq.trans ?_ (congrArg (G7 _ _ _) (show ix2 (row t r) ⟨384 + l.val, by omega⟩ = _ from Eq.symm (by blk_ext [e, row])))
    refine (pay94_apply _ _ _ r l).trans ?_
    refine congrArg (· * Ideal.ofBits .f32 0x3E38AA3B#32) (turn_rope _ _ (row t r) _ 384 (by decide) _ _ _ r l (fun l => ?_) (cosB m c t _ r) (sinB m c t _ r))
    rw [View.ld_unit]
    exact Eq.trans (by pointwise) (iblk0_apply m c t r ⟨384 + l.val, by omega⟩)
  · refine Eq.trans ?_ (congrArg (G7 _ _ _) (show ix2 (row t r) ⟨256 + l.val, by omega⟩ = _ from Eq.symm (by blk_ext [e, row])))
    refine (pay90_apply _ _ _ r l).trans ?_
    refine congrArg (· * Ideal.ofBits .f32 0x3E38AA3B#32) (turn_rope _ _ (row t r) _ 256 (by decide) _ _ _ r l (fun l => ?_) (cosB m c t _ r) (sinB m c t _ r))
    rw [View.ld_unit]
    exact Eq.trans (by pointwise) (iblk0_apply m c t r ⟨256 + l.val, by omega⟩)
  · refine Eq.trans ?_ (congrArg (G7 _ _ _) (show ix2 (row t r) ⟨128 + l.val, by omega⟩ = _ from Eq.symm (by blk_ext [e, row])))
    refine (pay86_apply _ _ _ r l).trans ?_
    refine congrArg (· * Ideal.ofBits .f32 0x3E38AA3B#32) (turn_rope _ _ (row t r) _ 128 (by decide) _ _ _ r l (fun l => ?_) (cosB m c t _ r) (sinB m c t _ r))
    rw [View.ld_unit]
    exact Eq.trans (by pointwise) (iblk0_apply m c t r ⟨128 + l.val, by omega⟩)
  · refine Eq.trans ?_ (congrArg (G7 _ _ _) (show ix2 (row t r) ⟨0 + l.val, by omega⟩ = _ from Eq.symm (by blk_ext [e, row])))
    refine (pay81_apply _ _ _ r l).trans ?_
    refine congrArg (· * Ideal.ofBits .f32 0x3E38AA3B#32) (turn_rope _ _ (row t r) _ 0 (by decide) _ _ _ r l (fun l => ?_) (cosB m c t _ r) (sinB m c t _ r))
    rw [View.ld_unit]
    exact Eq.trans (by pointwise) (iblk0_apply m c t r ⟨0 + l.val, by omega⟩)

theorem final8 (c : Dev nD) : (dats m 0 c).arrAt 8 cfg0.N = G8 (m ((c : Thread nD τ).loc main_arg0)) (m ((c : Thread nD τ).loc main_arg2)) (m ((c : Thread nD τ).loc main_arg3)) := by
  refine (dats m 0 c).arrAt_eq_of_covers 8 _ (by decide +kernel) fun t hf y => ?_
  obtain ⟨-, -, ⟨-, e, -, -, -⟩, -⟩ := idx_facts t
  blk_simp
  rw [after0_8]
  unfold outsAt0
  frame_out
  refine of_pieces (fun y => G8 (m ((c : Thread nD τ).loc main_arg0)) (m ((c : Thread nD τ).loc main_arg2)) (m ((c : Thread nD τ).loc main_arg3)) (((View.whole main_v6_1).slice (win0_8.rect t)).emb y)) _ y ?_ (View.cover_of_tiledBy _ ![1024, 128] (by sl_kernel_rfl) y)
  refine ⟨fun x => ?_, fun x => ?_, fun x => ?_, fun x => ?_, trivial⟩
  all_goals obtain ⟨r, l, rfl⟩ : ∃ (r : Fin 1024) (l : Fin 128), x = ix2 r l := ⟨x 0, x 1, eq_ix2 x⟩
  · refine Eq.trans ?_ (congrArg (G8 _ _ _) (show ix2 (row t r) ⟨384 + l.val, by omega⟩ = _ from Eq.symm (by blk_ext [e, row])))
    refine (pay96_apply _ _ _ r l).trans ?_
    refine turn_rope _ _ (row t r) _ 384 (by decide) _ _ _ r l (fun l => ?_) (cosB m c t _ r) (sinB m c t _ r)
    rw [View.ld_unit]
    exact Eq.trans (by pointwise) (iblk1_apply m c t r ⟨384 + l.val, by omega⟩)
  · refine Eq.trans ?_ (congrArg (G8 _ _ _) (show ix2 (row t r) ⟨256 + l.val, by omega⟩ = _ from Eq.symm (by blk_ext [e, row])))
    refine (pay91_apply _ _ _ r l).trans ?_
    refine turn_rope _ _ (row t r) _ 256 (by decide) _ _ _ r l (fun l => ?_) (cosB m c t _ r) (sinB m c t _ r)
    rw [View.ld_unit]
    exact Eq.trans (by pointwise) (iblk1_apply m c t r ⟨256 + l.val, by omega⟩)
  · refine Eq.trans ?_ (congrArg (G8 _ _ _) (show ix2 (row t r) ⟨128 + l.val, by omega⟩ = _ from Eq.symm (by blk_ext [e, row])))
    refine (pay87_apply _ _ _ r l).trans ?_
    refine turn_rope _ _ (row t r) _ 128 (by decide) _ _ _ r l (fun l => ?_) (cosB m c t _ r) (sinB m c t _ r)
    rw [View.ld_unit]
    exact Eq.trans (by pointwise) (iblk1_apply m c t r ⟨128 + l.val, by omega⟩)
  · refine Eq.trans ?_ (congrArg (G8 _ _ _) (show ix2 (row t r) ⟨0 + l.val, by omega⟩ = _ from Eq.symm (by blk_ext [e, row])))
    refine (pay82_apply _ _ _ r l).trans ?_
    refine turn_rope _ _ (row t r) _ 0 (by decide) _ _ _ r l (fun l => ?_) (cosB m c t _ r) (sinB m c t _ r)
    rw [View.ld_unit]
    exact Eq.trans (by pointwise) (iblk1_apply m c t r ⟨0 + l.val, by omega⟩)

set_option maxHeartbeats 800000 in
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  obtain ⟨-, -, ⟨-, -, e, -, -⟩, -⟩ := idx_facts t
  blk_simp
  rw [after0_9]
  unfold outsAt0
  frame_out
  refine of_pieces (fun y => G9 (m ((c : Thread nD τ).loc main_arg0)) (m ((c : Thread nD τ).loc main_arg1)) (m ((c : Thread nD τ).loc main_arg2)) (m ((c : Thread nD τ).loc main_arg3)) (((View.whole main_v6_2).slice (win0_9.rect t)).emb y)) _ y ?_ (View.cover_of_tiledBy _ ![1024, 128] (by sl_kernel_rfl) y)
  refine ⟨fun x => ?_, fun x => ?_, fun x => ?_, fun x => ?_, trivial⟩
  all_goals obtain ⟨r, l, rfl⟩ : ∃ (r : Fin 1024) (l : Fin 128), x = ix2 r l := ⟨x 0, x 1, eq_ix2 x⟩
  · refine Eq.trans ?_ (congrArg (G9 _ _ _ _) (show ix2 (row t r) ⟨384 + l.val, by omega⟩ = _ from Eq.symm (by blk_ext [e, row])))
    refine (pay97_apply _ _ _ _ r l).trans ?_
    refine congr (congrArg HMul.hMul (turn_rope _ _ (row t r) _ 384 (by decide) _ _ _ r l (fun l => ?_) (cosB m c t _ r) (sinB m c t _ r))) (weightB m c t 384 78 (by decide) r l)
    rw [View.ld_unit]
    exact Eq.trans (by pointwise) (iblk2_apply m c t r ⟨384 + l.val, by omega⟩)
  · refine Eq.trans ?_ (congrArg (G9 _ _ _ _) (show ix2 (row t r) ⟨256 + l.val, by omega⟩ = _ from Eq.symm (by blk_ext [e, row])))
    refine (pay93_apply _ _ _ _ r l).trans ?_
    refine congr (congrArg HMul.hMul (turn_rope _ _ (row t r) _ 256 (by decide) _ _ _ r l (fun l => ?_) (cosB m c t _ r) (sinB m c t _ r))) (weightB m c t 256 76 (by decide) r l)
    rw [View.ld_unit]
    exact Eq.trans (by pointwise) (iblk2_apply m c t r ⟨256 + l.val, by omega⟩)
  · refine Eq.trans ?_ (congrArg (G9 _ _ _ _) (show ix2 (row t r) ⟨128 + l.val, by omega⟩ = _ from Eq.symm (by blk_ext [e, row])))
    refine (pay89_apply _ _ _ _ r l).trans ?_
    refine congr (congrArg HMul.hMul (turn_rope _ _ (row t r) _ 128 (by decide) _ _ _ r l (fun l => ?_) (cosB m c t _ r) (sinB m c t _ r))) (weightB m c t 128 74 (by decide) r l)
    rw [View.ld_unit]
    exact Eq.trans (by pointwise) (iblk2_apply m c t r ⟨128 + l.val, by omega⟩)
  · refine Eq.trans ?_ (congrArg (G9 _ _ _ _) (show ix2 (row t r) ⟨0 + l.val, by omega⟩ = _ from Eq.symm (by blk_ext [e, row])))
    refine (pay85_apply _ _ _ _ r l).trans ?_
    refine congr (congrArg HMul.hMul (turn_rope _ _ (row t r) _ 0 (by decide) _ _ _ r l (fun l => ?_) (cosB m c t _ r) (sinB m c t _ r))) (weightB m c t 0 72 (by decide) r l)
    rw [View.ld_unit]
    exact Eq.trans (by pointwise) (iblk2_apply m c t r ⟨0 + l.val, by omega⟩)

theorem final10 (c : Dev nD) : (dats m 0 c).arrAt 10 cfg0.N = G10 (m ((c : Thread nD τ).loc main_arg1)) (m ((c : Thread nD τ).loc main_arg2)) (m ((c : Thread nD τ).loc main_arg3)) := by
  refine (dats m 0 c).arrAt_eq_of_covers 10 _ (by decide +kernel) fun t hf y => ?_
  obtain ⟨-, -, ⟨-, -, -, e, -⟩, -⟩ := idx_facts t
  blk_simp
  rw [after0_10]
  unfold outsAt0
  frame_out
  refine of_pieces (fun y => G10 (m ((c : Thread nD τ).loc main_arg1)) (m ((c : Thread nD τ).loc main_arg2)) (m ((c : Thread nD τ).loc main_arg3)) (((View.whole main_v6_3).slice (win0_10.rect t)).emb y)) _ y ?_ (View.cover_of_tiledBy _ ![1024, 128] (by sl_kernel_rfl) y)
  refine ⟨fun x => ?_, fun x => ?_, trivial⟩
  all_goals obtain ⟨r, l, rfl⟩ : ∃ (r : Fin 1024) (l : Fin 128), x = ix2 r l := ⟨x 0, x 1, eq_ix2 x⟩
  · refine Eq.trans ?_ (congrArg (G10 _ _ _) (show ix2 (row t r) ⟨128 + l.val, by omega⟩ = _ from Eq.symm (by blk_ext [e, row])))
    refine (pay1_apply _ r l).trans ((pay98_apply _ _ _ r _).trans ?_)
    show _ = if 128 + l.val < 64 then _ else if 128 + l.val < 192 then _ else rope _ _ (row t r) _ (128 + l.val - 192)
    simp only []
    by_cases h : l.val < 64
    · rw [if_neg (by omega), if_neg (by omega), if_pos (by omega)]
    · rw [if_pos (by omega), if_neg (by omega), if_neg (by omega), show 128 + l.val - 192 = 0 + (l.val + 128 - 64) % 128 by omega]
      exact turn_rope _ _ (row t r) _ 0 (by decide) _ _ _ r _ (fun l => (iblk4_apply m c t r l).trans (congrArg (side _ (row t r)) (Nat.zero_add l.val).symm)) (cosB m c t _ r) (sinB m c t _ r)
  · refine Eq.trans ?_ (congrArg (G10 _ _ _) (show ix2 (row t r) ⟨l.val, by omega⟩ = _ from Eq.symm (by blk_ext [e, row])))
    refine (pay99_apply _ _ _ r l).trans ?_
    show _ = if l.val < 64 then rope _ _ (row t r) _ l.val else if l.val < 192 then _ else _
    by_cases h : l.val < 64
    · rw [if_pos h, if_pos h]
      refine Eq.trans ?_ (congrArg (rope _ _ (row t r) _) (Nat.zero_add l.val))
      exact turn_rope _ _ (row t r) _ 0 (by decide) _ _ _ r l (fun l => (iblk4_apply m c t r l).trans (congrArg (side _ (row t r)) (Nat.zero_add l.val).symm)) (cosB m c t _ r) (sinB m c t _ r)
    · rw [if_neg h, if_neg h, if_pos (by omega)]

end Cert.Proof.Prep

end
-- ==== Proof.PrepStrips.lean ====
module

public import proofs.«01_k».proof.Defs
public import proofs.«01_k».proof.Proof.Gen.PrepIdeal.Value
public import proofs.«01_k».proof.Proof.PrepBlocks
public import Idealize.ShloMosaic.Lib.Pointwise
public import Idealize.ShloMosaic.Lib.Pipeline.ValueKit
public import Idealize.ShloMosaic.Lib.Pipeline.ReadBack
public import Idealize.ShloMosaic.Lib.Quiescent

/-! # The sparse attention's values, turned: sixty-four strips of a point's block -/

@[expose] public section

set_option maxRecDepth 16384

noncomputable section

namespace Cert.Proof.Prep

open Idealize.ShloMosaic Idealize.ShloMosaic.TcCoe Idealize.SL.Sem
open Idealize.ShloMosaic.Pipeline (Dat)
open Cert.PrepIdeal Cert.PrepIdeal.Gen

variable (m : (ℓ : Loc nD τ sig) → Buf (Elt Ideal) ℓ) (ρ : Dev nD → PrngReg)

theorem val0_apply (v : Vec Ideal S256x512 .bf16) (hs) (hc) (u : Fin 1) (j : Fin 64) (k : Fin 256) :
    shapeCast S1x64x256 (extractStridedSlice S64x256 ![0, 0] (k0_pay3 v) hs) hc (ix3 u j k) = v (ix2 k ⟨0 + j.val, by omega⟩) := by
  unfold k0_pay3; pointwise
theorem val1_apply (v : Vec Ideal S256x512 .bf16) (hs) (hc) (u : Fin 1) (j : Fin 64) (k : Fin 256) :
    shapeCast S1x64x256 (extractStridedSlice S64x256 ![64, 0] (k0_pay3 v) hs) hc (ix3 u j k) = v (ix2 k ⟨64 + j.val, by omega⟩) := by
  unfold k0_pay3; pointwise
theorem val2_apply (v : Vec Ideal S256x512 .bf16) (hs) (hc) (u : Fin 1) (j : Fin 64) (k : Fin 256) :
    shapeCast S1x64x256 (extractStridedSlice S64x256 ![128, 0] (k0_pay3 v) hs) hc (ix3 u j k) = v (ix2 k ⟨128 + j.val, by omega⟩) := by
  unfold k0_pay3; pointwise
theorem val3_apply (v : Vec Ideal S256x512 .bf16) (hs) (hc) (u : Fin 1) (j : Fin 64) (k : Fin 256) :
    shapeCast S1x64x256 (extractStridedSlice S64x256 ![192, 0] (k0_pay3 v) hs) hc (ix3 u j k) = v (ix2 k ⟨192 + j.val, by omega⟩) := by
  unfold k0_pay3; pointwise
theorem val4_apply (v : Vec Ideal S256x512 .bf16) (hs) (hc) (u : Fin 1) (j : Fin 64) (k : Fin 256) :
    shapeCast S1x64x256 (extractStridedSlice S64x256 ![256, 0] (k0_pay3 v) hs) hc (ix3 u j k) = v (ix2 k ⟨256 + j.val, by omega⟩) := by
  unfold k0_pay3; pointwise
theorem val5_apply (v : Vec Ideal S256x512 .bf16) (hs) (hc) (u : Fin 1) (j : Fin 64) (k : Fin 256) :
    shapeCast S1x64x256 (extractStridedSlice S64x256 ![320, 0] (k0_pay3 v) hs) hc (ix3 u j k) = v (ix2 k ⟨320 + j.val, by omega⟩) := by
  unfold k0_pay3; pointwise
theorem val6_apply (v : Vec Ideal S256x512 .bf16) (hs) (hc) (u : Fin 1) (j : Fin 64) (k : Fin 256) :
    shapeCast S1x64x256 (extractStridedSlice S64x256 ![384, 0] (k0_pay3 v) hs) hc (ix3 u j k) = v (ix2 k ⟨384 + j.val, by omega⟩) := by
  unfold k0_pay3; pointwise
theorem val7_apply (v : Vec Ideal S256x512 .bf16) (hs) (hc) (u : Fin 1) (j : Fin 64) (k : Fin 256) :
    shapeCast S1x64x256 (extractStridedSlice S64x256 ![448, 0] (k0_pay3 v) hs) hc (ix3 u j k) = v (ix2 k ⟨448 + j.val, by omega⟩) := by
  unfold k0_pay3; pointwise
theorem one_apply (u : Fin 1) (j : Fin 16) (k : Fin 256) : shapeCast S1x16x256 (k0_pay2 (F := Ideal)) shapeCasts_S16x256_S1x16x256 (ix3 u j k) = Ideal.ofBits .bf16 0x3F80#16 := by
  unfold k0_pay2; pointwise

/-- A strip of the values' block is columns of the projection. -/
theorem stripB (c : Dev nD) (t : Fin cfg0.N) (a o : Nat) (ha : a < 4) (ho : o < 640 ∧ o % 80 = 0) (r : Fin 1024) (q : Fin 512) (j : Fin 64) (k : Fin 256)
    (hr : r.val = 256 * a + k.val) (hq : q.val = 64 * (o / 80) + j.val) (h4 : t.val * 4 + a < 128) (ho' : o + j.val < 640) :
    iblk m c 3 t (ix2 r q) = G11 (m ((c : Thread nD τ).loc main_arg0)) (ix3 ⟨t.val * 4 + a, h4⟩ ⟨o + j.val, ho'⟩ k) := by
  rw [iblk3_apply]
  show _ = if (o + j.val) % 80 < 64 then col _ ⟨(t.val * 4 + a) * 256 + k.val, _⟩ (4096 + (o + j.val) / 80 * 64 + (o + j.val) % 80) else _
  rw [if_pos (by omega), show 4096 + (o + j.val) / 80 * 64 + (o + j.val) % 80 = 4096 + q.val by omega]
  congr 1
  ext
  simp only [row]
  omega

theorem onesB (c : Dev nD) (t : Fin cfg0.N) (a o : Nat) (ho : o < 640 ∧ o % 80 = 64) (j : Fin 16) (k : Fin 256)
    (h4 : t.val * 4 + a < 128) (ho' : o + j.val < 640) :
    Ideal.ofBits .bf16 0x3F80#16 = G11 (m ((c : Thread nD τ).loc main_arg0)) (ix3 ⟨t.val * 4 + a, h4⟩ ⟨o + j.val, ho'⟩ k) := by
  show _ = if (o + j.val) % 80 < 64 then _ else _
  rw [if_neg (by omega)]

/-- Where a strip of point `t`'s block lies in the array. -/
theorem emb11 (t : Fin cfg0.N) (a o n : Nat) (inb) (u : Fin 1) (j : Fin n) (k : Fin 256) (h4 : t.val * 4 + a < 128) (ho : o + j.val < 640) :
    ((View.whole main_v6_4).slice (win0_11.rect t)).emb (Rect.emb (s := S4x640x256) (Rect.unit ![a, o, 0] ![1, n, 256] inb) (ix3 u j k))
      = ix3 ⟨t.val * 4 + a, h4⟩ ⟨o + j.val, ho⟩ k := by
  obtain ⟨-, -, ⟨-, -, -, -, e⟩, ht⟩ := idx_facts t
  blk_ext [e]

set_option maxHeartbeats 8000000 in
theorem final11 (c : Dev nD) : (dats m 0 c).arrAt 11 cfg0.N = G11 (m ((c : Thread nD τ).loc main_arg0)) := by
  refine (dats m 0 c).arrAt_eq_of_covers 11 _ (by decide +kernel) fun t hf y => ?_
  obtain ⟨-, -, ⟨-, -, -, -, e⟩, ht⟩ := idx_facts t
  blk_simp
  rw [after0_11]
  unfold outsAt0
  frame_out
  refine of_pieces (fun y => G11 (m ((c : Thread nD τ).loc main_arg0)) (((View.whole main_v6_4).slice (win0_11.rect t)).emb y)) _ y ?_ (View.cover_of_tiledBy _ ![1, 16, 256] (by sl_kernel_rfl) y)
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · obtain ⟨u, j, k, rfl⟩ : ∃ (u : Fin 1) (j : Fin 16) (k : Fin 256), x = ix3 u j k := ⟨x 0, x 1, x 2, eq_ix3 x⟩
    refine Eq.trans ?_ (congrArg (G11 _) (emb11 t 3 624 16 (by decide) u j k (by omega) (by omega)).symm)
    exact (one_apply u j k).trans (onesB m c t 3 624 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 3 560 64 (by decide) u j k (by omega) (by omega)).symm)
    refine (val7_apply _ slices_S512x256_o448_0_S64x256 shapeCasts_S64x256_S1x64x256 u j k).trans (Eq.trans ?_ (stripB m c t 3 560 (by decide) (by decide) ⟨768 + k.val, by omega⟩ ⟨448 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 3 544 16 (by decide) u j k (by omega) (by omega)).symm)
    exact (one_apply u j k).trans (onesB m c t 3 544 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 3 480 64 (by decide) u j k (by omega) (by omega)).symm)
    refine (val6_apply _ slices_S512x256_o384_0_S64x256 shapeCasts_S64x256_S1x64x256 u j k).trans (Eq.trans ?_ (stripB m c t 3 480 (by decide) (by decide) ⟨768 + k.val, by omega⟩ ⟨384 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 3 464 16 (by decide) u j k (by omega) (by omega)).symm)
    exact (one_apply u j k).trans (onesB m c t 3 464 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 3 400 64 (by decide) u j k (by omega) (by omega)).symm)
    refine (val5_apply _ slices_S512x256_o320_0_S64x256 shapeCasts_S64x256_S1x64x256 u j k).trans (Eq.trans ?_ (stripB m c t 3 400 (by decide) (by decide) ⟨768 + k.val, by omega⟩ ⟨320 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 3 384 16 (by decide) u j k (by omega) (by omega)).symm)
    exact (one_apply u j k).trans (onesB m c t 3 384 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 3 320 64 (by decide) u j k (by omega) (by omega)).symm)
    refine (val4_apply _ slices_S512x256_o256_0_S64x256 shapeCasts_S64x256_S1x64x256 u j k).trans (Eq.trans ?_ (stripB m c t 3 320 (by decide) (by decide) ⟨768 + k.val, by omega⟩ ⟨256 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 3 304 16 (by decide) u j k (by omega) (by omega)).symm)
    exact (one_apply u j k).trans (onesB m c t 3 304 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 3 240 64 (by decide) u j k (by omega) (by omega)).symm)
    refine (val3_apply _ slices_S512x256_o192_0_S64x256 shapeCasts_S64x256_S1x64x256 u j k).trans (Eq.trans ?_ (stripB m c t 3 240 (by decide) (by decide) ⟨768 + k.val, by omega⟩ ⟨192 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 3 224 16 (by decide) u j k (by omega) (by omega)).symm)
    exact (one_apply u j k).trans (onesB m c t 3 224 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 3 160 64 (by decide) u j k (by omega) (by omega)).symm)
    refine (val2_apply _ slices_S512x256_o128_0_S64x256 shapeCasts_S64x256_S1x64x256 u j k).trans (Eq.trans ?_ (stripB m c t 3 160 (by decide) (by decide) ⟨768 + k.val, by omega⟩ ⟨128 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 3 144 16 (by decide) u j k (by omega) (by omega)).symm)
    exact (one_apply u j k).trans (onesB m c t 3 144 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 3 80 64 (by decide) u j k (by omega) (by omega)).symm)
    refine (val1_apply _ slices_S512x256_o64_0_S64x256 shapeCasts_S64x256_S1x64x256 u j k).trans (Eq.trans ?_ (stripB m c t 3 80 (by decide) (by decide) ⟨768 + k.val, by omega⟩ ⟨64 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 3 64 16 (by decide) u j k (by omega) (by omega)).symm)
    exact (one_apply u j k).trans (onesB m c t 3 64 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 3 0 64 (by decide) u j k (by omega) (by omega)).symm)
    refine (val0_apply _ slices_S512x256_o0_0_S64x256 shapeCasts_S64x256_S1x64x256 u j k).trans (Eq.trans ?_ (stripB m c t 3 0 (by decide) (by decide) ⟨768 + k.val, by omega⟩ ⟨0 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 2 624 16 (by decide) u j k (by omega) (by omega)).symm)
    exact (one_apply u j k).trans (onesB m c t 2 624 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 2 560 64 (by decide) u j k (by omega) (by omega)).symm)
    refine (val7_apply _ slices_S512x256_o448_0_S64x256 shapeCasts_S64x256_S1x64x256 u j k).trans (Eq.trans ?_ (stripB m c t 2 560 (by decide) (by decide) ⟨512 + k.val, by omega⟩ ⟨448 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 2 544 16 (by decide) u j k (by omega) (by omega)).symm)
    exact (one_apply u j k).trans (onesB m c t 2 544 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 2 480 64 (by decide) u j k (by omega) (by omega)).symm)
    refine (val6_apply _ slices_S512x256_o384_0_S64x256 shapeCasts_S64x256_S1x64x256 u j k).trans (Eq.trans ?_ (stripB m c t 2 480 (by decide) (by decide) ⟨512 + k.val, by omega⟩ ⟨384 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 2 464 16 (by decide) u j k (by omega) (by omega)).symm)
    exact (one_apply u j k).trans (onesB m c t 2 464 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 2 400 64 (by decide) u j k (by omega) (by omega)).symm)
    refine (val5_apply _ slices_S512x256_o320_0_S64x256 shapeCasts_S64x256_S1x64x256 u j k).trans (Eq.trans ?_ (stripB m c t 2 400 (by decide) (by decide) ⟨512 + k.val, by omega⟩ ⟨320 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 2 384 16 (by decide) u j k (by omega) (by omega)).symm)
    exact (one_apply u j k).trans (onesB m c t 2 384 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 2 320 64 (by decide) u j k (by omega) (by omega)).symm)
    refine (val4_apply _ slices_S512x256_o256_0_S64x256 shapeCasts_S64x256_S1x64x256 u j k).trans (Eq.trans ?_ (stripB m c t 2 320 (by decide) (by decide) ⟨512 + k.val, by omega⟩ ⟨256 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 2 304 16 (by decide) u j k (by omega) (by omega)).symm)
    exact (one_apply u j k).trans (onesB m c t 2 304 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 2 240 64 (by decide) u j k (by omega) (by omega)).symm)
    refine (val3_apply _ slices_S512x256_o192_0_S64x256 shapeCasts_S64x256_S1x64x256 u j k).trans (Eq.trans ?_ (stripB m c t 2 240 (by decide) (by decide) ⟨512 + k.val, by omega⟩ ⟨192 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 2 224 16 (by decide) u j k (by omega) (by omega)).symm)
    exact (one_apply u j k).trans (onesB m c t 2 224 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 2 160 64 (by decide) u j k (by omega) (by omega)).symm)
    refine (val2_apply _ slices_S512x256_o128_0_S64x256 shapeCasts_S64x256_S1x64x256 u j k).trans (Eq.trans ?_ (stripB m c t 2 160 (by decide) (by decide) ⟨512 + k.val, by omega⟩ ⟨128 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 2 144 16 (by decide) u j k (by omega) (by omega)).symm)
    exact (one_apply u j k).trans (onesB m c t 2 144 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 2 80 64 (by decide) u j k (by omega) (by omega)).symm)
    refine (val1_apply _ slices_S512x256_o64_0_S64x256 shapeCasts_S64x256_S1x64x256 u j k).trans (Eq.trans ?_ (stripB m c t 2 80 (by decide) (by decide) ⟨512 + k.val, by omega⟩ ⟨64 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 2 64 16 (by decide) u j k (by omega) (by omega)).symm)
    exact (one_apply u j k).trans (onesB m c t 2 64 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 2 0 64 (by decide) u j k (by omega) (by omega)).symm)
    refine (val0_apply _ slices_S512x256_o0_0_S64x256 shapeCasts_S64x256_S1x64x256 u j k).trans (Eq.trans ?_ (stripB m c t 2 0 (by decide) (by decide) ⟨512 + k.val, by omega⟩ ⟨0 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 1 624 16 (by decide) u j k (by omega) (by omega)).symm)
    exact (one_apply u j k).trans (onesB m c t 1 624 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 1 560 64 (by decide) u j k (by omega) (by omega)).symm)
    refine (val7_apply _ slices_S512x256_o448_0_S64x256 shapeCasts_S64x256_S1x64x256 u j k).trans (Eq.trans ?_ (stripB m c t 1 560 (by decide) (by decide) ⟨256 + k.val, by omega⟩ ⟨448 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 1 544 16 (by decide) u j k (by omega) (by omega)).symm)
    exact (one_apply u j k).trans (onesB m c t 1 544 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 1 480 64 (by decide) u j k (by omega) (by omega)).symm)
    refine (val6_apply _ slices_S512x256_o384_0_S64x256 shapeCasts_S64x256_S1x64x256 u j k).trans (Eq.trans ?_ (stripB m c t 1 480 (by decide) (by decide) ⟨256 + k.val, by omega⟩ ⟨384 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 1 464 16 (by decide) u j k (by omega) (by omega)).symm)
    exact (one_apply u j k).trans (onesB m c t 1 464 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 1 400 64 (by decide) u j k (by omega) (by omega)).symm)
    refine (val5_apply _ slices_S512x256_o320_0_S64x256 shapeCasts_S64x256_S1x64x256 u j k).trans (Eq.trans ?_ (stripB m c t 1 400 (by decide) (by decide) ⟨256 + k.val, by omega⟩ ⟨320 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 1 384 16 (by decide) u j k (by omega) (by omega)).symm)
    exact (one_apply u j k).trans (onesB m c t 1 384 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 1 320 64 (by decide) u j k (by omega) (by omega)).symm)
    refine (val4_apply _ slices_S512x256_o256_0_S64x256 shapeCasts_S64x256_S1x64x256 u j k).trans (Eq.trans ?_ (stripB m c t 1 320 (by decide) (by decide) ⟨256 + k.val, by omega⟩ ⟨256 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 1 304 16 (by decide) u j k (by omega) (by omega)).symm)
    exact (one_apply u j k).trans (onesB m c t 1 304 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 1 240 64 (by decide) u j k (by omega) (by omega)).symm)
    refine (val3_apply _ slices_S512x256_o192_0_S64x256 shapeCasts_S64x256_S1x64x256 u j k).trans (Eq.trans ?_ (stripB m c t 1 240 (by decide) (by decide) ⟨256 + k.val, by omega⟩ ⟨192 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 1 224 16 (by decide) u j k (by omega) (by omega)).symm)
    exact (one_apply u j k).trans (onesB m c t 1 224 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 1 160 64 (by decide) u j k (by omega) (by omega)).symm)
    refine (val2_apply _ slices_S512x256_o128_0_S64x256 shapeCasts_S64x256_S1x64x256 u j k).trans (Eq.trans ?_ (stripB m c t 1 160 (by decide) (by decide) ⟨256 + k.val, by omega⟩ ⟨128 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 1 144 16 (by decide) u j k (by omega) (by omega)).symm)
    exact (one_apply u j k).trans (onesB m c t 1 144 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 1 80 64 (by decide) u j k (by omega) (by omega)).symm)
    refine (val1_apply _ slices_S512x256_o64_0_S64x256 shapeCasts_S64x256_S1x64x256 u j k).trans (Eq.trans ?_ (stripB m c t 1 80 (by decide) (by decide) ⟨256 + k.val, by omega⟩ ⟨64 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 1 64 16 (by decide) u j k (by omega) (by omega)).symm)
    exact (one_apply u j k).trans (onesB m c t 1 64 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 1 0 64 (by decide) u j k (by omega) (by omega)).symm)
    refine (val0_apply _ slices_S512x256_o0_0_S64x256 shapeCasts_S64x256_S1x64x256 u j k).trans (Eq.trans ?_ (stripB m c t 1 0 (by decide) (by decide) ⟨256 + k.val, by omega⟩ ⟨0 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 0 624 16 (by decide) u j k (by omega) (by omega)).symm)
    exact (one_apply u j k).trans (onesB m c t 0 624 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 0 560 64 (by decide) u j k (by omega) (by omega)).symm)
    refine (val7_apply _ slices_S512x256_o448_0_S64x256 shapeCasts_S64x256_S1x64x256 u j k).trans (Eq.trans ?_ (stripB m c t 0 560 (by decide) (by decide) ⟨0 + k.val, by omega⟩ ⟨448 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 0 544 16 (by decide) u j k (by omega) (by omega)).symm)
    exact (one_apply u j k).trans (onesB m c t 0 544 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 0 480 64 (by decide) u j k (by omega) (by omega)).symm)
    refine (val6_apply _ slices_S512x256_o384_0_S64x256 shapeCasts_S64x256_S1x64x256 u j k).trans (Eq.trans ?_ (stripB m c t 0 480 (by decide) (by decide) ⟨0 + k.val, by omega⟩ ⟨384 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 0 464 16 (by decide) u j k (by omega) (by omega)).symm)
    exact (one_apply u j k).trans (onesB m c t 0 464 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 0 400 64 (by decide) u j k (by omega) (by omega)).symm)
    refine (val5_apply _ slices_S512x256_o320_0_S64x256 shapeCasts_S64x256_S1x64x256 u j k).trans (Eq.trans ?_ (stripB m c t 0 400 (by decide) (by decide) ⟨0 + k.val, by omega⟩ ⟨320 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 0 384 16 (by decide) u j k (by omega) (by omega)).symm)
    exact (one_apply u j k).trans (onesB m c t 0 384 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 0 320 64 (by decide) u j k (by omega) (by omega)).symm)
    refine (val4_apply _ slices_S512x256_o256_0_S64x256 shapeCasts_S64x256_S1x64x256 u j k).trans (Eq.trans ?_ (stripB m c t 0 320 (by decide) (by decide) ⟨0 + k.val, by omega⟩ ⟨256 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 0 304 16 (by decide) u j k (by omega) (by omega)).symm)
    exact (one_apply u j k).trans (onesB m c t 0 304 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 0 240 64 (by decide) u j k (by omega) (by omega)).symm)
    refine (val3_apply _ slices_S512x256_o192_0_S64x256 shapeCasts_S64x256_S1x64x256 u j k).trans (Eq.trans ?_ (stripB m c t 0 240 (by decide) (by decide) ⟨0 + k.val, by omega⟩ ⟨192 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 0 224 16 (by decide) u j k (by omega) (by omega)).symm)
    exact (one_apply u j k).trans (onesB m c t 0 224 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 0 160 64 (by decide) u j k (by omega) (by omega)).symm)
    refine (val2_apply _ slices_S512x256_o128_0_S64x256 shapeCasts_S64x256_S1x64x256 u j k).trans (Eq.trans ?_ (stripB m c t 0 160 (by decide) (by decide) ⟨0 + k.val, by omega⟩ ⟨128 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 0 144 16 (by decide) u j k (by omega) (by omega)).symm)
    exact (one_apply u j k).trans (onesB m c t 0 144 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 0 80 64 (by decide) u j k (by omega) (by omega)).symm)
    refine (val1_apply _ slices_S512x256_o64_0_S64x256 shapeCasts_S64x256_S1x64x256 u j k).trans (Eq.trans ?_ (stripB m c t 0 80 (by decide) (by decide) ⟨0 + k.val, by omega⟩ ⟨64 + j.val, by omega⟩ j k rfl rfl _ _))
    rw [View.ld_unit]
    pointwise
  · obtain ⟨u, j, k, rfl⟩ : ∃ (u : Fin 1) (j : Fin 16) (k : Fin 256), x = ix3 u j k := ⟨x 0, x 1, x 2, eq_ix3 x⟩
    refine Eq.trans ?_ (congrArg (G11 _) (emb11 t 0 64 16 (by decide) u j k (by omega) (by omega)).symm)
    exact (one_apply u j k).trans (onesB m c t 0 64 (by decide) j k _ _)
  · obtain ⟨u, j, k, rfl⟩ : ∃ (u : Fin 1) (j : Fin 64) (k : Fin 256), x = ix3 u j k := ⟨x 0, x 1, x 2, eq_ix3 x⟩
    refine Eq.trans ?_ (congrArg (G11 _) (emb11 t 0 0 64 (by decide) u j k (by omega) (by omega)).symm)
    refine (val0_apply _ slices_S512x256_o0_0_S64x256 shapeCasts_S64x256_S1x64x256 u j k).trans (Eq.trans ?_ (stripB m c t 0 0 (by decide) (by decide) ⟨0 + k.val, by omega⟩ ⟨0 + j.val, by omega⟩ j k rfl rfl _ _))
    rw [View.ld_unit]
    pointwise

end Cert.Proof.Prep

end
-- ==== Proof.PrepRef.lean ====
module

public import proofs.«01_k».proof.Defs
public import proofs.«01_k».proof.Proof.Gen.PrepRefIdeal.Run
public import proofs.«01_k».proof.Proof.PrepBlocks
public import Idealize.ShloMosaic.Lib.Pointwise
public import Idealize.ShloMosaic.Lib.Pipeline.ValueKit
public import Idealize.ShloMosaic.Lib.Pipeline.ReadBack
public import Idealize.ShloMosaic.Lib.Quiescent

/-! # The sparse attention's arguments: the reference, read at an index -/

@[expose] public section

set_option maxRecDepth 16384

noncomputable section

namespace Cert.Proof.Prep

open Idealize.ShloMosaic Idealize.ShloMosaic.TcCoe Idealize.SL.Sem
open Idealize.ShloMosaic.Pipeline (Dat)
open Cert.PrepRefIdeal Cert.PrepRefIdeal.Gen

/-- The reference's rotation of eight heads, read at an index. -/
theorem rope_ref8 (x : FVec Ideal S32768x8x64 .f32) (cos sin : FVec Ideal S4x8192x32 .f32) (X : Nat → EReal) (R : Fin 32768) (h : Fin 8) (j : Fin 64)
    (hx : ∀ i : Fin 64, x (ix3 R h i) = X (h.val * 64 + i.val)) :
    (concatenate S32768x8x64 2 [⟨S32768x8x32, ((subf (mulf (extractStridedSlice S32768x8x32 ![0, 0, 0] x slices_S32768x8x64_S32768x8x32_0_0_0) (broadcastInDim S32768x8x32 ![0, 1, 2] bcast_S32768x1x32_S32768x8x32_0_1_2 (broadcastInDim S32768x1x32 ![0, 2] bcast_S32768x32_S32768x1x32_0_2 (shapeCast _ cos shapeCasts_S4x8192x32_S32768x32)))) (mulf (extractStridedSlice S32768x8x32 ![0, 0, 32] x slices_S32768x8x64_S32768x8x32_0_0_32) (broadcastInDim S32768x8x32 ![0, 1, 2] bcast_S32768x1x32_S32768x8x32_0_1_2 (broadcastInDim S32768x1x32 ![0, 2] bcast_S32768x32_S32768x1x32_0_2 (shapeCast _ sin shapeCasts_S4x8192x32_S32768x32))))) : (⟨S32768x8x32, .f32⟩ : BufTy).Contents (Elt Ideal))⟩, ⟨S32768x8x32, ((addf (mulf (extractStridedSlice S32768x8x32 ![0, 0, 32] x slices_S32768x8x64_S32768x8x32_0_0_32) (broadcastInDim S32768x8x32 ![0, 1, 2] bcast_S32768x1x32_S32768x8x32_0_1_2 (broadcastInDim S32768x1x32 ![0, 2] bcast_S32768x32_S32768x1x32_0_2 (shapeCast _ cos shapeCasts_S4x8192x32_S32768x32)))) (mulf (extractStridedSlice S32768x8x32 ![0, 0, 0] x slices_S32768x8x64_S32768x8x32_0_0_0) (broadcastInDim S32768x8x32 ![0, 1, 2] bcast_S32768x1x32_S32768x8x32_0_1_2 (broadcastInDim S32768x1x32 ![0, 2] bcast_S32768x32_S32768x1x32_0_2 (shapeCast _ sin shapeCasts_S4x8192x32_S32768x32))))) : (⟨S32768x8x32, .f32⟩ : BufTy).Contents (Elt Ideal))⟩] concatenates_S32768x8x32_S32768x8x32_S32768x8x64_d2 : FVec Ideal S32768x8x64 .f32) (ix3 R h j) = rope cos sin R X (h.val * 64 + j.val) := by
  have ht : ∀ (u : FVec Ideal S4x8192x32 .f32) (i : Fin 32) (n : Nat), n % 32 = i.val → tab u R n = u (ix3 ⟨R.val / 8192, by omega⟩ ⟨R.val % 8192, by omega⟩ i) := fun u i n e => by
    unfold tab; congr 2; exact Fin.ext e
  pointwise
  unfold rope
  by_cases h0 : j.val < 32
  · rw [dif_pos h0]
    refine Eq.trans ?_ (if_pos (by omega)).symm
    rw [ht cos ⟨j.val, h0⟩ _ (show _ = j.val by omega), ht sin ⟨j.val, h0⟩ _ (show _ = j.val by omega), mul_neg, ← sub_eq_add_neg,
      show h.val * 64 + j.val + 32 = h.val * 64 + (⟨32 + j.val, by omega⟩ : Fin 64).val from (show _ = h.val * 64 + (32 + j.val) by omega), ← hx, ← hx]
  · rw [dif_neg h0]
    refine Eq.trans ?_ (if_neg (by omega)).symm
    rw [ht cos ⟨j.val - 32, by omega⟩ _ (show _ = j.val - 32 by omega), ht sin ⟨j.val - 32, by omega⟩ _ (show _ = j.val - 32 by omega),
      show h.val * 64 + j.val - 32 = h.val * 64 + (⟨j.val - 32, by omega⟩ : Fin 64).val from (show _ = h.val * 64 + (j.val - 32) by omega),
      show X (h.val * 64 + j.val) = X (h.val * 64 + (⟨32 + (j.val - 32), by omega⟩ : Fin 64).val) from congrArg X (show _ = h.val * 64 + (32 + (j.val - 32)) by omega), ← hx, ← hx]

/-- The reference's rotation of one head, read at an index. -/
theorem rope_ref1 (x : FVec Ideal S32768x1x64 .f32) (cos sin : FVec Ideal S4x8192x32 .f32) (X : Nat → EReal) (R : Fin 32768) (h : Fin 1) (j : Fin 64)
    (hx : ∀ i : Fin 64, x (ix3 R h i) = X (h.val * 64 + i.val)) :
    (concatenate S32768x1x64 2 [⟨S32768x1x32, ((subf (mulf (extractStridedSlice S32768x1x32 ![0, 0, 0] x slices_S32768x1x64_S32768x1x32_0_0_0) (broadcastInDim S32768x1x32 ![0, 2] bcast_S32768x32_S32768x1x32_0_2 (shapeCast _ cos shapeCasts_S4x8192x32_S32768x32))) (mulf (extractStridedSlice S32768x1x32 ![0, 0, 32] x slices_S32768x1x64_S32768x1x32_0_0_32) (broadcastInDim S32768x1x32 ![0, 2] bcast_S32768x32_S32768x1x32_0_2 (shapeCast _ sin shapeCasts_S4x8192x32_S32768x32)))) : (⟨S32768x1x32, .f32⟩ : BufTy).Contents (Elt Ideal))⟩, ⟨S32768x1x32, ((addf (mulf (extractStridedSlice S32768x1x32 ![0, 0, 32] x slices_S32768x1x64_S32768x1x32_0_0_32) (broadcastInDim S32768x1x32 ![0, 2] bcast_S32768x32_S32768x1x32_0_2 (shapeCast _ cos shapeCasts_S4x8192x32_S32768x32))) (mulf (extractStridedSlice S32768x1x32 ![0, 0, 0] x slices_S32768x1x64_S32768x1x32_0_0_0) (broadcastInDim S32768x1x32 ![0, 2] bcast_S32768x32_S32768x1x32_0_2 (shapeCast _ sin shapeCasts_S4x8192x32_S32768x32)))) : (⟨S32768x1x32, .f32⟩ : BufTy).Contents (Elt Ideal))⟩] concatenates_S32768x1x32_S32768x1x32_S32768x1x64_d2 : FVec Ideal S32768x1x64 .f32) (ix3 R h j) = rope cos sin R X (h.val * 64 + j.val) := by
  have h1 : ∀ i : Fin 64, x (ix3 R (0 : Fin 1) i) = X i.val := fun i => by
    have h2 : h = 0 := Subsingleton.elim _ _
    subst h2
    exact (hx i).trans (congrArg X (show 0 * 64 + i.val = i.val by omega))
  have ht : ∀ (u : FVec Ideal S4x8192x32 .f32) (i : Fin 32) (n : Nat), n % 32 = i.val → tab u R n = u (ix3 ⟨R.val / 8192, by omega⟩ ⟨R.val % 8192, by omega⟩ i) := fun u i n e => by
    unfold tab; congr 2; exact Fin.ext e
  pointwise
  unfold rope
  by_cases h0 : j.val < 32
  · rw [dif_pos h0]
    refine Eq.trans ?_ (if_pos (by omega)).symm
    rw [ht cos ⟨j.val, h0⟩ _ (show _ = j.val by omega), ht sin ⟨j.val, h0⟩ _ (show _ = j.val by omega), mul_neg, ← sub_eq_add_neg,
      show j.val + 32 = (⟨32 + j.val, by omega⟩ : Fin 64).val from (show _ = 32 + j.val by omega), ← h1, ← h1]
  · rw [dif_neg h0]
    refine Eq.trans ?_ (if_neg (by omega)).symm
    rw [ht cos ⟨j.val - 32, by omega⟩ _ (show _ = j.val - 32 by omega), ht sin ⟨j.val - 32, by omega⟩ _ (show _ = j.val - 32 by omega),
      show X (j.val - 32) = X (⟨j.val - 32, by omega⟩ : Fin 64).val from rfl,
      show X j.val = X (⟨32 + (j.val - 32), by omega⟩ : Fin 64).val from congrArg X (show _ = 32 + (j.val - 32) by omega), ← h1, ← h1]

theorem heads3072_apply (p : FVec Ideal S32768x8192 .bf16) (R : Fin 32768) (h : Fin 8) (j : Fin 64) :
    ((extf .f32 (shapeCast _ (extractStridedSlice S32768x512 ![0, 3072] p slices_S32768x8192_S32768x512_0_3072) shapeCasts_S32768x512_S32768x8x64) bitsLt_bf16_f32) : FVec Ideal S32768x8x64 .f32) (ix3 R h j) = col p R (3072 + (h.val * 64 + j.val)) := by
  have hc : col p R (3072 + (h.val * 64 + j.val)) = p (ix2 R ⟨3072 + (h.val * 64 + j.val), by omega⟩) := by
    unfold col; congr 2; exact Fin.ext (Nat.mod_eq_of_lt (by omega))
  rw [hc]
  pointwise

theorem heads3584_apply (p : FVec Ideal S32768x8192 .bf16) (R : Fin 32768) (h : Fin 8) (j : Fin 64) :
    ((extf .f32 (shapeCast _ (extractStridedSlice S32768x512 ![0, 3584] p slices_S32768x8192_S32768x512_0_3584) shapeCasts_S32768x512_S32768x8x64) bitsLt_bf16_f32) : FVec Ideal S32768x8x64 .f32) (ix3 R h j) = col p R (3584 + (h.val * 64 + j.val)) := by
  have hc : col p R (3584 + (h.val * 64 + j.val)) = p (ix2 R ⟨3584 + (h.val * 64 + j.val), by omega⟩) := by
    unfold col; congr 2; exact Fin.ext (Nat.mod_eq_of_lt (by omega))
  rw [hc]
  pointwise

theorem heads4608_apply (p : FVec Ideal S32768x8192 .bf16) (R : Fin 32768) (h : Fin 8) (j : Fin 64) :
    ((extf .f32 (shapeCast _ (extractStridedSlice S32768x512 ![0, 4608] p slices_S32768x8192_S32768x512_0_4608) shapeCasts_S32768x512_S32768x8x64) bitsLt_bf16_f32) : FVec Ideal S32768x8x64 .f32) (ix3 R h j) = col p R (4608 + (h.val * 64 + j.val)) := by
  have hc : col p R (4608 + (h.val * 64 + j.val)) = p (ix2 R ⟨4608 + (h.val * 64 + j.val), by omega⟩) := by
    unfold col; congr 2; exact Fin.ext (Nat.mod_eq_of_lt (by omega))
  rw [hc]
  pointwise

theorem head_apply (w : FVec Ideal S32768x128 .f32) (R : Fin 32768) (h : Fin 1) (j : Fin 64) :
    ((shapeCast _ (extractStridedSlice S32768x64 ![0, 0] w slices_S32768x128_S32768x64_0_0) shapeCasts_S32768x64_S32768x1x64) : FVec Ideal S32768x1x64 .f32) (ix3 R h j) = side w R (h.val * 64 + j.val) := by
  have hc : side w R (h.val * 64 + j.val) = w (ix2 R ⟨j.val, by omega⟩) := by
    unfold side; congr 2; exact Fin.ext (show _ % 128 = j.val by omega)
  rw [hc]
  pointwise

theorem scaled_apply (W : FVec Ideal S32768x8x64 .f32) (R : Fin 32768) (n : Fin 512) :
    (shapeCast S32768x512 (truncf .bf16 (mulf (extf .f32 (truncf .bf16 W bitsLt_bf16_f32) bitsLt_bf16_f32) (broadcastInDim S32768x8x64 ![] bcast_S_S32768x8x64 (constant S_ .f32 0x3E38AA3B#32))) bitsLt_bf16_f32) shapeCasts_S32768x8x64_S32768x512 : FVec Ideal S32768x512 .bf16) (ix2 R n)
      = W (ix3 R ⟨n.val / 64, by omega⟩ ⟨n.val % 64, by omega⟩) * Ideal.ofBits .f32 0x3E38AA3B#32 := by
  pointwise

theorem plain_apply (W : FVec Ideal S32768x8x64 .f32) (R : Fin 32768) (n : Fin 512) :
    (shapeCast S32768x512 (truncf .bf16 W bitsLt_bf16_f32) shapeCasts_S32768x8x64_S32768x512 : FVec Ideal S32768x512 .bf16) (ix2 R n)
      = W (ix3 R ⟨n.val / 64, by omega⟩ ⟨n.val % 64, by omega⟩) := by
  pointwise

theorem weighted_apply (W : FVec Ideal S32768x8x64 .f32) (w : FVec Ideal S32768x128 .f32) (R : Fin 32768) (n : Fin 512) :
    (shapeCast S32768x512 (truncf .bf16 (mulf (extf .f32 (truncf .bf16 W bitsLt_bf16_f32) bitsLt_bf16_f32) (broadcastInDim S32768x8x64 ![0, 1, 2] bcast_S32768x8x1_S32768x8x64_0_1_2 (broadcastInDim S32768x8x1 ![0, 1] bcast_S32768x8_S32768x8x1_0_1 (mulf (Host.absf (extractStridedSlice S32768x8 ![0, 72] w slices_S32768x128_S32768x8_0_72)) (broadcastInDim S32768x8 ![] bcast_S_S32768x8 (constant S_ .f32 0x3D3504F3#32)))))) bitsLt_bf16_f32) shapeCasts_S32768x8x64_S32768x512 : FVec Ideal S32768x512 .bf16) (ix2 R n)
      = W (ix3 R ⟨n.val / 64, by omega⟩ ⟨n.val % 64, by omega⟩) * (FloatOps.absf (F := Ideal) (φ := .f32) (side w R (72 + n.val / 64)) * Ideal.ofBits .f32 0x3D3504F3#32) := by
  have hc : side w R (72 + n.val / 64) = w (ix2 R ⟨72 + n.val / 64, by omega⟩) := by
    unfold side; congr 2; exact Fin.ext (Nat.mod_eq_of_lt (by omega))
  rw [hc]
  pointwise

/-- The reference's results. -/
theorem ref7 (p : FVec Ideal S32768x8192 .bf16) (cos sin : FVec Ideal S4x8192x32 .f32) :
    (shapeCast S32768x512 (truncf .bf16 (mulf (extf .f32 (truncf .bf16 (concatenate S32768x8x64 2 [⟨S32768x8x32, ((subf (mulf (extractStridedSlice S32768x8x32 ![0, 0, 0] (extf .f32 (shapeCast _ (extractStridedSlice S32768x512 ![0, 3072] p slices_S32768x8192_S32768x512_0_3072) shapeCasts_S32768x512_S32768x8x64) bitsLt_bf16_f32) slices_S32768x8x64_S32768x8x32_0_0_0) (broadcastInDim S32768x8x32 ![0, 1, 2] bcast_S32768x1x32_S32768x8x32_0_1_2 (broadcastInDim S32768x1x32 ![0, 2] bcast_S32768x32_S32768x1x32_0_2 (shapeCast _ cos shapeCasts_S4x8192x32_S32768x32)))) (mulf (extractStridedSlice S32768x8x32 ![0, 0, 32] (extf .f32 (shapeCast _ (extractStridedSlice S32768x512 ![0, 3072] p slices_S32768x8192_S32768x512_0_3072) shapeCasts_S32768x512_S32768x8x64) bitsLt_bf16_f32) slices_S32768x8x64_S32768x8x32_0_0_32) (broadcastInDim S32768x8x32 ![0, 1, 2] bcast_S32768x1x32_S32768x8x32_0_1_2 (broadcastInDim S32768x1x32 ![0, 2] bcast_S32768x32_S32768x1x32_0_2 (shapeCast _ sin shapeCasts_S4x8192x32_S32768x32))))) : (⟨S32768x8x32, .f32⟩ : BufTy).Contents (Elt Ideal))⟩, ⟨S32768x8x32, ((addf (mulf (extractStridedSlice S32768x8x32 ![0, 0, 32] (extf .f32 (shapeCast _ (extractStridedSlice S32768x512 ![0, 3072] p slices_S32768x8192_S32768x512_0_3072) shapeCasts_S32768x512_S32768x8x64) bitsLt_bf16_f32) slices_S32768x8x64_S32768x8x32_0_0_32) (broadcastInDim S32768x8x32 ![0, 1, 2] bcast_S32768x1x32_S32768x8x32_0_1_2 (broadcastInDim S32768x1x32 ![0, 2] bcast_S32768x32_S32768x1x32_0_2 (shapeCast _ cos shapeCasts_S4x8192x32_S32768x32)))) (mulf (extractStridedSlice S32768x8x32 ![0, 0, 0] (extf .f32 (shapeCast _ (extractStridedSlice S32768x512 ![0, 3072] p slices_S32768x8192_S32768x512_0_3072) shapeCasts_S32768x512_S32768x8x64) bitsLt_bf16_f32) slices_S32768x8x64_S32768x8x32_0_0_0) (broadcastInDim S32768x8x32 ![0, 1, 2] bcast_S32768x1x32_S32768x8x32_0_1_2 (broadcastInDim S32768x1x32 ![0, 2] bcast_S32768x32_S32768x1x32_0_2 (shapeCast _ sin shapeCasts_S4x8192x32_S32768x32))))) : (⟨S32768x8x32, .f32⟩ : BufTy).Contents (Elt Ideal))⟩] concatenates_S32768x8x32_S32768x8x32_S32768x8x64_d2 : FVec Ideal S32768x8x64 .f32) bitsLt_bf16_f32) bitsLt_bf16_f32) (broadcastInDim S32768x8x64 ![] bcast_S_S32768x8x64 (constant S_ .f32 0x3E38AA3B#32))) bitsLt_bf16_f32) shapeCasts_S32768x8x64_S32768x512 : FVec Ideal S32768x512 .bf16) = G7 p cos sin := by
  funext i
  obtain ⟨R, n, rfl⟩ : ∃ (R : Fin 32768) (n : Fin 512), i = ix2 R n := ⟨i 0, i 1, eq_ix2 i⟩
  refine (scaled_apply _ R n).trans (congrArg (· * Ideal.ofBits .f32 0x3E38AA3B#32) ?_)
  refine (rope_ref8 _ cos sin (fun n => col p R (3072 + n)) R _ _ fun i => heads3072_apply p R _ i).trans ?_
  exact congrArg (rope cos sin R _) (show n.val / 64 * 64 + n.val % 64 = n.val by omega)

theorem ref8 (p : FVec Ideal S32768x8192 .bf16) (cos sin : FVec Ideal S4x8192x32 .f32) :
    (shapeCast S32768x512 (truncf .bf16 (concatenate S32768x8x64 2 [⟨S32768x8x32, ((subf (mulf (extractStridedSlice S32768x8x32 ![0, 0, 0] (extf .f32 (shapeCast _ (extractStridedSlice S32768x512 ![0, 3584] p slices_S32768x8192_S32768x512_0_3584) shapeCasts_S32768x512_S32768x8x64) bitsLt_bf16_f32) slices_S32768x8x64_S32768x8x32_0_0_0) (broadcastInDim S32768x8x32 ![0, 1, 2] bcast_S32768x1x32_S32768x8x32_0_1_2 (broadcastInDim S32768x1x32 ![0, 2] bcast_S32768x32_S32768x1x32_0_2 (shapeCast _ cos shapeCasts_S4x8192x32_S32768x32)))) (mulf (extractStridedSlice S32768x8x32 ![0, 0, 32] (extf .f32 (shapeCast _ (extractStridedSlice S32768x512 ![0, 3584] p slices_S32768x8192_S32768x512_0_3584) shapeCasts_S32768x512_S32768x8x64) bitsLt_bf16_f32) slices_S32768x8x64_S32768x8x32_0_0_32) (broadcastInDim S32768x8x32 ![0, 1, 2] bcast_S32768x1x32_S32768x8x32_0_1_2 (broadcastInDim S32768x1x32 ![0, 2] bcast_S32768x32_S32768x1x32_0_2 (shapeCast _ sin shapeCasts_S4x8192x32_S32768x32))))) : (⟨S32768x8x32, .f32⟩ : BufTy).Contents (Elt Ideal))⟩, ⟨S32768x8x32, ((addf (mulf (extractStridedSlice S32768x8x32 ![0, 0, 32] (extf .f32 (shapeCast _ (extractStridedSlice S32768x512 ![0, 3584] p slices_S32768x8192_S32768x512_0_3584) shapeCasts_S32768x512_S32768x8x64) bitsLt_bf16_f32) slices_S32768x8x64_S32768x8x32_0_0_32) (broadcastInDim S32768x8x32 ![0, 1, 2] bcast_S32768x1x32_S32768x8x32_0_1_2 (broadcastInDim S32768x1x32 ![0, 2] bcast_S32768x32_S32768x1x32_0_2 (shapeCast _ cos shapeCasts_S4x8192x32_S32768x32)))) (mulf (extractStridedSlice S32768x8x32 ![0, 0, 0] (extf .f32 (shapeCast _ (extractStridedSlice S32768x512 ![0, 3584] p slices_S32768x8192_S32768x512_0_3584) shapeCasts_S32768x512_S32768x8x64) bitsLt_bf16_f32) slices_S32768x8x64_S32768x8x32_0_0_0) (broadcastInDim S32768x8x32 ![0, 1, 2] bcast_S32768x1x32_S32768x8x32_0_1_2 (broadcastInDim S32768x1x32 ![0, 2] bcast_S32768x32_S32768x1x32_0_2 (shapeCast _ sin shapeCasts_S4x8192x32_S32768x32))))) : (⟨S32768x8x32, .f32⟩ : BufTy).Contents (Elt Ideal))⟩] concatenates_S32768x8x32_S32768x8x32_S32768x8x64_d2 : FVec Ideal S32768x8x64 .f32) bitsLt_bf16_f32) shapeCasts_S32768x8x64_S32768x512 : FVec Ideal S32768x512 .bf16) = G8 p cos sin := by
  funext i
  obtain ⟨R, n, rfl⟩ : ∃ (R : Fin 32768) (n : Fin 512), i = ix2 R n := ⟨i 0, i 1, eq_ix2 i⟩
  refine (plain_apply _ R n).trans ?_
  refine (rope_ref8 _ cos sin (fun n => col p R (3584 + n)) R _ _ fun i => heads3584_apply p R _ i).trans ?_
  exact congrArg (rope cos sin R _) (show n.val / 64 * 64 + n.val % 64 = n.val by omega)

theorem ref9 (p : FVec Ideal S32768x8192 .bf16) (w : FVec Ideal S32768x128 .f32) (cos sin : FVec Ideal S4x8192x32 .f32) :
    (shapeCast S32768x512 (truncf .bf16 (mulf (extf .f32 (truncf .bf16 (concatenate S32768x8x64 2 [⟨S32768x8x32, ((subf (mulf (extractStridedSlice S32768x8x32 ![0, 0, 0] (extf .f32 (shapeCast _ (extractStridedSlice S32768x512 ![0, 4608] p slices_S32768x8192_S32768x512_0_4608) shapeCasts_S32768x512_S32768x8x64) bitsLt_bf16_f32) slices_S32768x8x64_S32768x8x32_0_0_0) (broadcastInDim S32768x8x32 ![0, 1, 2] bcast_S32768x1x32_S32768x8x32_0_1_2 (broadcastInDim S32768x1x32 ![0, 2] bcast_S32768x32_S32768x1x32_0_2 (shapeCast _ cos shapeCasts_S4x8192x32_S32768x32)))) (mulf (extractStridedSlice S32768x8x32 ![0, 0, 32] (extf .f32 (shapeCast _ (extractStridedSlice S32768x512 ![0, 4608] p slices_S32768x8192_S32768x512_0_4608) shapeCasts_S32768x512_S32768x8x64) bitsLt_bf16_f32) slices_S32768x8x64_S32768x8x32_0_0_32) (broadcastInDim S32768x8x32 ![0, 1, 2] bcast_S32768x1x32_S32768x8x32_0_1_2 (broadcastInDim S32768x1x32 ![0, 2] bcast_S32768x32_S32768x1x32_0_2 (shapeCast _ sin shapeCasts_S4x8192x32_S32768x32))))) : (⟨S32768x8x32, .f32⟩ : BufTy).Contents (Elt Ideal))⟩, ⟨S32768x8x32, ((addf (mulf (extractStridedSlice S32768x8x32 ![0, 0, 32] (extf .f32 (shapeCast _ (extractStridedSlice S32768x512 ![0, 4608] p slices_S32768x8192_S32768x512_0_4608) shapeCasts_S32768x512_S32768x8x64) bitsLt_bf16_f32) slices_S32768x8x64_S32768x8x32_0_0_32) (broadcastInDim S32768x8x32 ![0, 1, 2] bcast_S32768x1x32_S32768x8x32_0_1_2 (broadcastInDim S32768x1x32 ![0, 2] bcast_S32768x32_S32768x1x32_0_2 (shapeCast _ cos shapeCasts_S4x8192x32_S32768x32)))) (mulf (extractStridedSlice S32768x8x32 ![0, 0, 0] (extf .f32 (shapeCast _ (extractStridedSlice S32768x512 ![0, 4608] p slices_S32768x8192_S32768x512_0_4608) shapeCasts_S32768x512_S32768x8x64) bitsLt_bf16_f32) slices_S32768x8x64_S32768x8x32_0_0_0) (broadcastInDim S32768x8x32 ![0, 1, 2] bcast_S32768x1x32_S32768x8x32_0_1_2 (broadcastInDim S32768x1x32 ![0, 2] bcast_S32768x32_S32768x1x32_0_2 (shapeCast _ sin shapeCasts_S4x8192x32_S32768x32))))) : (⟨S32768x8x32, .f32⟩ : BufTy).Contents (Elt Ideal))⟩] concatenates_S32768x8x32_S32768x8x32_S32768x8x64_d2 : FVec Ideal S32768x8x64 .f32) bitsLt_bf16_f32) bitsLt_bf16_f32) (broadcastInDim S32768x8x64 ![0, 1, 2] bcast_S32768x8x1_S32768x8x64_0_1_2 (broadcastInDim S32768x8x1 ![0, 1] bcast_S32768x8_S32768x8x1_0_1 (mulf (Host.absf (extractStridedSlice S32768x8 ![0, 72] w slices_S32768x128_S32768x8_0_72)) (broadcastInDim S32768x8 ![] bcast_S_S32768x8 (constant S_ .f32 0x3D3504F3#32)))))) bitsLt_bf16_f32) shapeCasts_S32768x8x64_S32768x512 : FVec Ideal S32768x512 .bf16) = G9 p w cos sin := by
  funext i
  obtain ⟨R, n, rfl⟩ : ∃ (R : Fin 32768) (n : Fin 512), i = ix2 R n := ⟨i 0, i 1, eq_ix2 i⟩
  refine (weighted_apply _ w R n).trans (congrArg (· * (FloatOps.absf (F := Ideal) (φ := .f32) (side w R (72 + n.val / 64)) * Ideal.ofBits .f32 0x3D3504F3#32)) ?_)
  refine (rope_ref8 _ cos sin (fun n => col p R (4608 + n)) R _ _ fun i => heads4608_apply p R _ i).trans ?_
  exact congrArg (rope cos sin R _) (show n.val / 64 * 64 + n.val % 64 = n.val by omega)

theorem ref11 (p : FVec Ideal S32768x8192 .bf16) :
    (shapeCast S128x640x256 (concatenate S128x8x80x256 2 [⟨S128x8x64x256, ((transpose S128x8x64x256 [0, 2, 3, 1] (shapeCast _ (extractStridedSlice S32768x512 ![0, 4096] p slices_S32768x8192_S32768x512_0_4096) shapeCasts_S32768x512_S128x256x8x64) transposes_S128x256x8x64_S128x8x64x256_0_2_3_1) : (⟨S128x8x64x256, .bf16⟩ : BufTy).Contents (Elt Ideal))⟩, ⟨S128x8x16x256, ((broadcastInDim S128x8x16x256 ![] bcast_S_S128x8x16x256 (constant S_ .bf16 0x3F80#16) : FVec Ideal S128x8x16x256 .bf16) : (⟨S128x8x16x256, .bf16⟩ : BufTy).Contents (Elt Ideal))⟩] concatenates_S128x8x64x256_S128x8x16x256_S128x8x80x256_d2 : FVec Ideal S128x8x80x256 .bf16) shapeCasts_S128x8x80x256_S128x640x256 : FVec Ideal S128x640x256 .bf16) = G11 p := by
  funext i
  obtain ⟨a, r, k, rfl⟩ : ∃ (a : Fin 128) (r : Fin 640) (k : Fin 256), i = ix3 a r k := ⟨i 0, i 1, i 2, eq_ix3 i⟩
  pointwise [G11]
  by_cases h : r.val % 80 < 64
  · rw [dif_pos h]
    refine Eq.trans ?_ (if_pos h).symm
    unfold col
    congr 2
    exact Fin.ext (show 4096 + (r.val / 80 * 64 + r.val % 80) = (4096 + r.val / 80 * 64 + r.val % 80) % 8192 by omega)
  · rw [dif_neg h]
    exact (if_neg h).symm

theorem pads_apply (W : FVec Ideal S32768x1x64 .f32) (R : Fin 32768) (n : Fin 256) :
    (truncf .bf16 ((concatenate S32768x256 1 [⟨S32768x64, ((shapeCast _ (W) shapeCasts_S32768x1x64_S32768x64) : (⟨S32768x64, .f32⟩ : BufTy).Contents (Elt Ideal))⟩, ⟨S32768x64, ((broadcastInDim S32768x64 ![] bcast_S_S32768x64 (constant S_ .f32 0x00000000#32) : FVec Ideal S32768x64 .f32) : (⟨S32768x64, .f32⟩ : BufTy).Contents (Elt Ideal))⟩, ⟨S32768x64, ((broadcastInDim S32768x64 ![] bcast_S_S32768x64 (constant S_ .f32 0x00000000#32) : FVec Ideal S32768x64 .f32) : (⟨S32768x64, .f32⟩ : BufTy).Contents (Elt Ideal))⟩, ⟨S32768x64, ((shapeCast _ (W) shapeCasts_S32768x1x64_S32768x64) : (⟨S32768x64, .f32⟩ : BufTy).Contents (Elt Ideal))⟩] concatenates_S32768x64_S32768x64_S32768x64_S32768x64_S32768x256_d1 : (⟨S32768x256, .f32⟩ : BufTy).Contents (Elt Ideal))) bitsLt_bf16_f32 : FVec Ideal S32768x256 .bf16) (ix2 R n)
      = if h : n.val < 64 then W (ix3 R 0 ⟨n.val, h⟩) else if h' : n.val < 192 then Ideal.ofBits .f32 0x00000000#32 else W (ix3 R 0 ⟨n.val - 192, by omega⟩) := by
  pointwise
  by_cases h : n.val < 64
  · rw [dif_pos h]
    exact (dif_pos (c := n.val < 64) (t := fun h => W (ix3 R 0 ⟨n.val, h⟩)) h).symm
  · rw [dif_neg h]
    refine Eq.trans ?_ (dif_neg (c := n.val < 64) (t := fun h => W (ix3 R 0 ⟨n.val, h⟩)) h).symm
    by_cases h1 : n.val < 192
    · refine Eq.trans ?_ (dif_pos h1).symm
      by_cases h2 : n.val - 64 < 64
      · exact dif_pos h2
      · exact (dif_neg h2).trans (dif_pos (by omega))
    · refine Eq.trans ?_ (dif_neg (c := n.val < 192) (e := fun h => W (ix3 R 0 ⟨n.val - 192, by omega⟩)) h1).symm
      refine (dif_neg (by omega)).trans ((dif_neg (by omega)).trans (congrArg (fun i => W (ix3 R 0 i)) (Fin.ext ?_)))
      show n.val - 64 - 64 - 64 = n.val - 192
      omega

theorem ref10 (w : FVec Ideal S32768x128 .f32) (cos sin : FVec Ideal S4x8192x32 .f32) :
    (truncf .bf16 ((concatenate S32768x256 1 [⟨S32768x64, ((shapeCast _ (concatenate S32768x1x64 2 [⟨S32768x1x32, ((subf (mulf (extractStridedSlice S32768x1x32 ![0, 0, 0] (shapeCast _ (extractStridedSlice S32768x64 ![0, 0] w slices_S32768x128_S32768x64_0_0) shapeCasts_S32768x64_S32768x1x64) slices_S32768x1x64_S32768x1x32_0_0_0) (broadcastInDim S32768x1x32 ![0, 2] bcast_S32768x32_S32768x1x32_0_2 (shapeCast _ cos shapeCasts_S4x8192x32_S32768x32))) (mulf (extractStridedSlice S32768x1x32 ![0, 0, 32] (shapeCast _ (extractStridedSlice S32768x64 ![0, 0] w slices_S32768x128_S32768x64_0_0) shapeCasts_S32768x64_S32768x1x64) slices_S32768x1x64_S32768x1x32_0_0_32) (broadcastInDim S32768x1x32 ![0, 2] bcast_S32768x32_S32768x1x32_0_2 (shapeCast _ sin shapeCasts_S4x8192x32_S32768x32)))) : (⟨S32768x1x32, .f32⟩ : BufTy).Contents (Elt Ideal))⟩, ⟨S32768x1x32, ((addf (mulf (extractStridedSlice S32768x1x32 ![0, 0, 32] (shapeCast _ (extractStridedSlice S32768x64 ![0, 0] w slices_S32768x128_S32768x64_0_0) shapeCasts_S32768x64_S32768x1x64) slices_S32768x1x64_S32768x1x32_0_0_32) (broadcastInDim S32768x1x32 ![0, 2] bcast_S32768x32_S32768x1x32_0_2 (shapeCast _ cos shapeCasts_S4x8192x32_S32768x32))) (mulf (extractStridedSlice S32768x1x32 ![0, 0, 0] (shapeCast _ (extractStridedSlice S32768x64 ![0, 0] w slices_S32768x128_S32768x64_0_0) shapeCasts_S32768x64_S32768x1x64) slices_S32768x1x64_S32768x1x32_0_0_0) (broadcastInDim S32768x1x32 ![0, 2] bcast_S32768x32_S32768x1x32_0_2 (shapeCast _ sin shapeCasts_S4x8192x32_S32768x32)))) : (⟨S32768x1x32, .f32⟩ : BufTy).Contents (Elt Ideal))⟩] concatenates_S32768x1x32_S32768x1x32_S32768x1x64_d2) shapeCasts_S32768x1x64_S32768x64) : (⟨S32768x64, .f32⟩ : BufTy).Contents (Elt Ideal))⟩, ⟨S32768x64, ((broadcastInDim S32768x64 ![] bcast_S_S32768x64 (constant S_ .f32 0x00000000#32) : FVec Ideal S32768x64 .f32) : (⟨S32768x64, .f32⟩ : BufTy).Contents (Elt Ideal))⟩, ⟨S32768x64, ((broadcastInDim S32768x64 ![] bcast_S_S32768x64 (constant S_ .f32 0x00000000#32) : FVec Ideal S32768x64 .f32) : (⟨S32768x64, .f32⟩ : BufTy).Contents (Elt Ideal))⟩, ⟨S32768x64, ((shapeCast _ (concatenate S32768x1x64 2 [⟨S32768x1x32, ((subf (mulf (extractStridedSlice S32768x1x32 ![0, 0, 0] (shapeCast _ (extractStridedSlice S32768x64 ![0, 0] w slices_S32768x128_S32768x64_0_0) shapeCasts_S32768x64_S32768x1x64) slices_S32768x1x64_S32768x1x32_0_0_0) (broadcastInDim S32768x1x32 ![0, 2] bcast_S32768x32_S32768x1x32_0_2 (shapeCast _ cos shapeCasts_S4x8192x32_S32768x32))) (mulf (extractStridedSlice S32768x1x32 ![0, 0, 32] (shapeCast _ (extractStridedSlice S32768x64 ![0, 0] w slices_S32768x128_S32768x64_0_0) shapeCasts_S32768x64_S32768x1x64) slices_S32768x1x64_S32768x1x32_0_0_32) (broadcastInDim S32768x1x32 ![0, 2] bcast_S32768x32_S32768x1x32_0_2 (shapeCast _ sin shapeCasts_S4x8192x32_S32768x32)))) : (⟨S32768x1x32, .f32⟩ : BufTy).Contents (Elt Ideal))⟩, ⟨S32768x1x32, ((addf (mulf (extractStridedSlice S32768x1x32 ![0, 0, 32] (shapeCast _ (extractStridedSlice S32768x64 ![0, 0] w slices_S32768x128_S32768x64_0_0) shapeCasts_S32768x64_S32768x1x64) slices_S32768x1x64_S32768x1x32_0_0_32) (broadcastInDim S32768x1x32 ![0, 2] bcast_S32768x32_S32768x1x32_0_2 (shapeCast _ cos shapeCasts_S4x8192x32_S32768x32))) (mulf (extractStridedSlice S32768x1x32 ![0, 0, 0] (shapeCast _ (extractStridedSlice S32768x64 ![0, 0] w slices_S32768x128_S32768x64_0_0) shapeCasts_S32768x64_S32768x1x64) slices_S32768x1x64_S32768x1x32_0_0_0) (broadcastInDim S32768x1x32 ![0, 2] bcast_S32768x32_S32768x1x32_0_2 (shapeCast _ sin shapeCasts_S4x8192x32_S32768x32)))) : (⟨S32768x1x32, .f32⟩ : BufTy).Contents (Elt Ideal))⟩] concatenates_S32768x1x32_S32768x1x32_S32768x1x64_d2) shapeCasts_S32768x1x64_S32768x64) : (⟨S32768x64, .f32⟩ : BufTy).Contents (Elt Ideal))⟩] concatenates_S32768x64_S32768x64_S32768x64_S32768x64_S32768x256_d1 : (⟨S32768x256, .f32⟩ : BufTy).Contents (Elt Ideal))) bitsLt_bf16_f32 : FVec Ideal S32768x256 .bf16) = G10 w cos sin := by
  funext i
  obtain ⟨R, n, rfl⟩ : ∃ (R : Fin 32768) (n : Fin 256), i = ix2 R n := ⟨i 0, i 1, eq_ix2 i⟩
  refine (pads_apply _ R n).trans ?_
  show _ = if n.val < 64 then rope cos sin R (side w R) n.val
    else if n.val < 192 then Ideal.ofBits .f32 0x00000000#32 else rope cos sin R (side w R) (n.val - 192)
  split
  · exact (rope_ref1 _ cos sin (side w R) R _ _ fun i => head_apply w R _ i).trans (congrArg (rope cos sin R _) (show 0 * 64 + n.val = n.val by omega))
  · split
    · rfl
    · exact (rope_ref1 _ cos sin (side w R) R _ _ fun i => head_apply w R _ i).trans (congrArg (rope cos sin R _) (show 0 * 64 + (n.val - 192) = n.val - 192 by omega))

end Cert.Proof.Prep

end
-- ==== Proof.PrepValue.lean ====
module

public import proofs.«01_k».proof.Defs
public import proofs.«01_k».proof.Proof.Gen.PrepIdeal.Value
public import proofs.«01_k».proof.Proof.Gen.PrepRefIdeal.Run
public import proofs.«01_k».proof.Proof.PrepV
public import proofs.«01_k».proof.Proof.PrepStrips
public import proofs.«01_k».proof.Proof.PrepRef
public import Idealize.ShloMosaic.Lib.Quiescent

/-! # The sparse attention's arguments: the kernel's five results are the reference's five -/

@[expose] public section

set_option maxRecDepth 16384

noncomputable section

namespace Cert.Proof.Prep

open Idealize.ShloMosaic Idealize.ShloMosaic.TcCoe Idealize.SL.Sem
open Idealize.ShloMosaic.Pipeline (Dat)
open Cert.PrepIdeal Cert.PrepIdeal.Gen

/-- The two programs end with equal results over the extended reals. -/
theorem algebraic : Cert.algebraic_PrepIdeal_PrepRefIdeal := by
  intro m g m' g' _ hm
  refine ⟨fun c => G7 (m ((c : Thread nD τ).loc main_arg0)) (m ((c : Thread nD τ).loc main_arg2)) (m ((c : Thread nD τ).loc main_arg3)),
    fun c => G8 (m ((c : Thread nD τ).loc main_arg0)) (m ((c : Thread nD τ).loc main_arg2)) (m ((c : Thread nD τ).loc main_arg3)),
    fun c => G9 (m ((c : Thread nD τ).loc main_arg0)) (m ((c : Thread nD τ).loc main_arg1)) (m ((c : Thread nD τ).loc main_arg2)) (m ((c : Thread nD τ).loc main_arg3)),
    fun c => G10 (m ((c : Thread nD τ).loc main_arg1)) (m ((c : Thread nD τ).loc main_arg2)) (m ((c : Thread nD τ).loc main_arg3)),
    fun c => G11 (m ((c : Thread nD τ).loc main_arg0)),
    (θ_run _ _ _).mono (fun r h c => ⟨(h c).1.trans (final7 m c), (h c).2.1.trans (final8 m c), (h c).2.2.1.trans (final9 m c),
      (h c).2.2.2.1.trans (final10 m c), (h c).2.2.2.2.1.trans (final11 m c), (h c).2.2.2.2.2⟩) (Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.PrepRefIdeal.Value.run m' g')⟩
  all_goals obtain ⟨h0, h1, h2, h3⟩ := hm c
  · rw [h0, h2, h3]
    exact ref7 _ _ _
  · rw [h0, h2, h3]
    exact ref8 _ _ _
  · rw [h0, h1, h2, h3]
    exact ref9 _ _ _ _
  · unfold Cert.PrepRefIdeal.Value.res_main_v97
    rw [h1, h2, h3]
    exact ref10 _ _ _
  · rw [h0]
    exact ref11 _

end Cert.Proof.Prep

end
-- ==== Proof.lean ====
/- The proof of the claims that the statement states: each program's facts, its frame, and for each pair of a kernel and its
   reference the equality of their results over the extended reals. -/
module

public import proofs.«01_k».proof.Defs
public import proofs.«01_k».proof.Proof.Gen.Kernel
public import proofs.«01_k».proof.Proof.DsaFrame
public import proofs.«01_k».proof.Proof.Gen.InMain.Frame
public import proofs.«01_k».proof.Proof.Gen.InMainIdeal.Value
public import proofs.«01_k».proof.Proof.Gen.InMainRefIdeal.Run
public import proofs.«01_k».proof.Proof.InMainValue
public import proofs.«01_k».proof.Proof.Gen.InSide.Frame
public import proofs.«01_k».proof.Proof.Gen.InSideIdeal.Value
public import proofs.«01_k».proof.Proof.Gen.InSideRefIdeal.Run
public import proofs.«01_k».proof.Proof.InSideValue
public import proofs.«01_k».proof.Proof.Gen.Merge.Frame
public import proofs.«01_k».proof.Proof.Gen.MergeIdeal.Value
public import proofs.«01_k».proof.Proof.Gen.MergeRefIdeal.Run
public import proofs.«01_k».proof.Proof.MergeValue
public import proofs.«01_k».proof.Proof.Gen.FfnUp.Frame
public import proofs.«01_k».proof.Proof.Gen.FfnUpIdeal.Value
public import proofs.«01_k».proof.Proof.Gen.FfnUpRefIdeal.Run
public import proofs.«01_k».proof.Proof.FfnUpValue
public import proofs.«01_k».proof.Proof.Gen.FfnDown.Frame
public import proofs.«01_k».proof.Proof.Gen.FfnDownIdeal.Value
public import proofs.«01_k».proof.Proof.Gen.FfnDownRefIdeal.Run
public import proofs.«01_k».proof.Proof.FfnDownValue
public import proofs.«01_k».proof.Proof.Gen.FinalNorm.Frame
public import proofs.«01_k».proof.Proof.Gen.FinalNormIdeal.Value
public import proofs.«01_k».proof.Proof.Gen.FinalNormRefIdeal.Run
public import proofs.«01_k».proof.Proof.FinalNormValue
public import proofs.«01_k».proof.Proof.Gen.Rope.Frame
public import proofs.«01_k».proof.Proof.Gen.RopeIdeal.Value
public import proofs.«01_k».proof.Proof.Gen.RopeRefIdeal.Run
public import proofs.«01_k».proof.Proof.RopeValue
public import proofs.«01_k».proof.Proof.Gen.Prep.Frame
public import proofs.«01_k».proof.Proof.Gen.PrepIdeal.Value
public import proofs.«01_k».proof.Proof.Gen.PrepRefIdeal.Run
public import proofs.«01_k».proof.Proof.PrepValue
public import proofs.«01_k».proof.Proof.Gen.Mlstm.Frame
public import proofs.«01_k».proof.Proof.Gen.MlstmIdeal.Frame
public import proofs.«01_k».proof.Proof.Gen.Rglru.Frame
public import proofs.«01_k».proof.Proof.Gen.RglruIdeal.Frame
public import Idealize.ShloMosaic.Adequacy
public import Idealize.ShloMosaic.Init
public import Idealize.ShloMosaic.Lib.Quiescent

@[expose] public section

noncomputable section

namespace Cert.Proof

open Idealize.ShloMosaic Idealize.SL.Sem

theorem claim : Cert.Claim :=
  ⟨Cert.Kernel.Gen.facts,
    Cert.InMain.Gen.facts,
    Cert.InMainIdeal.Gen.facts,
    Cert.InMainRefIdeal.Gen.facts,
    Cert.InSide.Gen.facts,
    Cert.InSideIdeal.Gen.facts,
    Cert.InSideRefIdeal.Gen.facts,
    Cert.Merge.Gen.facts,
    Cert.MergeIdeal.Gen.facts,
    Cert.MergeRefIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.FinalNorm.Gen.facts,
    Cert.FinalNormIdeal.Gen.facts,
    Cert.FinalNormRefIdeal.Gen.facts,
    Cert.Rope.Gen.facts,
    Cert.RopeIdeal.Gen.facts,
    Cert.RopeRefIdeal.Gen.facts,
    Cert.Prep.Gen.facts,
    Cert.PrepIdeal.Gen.facts,
    Cert.PrepRefIdeal.Gen.facts,
    Cert.Mlstm.Gen.facts,
    Cert.MlstmIdeal.Gen.facts,
    Cert.Rglru.Gen.facts,
    Cert.RglruIdeal.Gen.facts,
    fun m ρ _ => Cert.Proof.Kernel.frame m ρ,
    fun m ρ _ => Cert.InMain.Gen.frame m ρ,
    fun m ρ _ => Cert.InMainIdeal.Gen.frame m ρ,
    fun m ρ _ => (θ_run _ _ _).mono (fun _ h => ⟨fun c => (h c).2, sem_eq_zero_of_no_sems rfl _⟩) (Cert.InMainRefIdeal.Value.run m ρ),
    fun m ρ _ => Cert.InSide.Gen.frame m ρ,
    fun m ρ _ => Cert.InSideIdeal.Gen.frame m ρ,
    fun m ρ _ => (θ_run _ _ _).mono (fun _ h => ⟨fun c => (h c).2, sem_eq_zero_of_no_sems rfl _⟩) (Cert.InSideRefIdeal.Value.run m ρ),
    fun m ρ _ => Cert.Merge.Gen.frame m ρ,
    fun m ρ _ => Cert.MergeIdeal.Gen.frame m ρ,
    fun m ρ _ => (θ_run _ _ _).mono (fun _ h => ⟨fun c => (h c).2, sem_eq_zero_of_no_sems rfl _⟩) (Cert.MergeRefIdeal.Value.run m ρ),
    fun m ρ _ => Cert.FfnUp.Gen.frame m ρ,
    fun m ρ _ => Cert.FfnUpIdeal.Gen.frame m ρ,
    fun m ρ _ => (θ_run _ _ _).mono (fun _ h => ⟨fun c => (h c).2, sem_eq_zero_of_no_sems rfl _⟩) (Cert.FfnUpRefIdeal.Value.run m ρ),
    fun m ρ _ => Cert.FfnDown.Gen.frame m ρ,
    fun m ρ _ => Cert.FfnDownIdeal.Gen.frame m ρ,
    fun m ρ _ => (θ_run _ _ _).mono (fun _ h => ⟨fun c => (h c).2, sem_eq_zero_of_no_sems rfl _⟩) (Cert.FfnDownRefIdeal.Value.run m ρ),
    fun m ρ _ => Cert.FinalNorm.Gen.frame m ρ,
    fun m ρ _ => Cert.FinalNormIdeal.Gen.frame m ρ,
    fun m ρ _ => (θ_run _ _ _).mono (fun _ h => ⟨fun c => (h c).2, sem_eq_zero_of_no_sems rfl _⟩) (Cert.FinalNormRefIdeal.Value.run m ρ),
    fun m ρ _ => Cert.Rope.Gen.frame m ρ,
    fun m ρ _ => Cert.RopeIdeal.Gen.frame m ρ,
    fun m ρ _ => (θ_run _ _ _).mono (fun _ h => ⟨fun c => (h c).2.2, sem_eq_zero_of_no_sems rfl _⟩) (Cert.RopeRefIdeal.Value.run m ρ),
    fun m ρ _ => Cert.Prep.Gen.frame m ρ,
    fun m ρ _ => Cert.PrepIdeal.Gen.frame m ρ,
    fun m ρ _ => (θ_run _ _ _).mono (fun _ h => ⟨fun c => (h c).2.2.2.2.2, sem_eq_zero_of_no_sems rfl _⟩) (Cert.PrepRefIdeal.Value.run m ρ),
    fun m ρ _ => Cert.Mlstm.Gen.frame m ρ,
    fun m ρ _ => Cert.MlstmIdeal.Gen.frame m ρ,
    fun m ρ _ => Cert.Rglru.Gen.frame m ρ,
    fun m ρ _ => Cert.RglruIdeal.Gen.frame m ρ,
    trivial,
    InMain.algebraic,
    trivial,
    InSide.algebraic,
    trivial,
    Merge.algebraic,
    trivial,
    FfnUp.algebraic,
    trivial,
    FfnDown.algebraic,
    trivial,
    FinalNorm.algebraic,
    trivial,
    Rope.algebraic,
    trivial,
    Prep.algebraic,
    trivial,
    trivial⟩

end Cert.Proof

end
